-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v70_2)) (v3 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_v84) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v69) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_v52) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x1024 : Shape := ⟨2, ![8192, 1024]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x1024 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S8192x16 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_v13 main_v16
-- ==== Kernel.lean ====
abbrev S8192x1024 : Shape := ⟨2, ![8192, 1024]⟩
abbrev S8192x16 : Shape := ⟨2, ![8192, 16]⟩
abbrev S8192x16x64 : Shape := ⟨3, ![8192, 16, 64]⟩
abbrev S16x8192 : Shape := ⟨2, ![16, 8192]⟩
abbrev S8192 : Shape := ⟨1, ![8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S8192x3072 : Shape := ⟨2, ![8192, 3072]⟩
abbrev S16x8192x58 : Shape := ⟨3, ![16, 8192, 58]⟩
abbrev S16x8192x64 : Shape := ⟨3, ![16, 8192, 64]⟩
abbrev S16x8192x128 : Shape := ⟨3, ![16, 8192, 128]⟩
abbrev S2x8192x128 : Shape := ⟨3, ![2, 8192, 128]⟩
abbrev S2x512x128 : Shape := ⟨3, ![2, 512, 128]⟩
abbrev S512x128 : Shape := ⟨2, ![512, 128]⟩
abbrev S8192x128 : Shape := ⟨2, ![8192, 128]⟩
abbrev S2x1x8192 : Shape := ⟨3, ![2, 1, 8192]⟩
abbrev S512x512 : Shape := ⟨2, ![512, 512]⟩
abbrev S1x512x128 : Shape := ⟨3, ![1, 512, 128]⟩
abbrev S1x1x512 : Shape := ⟨3, ![1, 1, 512]⟩
abbrev S1x512 : Shape := ⟨2, ![1, 512]⟩

abbrev nBuf : Space → Nat
  | .hbm => 104
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S16x8192, .f32⟩
  | .hbm, ⟨8, _⟩ => ⟨S8192, .i32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x8192x1, .f32⟩
  | .hbm, ⟨14, _⟩ => ⟨S16x8192x8192, .f32⟩
  | .hbm, ⟨15, _⟩ => ⟨S16x8192x8192, .f32⟩
  | .hbm, ⟨16, _⟩ => ⟨S16x1x8192, .f32⟩
  | .hbm, ⟨17, _⟩ => ⟨S16x8192x8192, .f32⟩
  | .hbm, ⟨18, _⟩ => ⟨S16x8192x8192, .f32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x1, .f32⟩
  | .hbm, ⟨39, _⟩ => ⟨S16x8192x1, .f32⟩
  | .hbm, ⟨40, _⟩ => ⟨S16x8192, .f32⟩
  | .hbm, ⟨41, _⟩ => ⟨S16x8192x8192, .f32⟩
  | .hbm, ⟨42, _⟩ => ⟨S16x8192x8192, .f32⟩
  | .hbm, ⟨43, _⟩ => ⟨S8192x16x64, .f32⟩
  | .hbm, ⟨44, _⟩ => ⟨S16x64x8192, .f32⟩
  | .hbm, ⟨45, _⟩ => ⟨S8192x16x64, .f32⟩
  | .hbm, ⟨46, _⟩ => ⟨S8192x16x64, .f32⟩
  | .hbm, ⟨47, _⟩ => ⟨S8192x16x64, .f32⟩
  | .hbm, ⟨48, _⟩ => ⟨S_, .f32⟩
  | .hbm, ⟨49, _⟩ => ⟨S8192x16, .f32⟩
  | .hbm, ⟨50, _⟩ => ⟨S16x8192, .f32⟩
  | .hbm, ⟨51, _⟩ => ⟨S8192x3072, .f32⟩
  | .hbm, ⟨52, _⟩ => ⟨S8192x3072, .bf16⟩
  | .hbm, ⟨53, _⟩ => ⟨S16x8192, .f32⟩
  | .hbm, ⟨54, _⟩ => ⟨S16x8192x1, .f32⟩
  | .hbm, ⟨55, _⟩ => ⟨S16x8192x1, .bf16⟩
  | .hbm, ⟨56, _⟩ => ⟨S16x8192x1, .f32⟩
  | .hbm, ⟨57, _⟩ => ⟨S16x8192x1, .f32⟩
  | .hbm, ⟨58, _⟩ => ⟨S16x8192x1, .bf16⟩
  | .hbm, ⟨59, _⟩ => ⟨S16x8192x1, .f32⟩
  | .hbm, ⟨60, _⟩ => ⟨S16x8192x1, .f32⟩
  | .hbm, ⟨61, _⟩ => ⟨S16x8192x1, .bf16⟩
  | .hbm, ⟨62, _⟩ => ⟨S16x8192x1, .f32⟩
  | .hbm, ⟨63, _⟩ => ⟨S16x8192x1, .f32⟩
  | .hbm, ⟨64, _⟩ => ⟨S16x8192x1, .f32⟩
  | .hbm, ⟨65, _⟩ => ⟨S_, .f32⟩
  | .hbm, ⟨66, _⟩ => ⟨S16x8192x1, .f32⟩
  | .hbm, ⟨67, _⟩ => ⟨S_, .f32⟩
  | .hbm, ⟨68, _⟩ => ⟨S16x8192x58, .f32⟩
  | .hbm, ⟨69, _⟩ => ⟨S8192x16x64, .f32⟩
  | .hbm, ⟨70, _⟩ => ⟨S16x8192x64, .f32⟩
  | .hbm, ⟨71, _⟩ => ⟨S_, .f32⟩
  | .hbm, ⟨72, _⟩ => ⟨S16x8192x64, .f32⟩
  | .hbm, ⟨73, _⟩ => ⟨S16x8192x64, .f32⟩
  | .hbm, ⟨74, _⟩ => ⟨S8192x16x64, .f32⟩
  | .hbm, ⟨75, _⟩ => ⟨S16x8192x64, .f32⟩
  | .hbm, ⟨76, _⟩ => ⟨S16x8192x128, .f32⟩
  | .hbm, ⟨77, _⟩ => ⟨S16x8192x128, .bf16⟩
  | .hbm, ⟨78, _⟩ => ⟨S16x8192x1, .f32⟩
  | .hbm, ⟨79, _⟩ => ⟨S16x8192x1, .f32⟩
  | .hbm, ⟨80, _⟩ => ⟨S16x8192x1, .f32⟩
  | .hbm, ⟨81, _⟩ => ⟨S16x8192x128, .f32⟩
  | .hbm, ⟨82, _⟩ => ⟨S16x8192x128, .bf16⟩
  | .hbm, ⟨83, _⟩ => ⟨S8192x1024, .bf16⟩
  | .hbm, ⟨84, _⟩ => ⟨S16x1x8192, .f32⟩
  | .hbm, ⟨85, _⟩ => ⟨S16x1x8192, .f32⟩
  | .hbm, ⟨86, _⟩ => ⟨S16x8192x128, .f32⟩
  | .hbm, ⟨87, _⟩ => ⟨S16x8192x128, .f32⟩
  | .hbm, ⟨88, _⟩ => ⟨S8192x1024, .bf16⟩
  | .hbm, ⟨89, _⟩ => ⟨S16x8192x64, .f32⟩
  | .hbm, ⟨90, _⟩ => ⟨S_, .f32⟩
  | .hbm, ⟨91, _⟩ => ⟨S16x8192x64, .f32⟩
  | .hbm, ⟨92, _⟩ => ⟨S16x8192x64, .f32⟩
  | .hbm, ⟨93, _⟩ => ⟨S8192x16x64, .f32⟩
  | .hbm, ⟨94, _⟩ => ⟨S8192x1024, .f32⟩
  | .hbm, ⟨95, _⟩ => ⟨S16x8192x64, .f32⟩
  | .hbm, ⟨96, _⟩ => ⟨S8192x16x64, .f32⟩
  | .hbm, ⟨97, _⟩ => ⟨S8192x1024, .f32⟩
  | .hbm, ⟨98, _⟩ => ⟨S16x8192x1, .f32⟩
  | .hbm, ⟨99, _⟩ => ⟨S16x8192, .f32⟩
  | .hbm, ⟨100, _⟩ => ⟨S16x8192x1, .f32⟩
  | .hbm, ⟨101, _⟩ => ⟨S16x8192, .f32⟩
  | .hbm, ⟨102, _⟩ => ⟨S16x8192, .f32⟩
  | .hbm, ⟨103, _⟩ => ⟨S8192x16, .f32⟩
  | .local _ .vmem, ⟨0, _⟩ => ⟨S2x8192x128, .bf16⟩
  | .local _ .vmem, ⟨1, _⟩ => ⟨S2x8192x128, .bf16⟩
  | .local _ .vmem, ⟨2, _⟩ => ⟨S2x512x128, .bf16⟩
  | .local _ .vmem, ⟨3, _⟩ => ⟨S2x512x128, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S2x1x8192, .f32⟩
  | .local _ .vmem, ⟨9, _⟩ => ⟨S2x1x8192, .f32⟩
  | .local _ .vmem, ⟨10, _⟩ => ⟨S2x1x8192, .f32⟩
  | .local _ .vmem, ⟨11, _⟩ => ⟨S2x1x8192, .f32⟩
  | .local _ .vmem, ⟨12, _⟩ => ⟨S2x8192x128, .f32⟩
  | .local _ .vmem, ⟨13, _⟩ => ⟨S2x8192x128, .f32⟩
  | .local _ .vmem, ⟨14, _⟩ => ⟨S2x512x128, .f32⟩
  | .local _ .vmem, ⟨15, _⟩ => ⟨S2x512x128, .f32⟩
  | .local _ .vmem, ⟨16, _⟩ => ⟨S512x128, .bf16⟩
  | .local _ .vmem, ⟨17, _⟩ => ⟨S512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v16 : Index := Scalar.indexCast v15
  let c0_3 : Index := 0#32
  ![v16.toNat, 0]
def k0_off2 (i : grid0.Coords) : Fin 3 → Nat :=
  let c0_4 : Index := 0#32
  let arg1 : BitVec 32 := BitVec.ofNat 32 (i 1).val
  let c512_i32 : BitVec 32 := 512#32
  let v14 : BitVec 32 := Scalar.muli arg1 c512_i32
  let v15 : BitVec 32 := v14
  let v21 : Index := Scalar.indexCast v15
  let c0_5 : Index := 0#32
  ![0, v21.toNat, 0]
def k0_off3 (i : grid0.Coords) : Fin 3 → Nat :=
  let c0_11 : Index := 0#32
  let c0_12 : Index := 0#32
  let arg1 : BitVec 32 := BitVec.ofNat 32 (i 1).val
  let c512_i32 : BitVec 32 := 512#32
  let v14 : BitVec 32 := Scalar.muli arg1 c512_i32
  let v15 : BitVec 32 := v14
  let v30 : Index := Scalar.indexCast v15
  ![0, 0, v30.toNat]
def k0_off4 (i : grid0.Coords) : Fin 3 → Nat :=
  let c1 : Index := 1#32
  let arg1 : BitVec 32 := BitVec.ofNat 32 (i 1).val
  let c512_i32 : BitVec 32 := 512#32
  let v14 : BitVec 32 := Scalar.muli arg1 c512_i32
  let v15 : BitVec 32 := v14
  let v60 : Index := Scalar.indexCast v15
  let c0_26 : Index := 0#32
  ![1, v60.toNat, 0]
def k0_off5 (i : grid0.Coords) : Fin 3 → Nat :=
  let c1_32 : Index := 1#32
  let c0_33 : Index := 0#32
  let arg1 : BitVec 32 := BitVec.ofNat 32 (i 1).val
  let c512_i32 : BitVec 32 := 512#32
  let v14 : BitVec 32 := Scalar.muli arg1 c512_i32
  let v15 : BitVec 32 := v14
  let v69 : Index := Scalar.indexCast v15
  ![1, 0, v69.toNat]
@[reducible] def k0_t1_loop (i : grid0.Coords) : Scf.Loop 32 :=
  let arg1 : BitVec 32 := BitVec.ofNat 32 (i 1).val
  let c1_i32 : BitVec 32 := 1#32
  let v99 : BitVec 32 := Scalar.addi arg1 c1_i32
  let c16_i32 : BitVec 32 := 16#32
  let v100 : BitVec 32 := Scalar.subi c16_i32 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_48 : BitVec 32 := 1#32
  ⟨v99, v104, c1_i32_48⟩
def k0_mult2 (i : grid0.Coords) (k0_t1 : Fin (k0_t1_loop i).trips) : BitVec 32 :=
  let arg1 : BitVec 32 := BitVec.ofNat 32 (i 1).val
  let c1_i32 : BitVec 32 := 1#32
  let v99 : BitVec 32 := Scalar.addi arg1 c1_i32
  let c1_i32_48 : BitVec 32 := 1#32
  let arg11 : BitVec 32 := Scf.iv v99 c1_i32_48 k0_t1
  let c512_i32_58 : BitVec 32 := 512#32
  let v115 : BitVec 32 := Scalar.muli arg11 c512_i32_58
  v115
def k0_off6 (i : grid0.Coords) (k0_t1 : Fin (k0_t1_loop i).trips) : Fin 2 → Nat :=
  let arg1 : BitVec 32 := BitVec.ofNat 32 (i 1).val
  let c1_i32 : BitVec 32 := 1#32
  let v99 : BitVec 32 := Scalar.addi arg1 c1_i32
  let c1_i32_48 : BitVec 32 := 1#32
  let arg11 : BitVec 32 := Scf.iv v99 c1_i32_48 k0_t1
  let c512_i32_58 : BitVec 32 := 512#32
  let v115 : BitVec 32 := Scalar.muli arg11 c512_i32_58
  let v116 : BitVec 32 := v115
  let v117 : Index := Scalar.indexCast v116
  let c0_59 : Index := 0#32
  ![v117.toNat, 0]
def k0_off7 (i : grid0.Coords) (k0_t1 : Fin (k0_t1_loop i).trips) : Fin 3 → Nat :=
  let c0_60 : Index := 0#32
  let arg1 : BitVec 32 := BitVec.ofNat 32 (i 1).val
  let c1_i32 : BitVec 32 := 1#32
  let v99 : BitVec 32 := Scalar.addi arg1 c1_i32
  let c1_i32_48 : BitVec 32 := 1#32
  let arg11 : BitVec 32 := Scf.iv v99 c1_i32_48 k0_t1
  let c512_i32_58 : BitVec 32 := 512#32
  let v115 : BitVec 32 := Scalar.muli arg11 c512_i32_58
  let v116 : BitVec 32 := v115
  let v122 : Index := Scalar.indexCast v116
  let c0_61 : Index := 0#32
  ![0, v122.toNat, 0]
def k0_off8 (i : grid0.Coords) (k0_t1 : Fin (k0_t1_loop i).trips) : Fin 3 → Nat :=
  let c0_66 : Index := 0#32
  let c0_67 : Index := 0#32
  let arg1 : BitVec 32 := BitVec.ofNat 32 (i 1).val
  let c1_i32 : BitVec 32 := 1#32
  let v99 : BitVec 32 := Scalar.addi arg1 c1_i32
  let c1_i32_48 : BitVec 32 := 1#32
  let arg11 : BitVec 32 := Scf.iv v99 c1_i32_48 k0_t1
  let c512_i32_58 : BitVec 32 := 512#32
  let v115 : BitVec 32 := Scalar.muli arg11 c512_i32_58
  let v116 : BitVec 32 := v115
  let v128 : Index := Scalar.indexCast v116
  ![0, 0, v128.toNat]
def k0_off9 (i : grid0.Coords) (k0_t1 : Fin (k0_t1_loop i).trips) : Fin 3 → Nat :=
  let c1_81 : Index := 1#32
  let arg1 : BitVec 32 := BitVec.ofNat 32 (i 1).val
  let c1_i32 : BitVec 32 := 1#32
  let v99 : BitVec 32 := Scalar.addi arg1 c1_i32
  let c1_i32_48 : BitVec 32 := 1#32
  let arg11 : BitVec 32 := Scf.iv v99 c1_i32_48 k0_t1
  let c512_i32_58 : BitVec 32 := 512#32
  let v115 : BitVec 32 := Scalar.muli arg11 c512_i32_58
  let v116 : BitVec 32 := v115
  let v158 : Index := Scalar.indexCast v116
  let c0_82 : Index := 0#32
  ![1, v158.toNat, 0]
def k0_off10 (i : grid0.Coords) (k0_t1 : Fin (k0_t1_loop i).trips) : Fin 3 → Nat :=
  let c1_87 : Index := 1#32
  let c0_88 : Index := 0#32
  let arg1 : BitVec 32 := BitVec.ofNat 32 (i 1).val
  let c1_i32 : BitVec 32 := 1#32
  let v99 : BitVec 32 := Scalar.addi arg1 c1_i32
  let c1_i32_48 : BitVec 32 := 1#32
  let arg11 : BitVec 32 := Scf.iv v99 c1_i32_48 k0_t1
  let c512_i32_58 : BitVec 32 := 512#32
  let v115 : BitVec 32 := Scalar.muli arg11 c512_i32_58
  let v116 : BitVec 32 := v115
  let v164 : Index := Scalar.indexCast v116
  ![1, 0, v164.toNat]
@[reducible] def k0_t2_loop (i : grid0.Coords) : Scf.Loop 32 :=
  let arg1 : BitVec 32 := BitVec.ofNat 32 (i 1).val
  let c1_i32 : BitVec 32 := 1#32
  let v99 : BitVec 32 := Scalar.addi arg1 c1_i32
  let c16_i32 : BitVec 32 := 16#32
  let v100 : BitVec 32 := Scalar.subi c16_i32 v99
  let c1_i32_47 : BitVec 32 := 1#32
  let v102 : BitVec 32 := Scalar.divsi v100 c1_i32_47
  let v103 : BitVec 32 := Scalar.muli v102 c1_i32_47
  let v104 : BitVec 32 := Scalar.addi v99 v103
  let v101 : BitVec 32 := Scalar.addi v99 v100
  let c1_i32_49 : BitVec 32 := 1#32
  ⟨v104, v101, c1_i32_49⟩
def k0_mult3 (i : grid0.Coords) (k0_t2 : Fin (k0_t2_loop i).trips) : BitVec 32 :=
  let arg1 : BitVec 32 := BitVec.ofNat 32 (i 1).val
  let c1_i32 : BitVec 32 := 1#32
  let v99 : BitVec 32 := Scalar.addi arg1 c1_i32
  let c16_i32 : BitVec 32 := 16#32
  let v100 : BitVec 32 := Scalar.subi c16_i32 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_49 : BitVec 32 := 1#32
  let arg11 : BitVec 32 := Scf.iv v104 c1_i32_49 k0_t2
  let c512_i32_58 : BitVec 32 := 512#32
  let v115 : BitVec 32 := Scalar.muli arg11 c512_i32_58
  v115
def k0_off11 (i : grid0.Coords) (k0_t2 : Fin (k0_t2_loop i).trips) : Fin 2 → Nat :=
  let arg1 : BitVec 32 := BitVec.ofNat 32 (i 1).val
  let c1_i32 : BitVec 32 := 1#32
  let v99 : BitVec 32 := Scalar.addi arg1 c1_i32
  let c16_i32 : BitVec 32 := 16#32
  let v100 : BitVec 32 := Scalar.subi c16_i32 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_49 : BitVec 32 := 1#32
  let arg11 : BitVec 32 := Scf.iv v104 c1_i32_49 k0_t2
  let c512_i32_58 : BitVec 32 := 512#32
  let v115 : BitVec 32 := Scalar.muli arg11 c512_i32_58
  let v116 : BitVec 32 := v115
  let v117 : Index := Scalar.indexCast v116
  let c0_59 : Index := 0#32
  ![v117.toNat, 0]
def k0_off12 (i : grid0.Coords) (k0_t2 : Fin (k0_t2_loop i).trips) : Fin 3 → Nat :=
  let c0_60 : Index := 0#32
  let arg1 : BitVec 32 := BitVec.ofNat 32 (i 1).val
  let c1_i32 : BitVec 32 := 1#32
  let v99 : BitVec 32 := Scalar.addi arg1 c1_i32
  let c16_i32 : BitVec 32 := 16#32
  let v100 : BitVec 32 := Scalar.subi c16_i32 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_49 : BitVec 32 := 1#32
  let arg11 : BitVec 32 := Scf.iv v104 c1_i32_49 k0_t2
  let c512_i32_58 : BitVec 32 := 512#32
  let v115 : BitVec 32 := Scalar.muli arg11 c512_i32_58
  let v116 : BitVec 32 := v115
  let v122 : Index := Scalar.indexCast v116
  let c0_61 : Index := 0#32
  ![0, v122.toNat, 0]
def k0_off13 (i : grid0.Coords) (k0_t2 : Fin (k0_t2_loop i).trips) : Fin 3 → Nat :=
  let c0_66 : Index := 0#32
  let c0_67 : Index := 0#32
  let arg1 : BitVec 32 := BitVec.ofNat 32 (i 1).val
  let c1_i32 : BitVec 32 := 1#32
  let v99 : BitVec 32 := Scalar.addi arg1 c1_i32
  let c16_i32 : BitVec 32 := 16#32
  let v100 : BitVec 32 := Scalar.subi c16_i32 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_49 : BitVec 32 := 1#32
  let arg11 : BitVec 32 := Scf.iv v104 c1_i32_49 k0_t2
  let c512_i32_58 : BitVec 32 := 512#32
  let v115 : BitVec 32 := Scalar.muli arg11 c512_i32_58
  let v116 : BitVec 32 := v115
  let v128 : Index := Scalar.indexCast v116
  ![0, 0, v128.toNat]
def k0_off14 (i : grid0.Coords) (k0_t2 : Fin (k0_t2_loop i).trips) : Fin 3 → Nat :=
  let c1_81 : Index := 1#32
  let arg1 : BitVec 32 := BitVec.ofNat 32 (i 1).val
  let c1_i32 : BitVec 32 := 1#32
  let v99 : BitVec 32 := Scalar.addi arg1 c1_i32
  let c16_i32 : BitVec 32 := 16#32
  let v100 : BitVec 32 := Scalar.subi c16_i32 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_49 : BitVec 32 := 1#32
  let arg11 : BitVec 32 := Scf.iv v104 c1_i32_49 k0_t2
  let c512_i32_58 : BitVec 32 := 512#32
  let v115 : BitVec 32 := Scalar.muli arg11 c512_i32_58
  let v116 : BitVec 32 := v115
  let v158 : Index := Scalar.indexCast v116
  let c0_82 : Index := 0#32
  ![1, v158.toNat, 0]
def k0_off15 (i : grid0.Coords) (k0_t2 : Fin (k0_t2_loop i).trips) : Fin 3 → Nat :=
  let c1_87 : Index := 1#32
  let c0_88 : Index := 0#32
  let arg1 : BitVec 32 := BitVec.ofNat 32 (i 1).val
  let c1_i32 : BitVec 32 := 1#32
  let v99 : BitVec 32 := Scalar.addi arg1 c1_i32
  let c16_i32 : BitVec 32 := 16#32
  let v100 : BitVec 32 := Scalar.subi c16_i32 v99
  let c1_i32_47 : BitVec 32 := 1#32
  let v102 : BitVec 32 := Scalar.divsi v100 c1_i32_47
  let v103 : BitVec 32 := Scalar.muli v102 c1_i32_47
  let v104 : BitVec 32 := Scalar.addi v99 v103
  let c1_i32_49 : BitVec 32 := 1#32
  let arg11 : BitVec 32 := Scf.iv v104 c1_i32_49 k0_t2
  let c512_i32_58 : BitVec 32 := 512#32
  let v115 : BitVec 32 := Scalar.muli arg11 c512_i32_58
  let v116 : BitVec 32 := v115
  let v164 : Index := Scalar.indexCast v116
  ![1, 0, v164.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x16 : Shape := ⟨2, ![8192, 16]⟩
abbrev S8192x16x64 : Shape := ⟨3, ![8192, 16, 64]⟩
abbrev S16x8192 : Shape := ⟨2, ![16, 8192]⟩
abbrev S8192 : Shape := ⟨1, ![8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192x64 : Shape := ⟨3, ![16, 8192, 64]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S8192x16x64, .f32⟩
  | .hbm, ⟨8, _⟩ => ⟨S16x8192, .f32⟩
  | .hbm, ⟨9, _⟩ => ⟨S8192, .i32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S16x8192x1, .f32⟩
  | .hbm, ⟨15, _⟩ => ⟨S16x8192x8192, .f32⟩
  | .hbm, ⟨16, _⟩ => ⟨S16x8192x8192, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .i1⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x1, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S16x64x8192, .f32⟩
  | .hbm, ⟨71, _⟩ => ⟨S8192x16x64, .f32⟩
  | .hbm, ⟨72, _⟩ => ⟨S8192x16x64, .f32⟩
  | .hbm, ⟨73, _⟩ => ⟨S16x64x8192, .f32⟩
  | .hbm, ⟨74, _⟩ => ⟨S16x8192x8192, .f32⟩
  | .hbm, ⟨75, _⟩ => ⟨S16x64x8192, .f32⟩
  | .hbm, ⟨76, _⟩ => ⟨S8192x16x64, .f32⟩
  | .hbm, ⟨77, _⟩ => ⟨S16x8192x8192, .f32⟩
  | .hbm, ⟨78, _⟩ => ⟨S16x8192x8192, .f32⟩
  | .hbm, ⟨79, _⟩ => ⟨S16x8192x8192, .f32⟩
  | .hbm, ⟨80, _⟩ => ⟨S_, .f32⟩
  | .hbm, ⟨81, _⟩ => ⟨S16x8192, .f32⟩
  | .hbm, ⟨82, _⟩ => ⟨S16x8192x1, .f32⟩
  | .hbm, ⟨83, _⟩ => ⟨S16x8192x1, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192, .f32⟩
  | .hbm, ⟨88, _⟩ => ⟨S16x8192x8192, .f32⟩
  | .hbm, ⟨89, _⟩ => ⟨S16x8192x8192, .f32⟩
  | .hbm, ⟨90, _⟩ => ⟨S16x8192x8192, .f32⟩
  | .hbm, ⟨91, _⟩ => ⟨S_, .f32⟩
  | .hbm, ⟨92, _⟩ => ⟨S16x8192x8192, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192, .f32⟩
  | .hbm, ⟨97, _⟩ => ⟨S16x1x8192, .f32⟩
  | .hbm, ⟨98, _⟩ => ⟨S_, .f32⟩
  | .hbm, ⟨99, _⟩ => ⟨S16x8192, .f32⟩
  | .hbm, ⟨100, _⟩ => ⟨S_, .f32⟩
  | .hbm, ⟨101, _⟩ => ⟨S16x8192, .f32⟩
  | .hbm, ⟨102, _⟩ => ⟨S16x8192x1, .f32⟩
  | .hbm, ⟨103, _⟩ => ⟨S_, .f32⟩
  | .hbm, ⟨104, _⟩ => ⟨S16x8192, .f32⟩
  | .hbm, ⟨105, _⟩ => ⟨S16x8192, .f32⟩
  | .hbm, ⟨106, _⟩ => ⟨S_, .f32⟩
  | .hbm, ⟨107, _⟩ => ⟨S16x8192x8192, .f32⟩
  | .hbm, ⟨108, _⟩ => ⟨S16x8192x8192, .f32⟩
  | .hbm, ⟨109, _⟩ => ⟨S16x8192x64, .f32⟩
  | .hbm, ⟨110, _⟩ => ⟨S8192x16x64, .f32⟩
  | .hbm, ⟨111, _⟩ => ⟨S16x8192x64, .f32⟩
  | .hbm, ⟨112, _⟩ => ⟨S8192x16x64, .f32⟩
  | .hbm, ⟨113, _⟩ => ⟨S8192x16, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Kernel2.lean ====
abbrev S8192x6144 : Shape := ⟨2, ![8192, 6144]⟩
abbrev S1024x6144 : Shape := ⟨2, ![1024, 6144]⟩
abbrev S8192x1024 : Shape := ⟨2, ![8192, 1024]⟩
abbrev S512x6144 : Shape := ⟨2, ![512, 6144]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x6144, .f32⟩
  | .hbm, ⟨1, _⟩ => ⟨S1024x6144, .f32⟩
  | .hbm, ⟨2, _⟩ => ⟨S8192x6144, .bf16⟩
  | .hbm, ⟨3, _⟩ => ⟨S1024x6144, .bf16⟩
  | .hbm, ⟨4, _⟩ => ⟨S8192x1024, .f32⟩
  | .local _ .vmem, ⟨0, _⟩ => ⟨S512x6144, .bf16⟩
  | .local _ .vmem, ⟨1, _⟩ => ⟨S512x6144, .bf16⟩
  | .local _ .vmem, ⟨2, _⟩ => ⟨S512x6144, .bf16⟩
  | .local _ .vmem, ⟨3, _⟩ => ⟨S512x6144, .bf16⟩
  | .local _ .vmem, ⟨4, _⟩ => ⟨S512x512, .f32⟩
  | .local _ .vmem, ⟨5, _⟩ => ⟨S512x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x6144 : Shape := ⟨2, ![8192, 6144]⟩
abbrev S1024x6144 : Shape := ⟨2, ![1024, 6144]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1024x6144, .f32⟩
  | .hbm, ⟨2, _⟩ => ⟨S_, .f32⟩
  | .hbm, ⟨3, _⟩ => ⟨S8192x1024, .f32⟩
  | .hbm, ⟨4, _⟩ => ⟨S8192x6144, .f32⟩
  | .hbm, ⟨5, _⟩ => ⟨S8192x1024, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8192x1024 : Shape := ⟨2, ![8192, 1024]⟩
abbrev S8192x6144 : Shape := ⟨2, ![8192, 6144]⟩
abbrev S8x1024x768 : Shape := ⟨3, ![8, 1024, 768]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S8192x6144, .bf16⟩
  | .hbm, ⟨4, _⟩ => ⟨S8x1024x768, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1x1024x768, .f32⟩
  | .local _ .vmem, ⟨5, _⟩ => ⟨S1x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S6144x1024, .f32⟩
  | .hbm, ⟨6, _⟩ => ⟨S1024x6144, .f32⟩
  | .hbm, ⟨7, _⟩ => ⟨S1024x8x768, .f32⟩
  | .hbm, ⟨8, _⟩ => ⟨S8x1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x7200 : Shape := ⟨2, ![8192, 7200]⟩
abbrev S1024x7200 : Shape := ⟨2, ![1024, 7200]⟩
abbrev S_ : Shape := ⟨0, ![]⟩
abbrev S1024x96 : Shape := ⟨2, ![1024, 96]⟩
abbrev S1024x2048 : Shape := ⟨2, ![1024, 2048]⟩
abbrev S1024x3072 : Shape := ⟨2, ![1024, 3072]⟩
abbrev S1024x16 : Shape := ⟨2, ![1024, 16]⟩
abbrev S1024x128 : Shape := ⟨2, ![1024, 128]⟩
abbrev S8192x16 : Shape := ⟨2, ![8192, 16]⟩
abbrev S8192x96 : Shape := ⟨2, ![8192, 96]⟩
abbrev S8192x128 : Shape := ⟨2, ![8192, 128]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩
abbrev S512x128 : Shape := ⟨2, ![512, 128]⟩
abbrev S512x512 : Shape := ⟨2, ![512, 512]⟩

abbrev nBuf : Space → Nat
  | .hbm => 23
  | .vmem => 26
  | .smem => 0
  | _ => 0

abbrev bufTy : (tb : Table) → Fin (tcTables nBuf tb) → BufTy
  | .hbm, ⟨0, _⟩ => ⟨S8192x7200, .f32⟩
  | .hbm, ⟨1, _⟩ => ⟨S1024x7200, .f32⟩
  | .hbm, ⟨2, _⟩ => ⟨S1024x7200, .bf16⟩
  | .hbm, ⟨3, _⟩ => ⟨S_, .bf16⟩
  | .hbm, ⟨4, _⟩ => ⟨S1024x96, .bf16⟩
  | .hbm, ⟨5, _⟩ => ⟨S1024x2048, .bf16⟩
  | .hbm, ⟨6, _⟩ => ⟨S1024x2048, .bf16⟩
  | .hbm, ⟨7, _⟩ => ⟨S1024x3072, .bf16⟩
  | .hbm, ⟨8, _⟩ => ⟨S1024x16, .bf16⟩
  | .hbm, ⟨9, _⟩ => ⟨S1024x16, .bf16⟩
  | .hbm, ⟨10, _⟩ => ⟨S1024x128, .bf16⟩
  | .hbm, ⟨11, _⟩ => ⟨S8192x16, .f32⟩
  | .hbm, ⟨12, _⟩ => ⟨S8192x16, .f32⟩
  | .hbm, ⟨13, _⟩ => ⟨S_, .f32⟩
  | .hbm, ⟨14, _⟩ => ⟨S8192x96, .f32⟩
  | .hbm, ⟨15, _⟩ => ⟨S8192x128, .f32⟩
  | .hbm, ⟨16, _⟩ => ⟨S8192x7200, .bf16⟩
  | .hbm, ⟨17, _⟩ => ⟨S8192x2048, .bf16⟩
  | .hbm, ⟨18, _⟩ => ⟨S8192x2048, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | .local _ .vmem, ⟨22, _⟩ => ⟨S512x128, .bf16⟩
  | .local _ .vmem, ⟨23, _⟩ => ⟨S512x128, .bf16⟩
  | .local _ .vmem, ⟨24, _⟩ => ⟨S512x512, .f32⟩
  | .local _ .vmem, ⟨25, _⟩ => ⟨S512x512, .f32⟩
  | _, _ => ⟨S8192x7200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S8192x7200 : Shape := ⟨2, ![8192, 7200]⟩
abbrev S1024x7200 : Shape := ⟨2, ![1024, 7200]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x7200, .f32⟩
  | .hbm, ⟨1, _⟩ => ⟨S1024x7200, .f32⟩
  | .hbm, ⟨2, _⟩ => ⟨S_, .f32⟩
  | .hbm, ⟨3, _⟩ => ⟨S8192x1024, .f32⟩
  | .hbm, ⟨4, _⟩ => ⟨S8192x7200, .f32⟩
  | .hbm, ⟨5, _⟩ => ⟨S8192x1024, .f32⟩
  | _, _ => ⟨S8192x7200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2048 : Shape := ⟨2, ![8192, 2048]⟩
abbrev S8192x1024 : Shape := ⟨2, ![8192, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .bf16⟩
  | .hbm, ⟨3, _⟩ => ⟨S2048x1024, .bf16⟩
  | .hbm, ⟨4, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | .hbm, ⟨6, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference10Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel11.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S8192x1024 : Shape := ⟨2, ![8192, 1024]⟩
abbrev S1024x6144 : Shape := ⟨2, ![1024, 6144]⟩
abbrev S8192x6144 : Shape := ⟨2, ![8192, 6144]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x1024, .bf16⟩
  | .hbm, ⟨3, _⟩ => ⟨S1024x6144, .bf16⟩
  | .hbm, ⟨4, _⟩ => ⟨S8192x6144, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x6144, .f32⟩
  | .hbm, ⟨3, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Tile.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pointwise
public import Idealize.ShloMosaic.Lib.VecWindow
public import Idealize.ShloMosaic.Lib.WordCmp
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The row `512 q + x` of an array of 8192 rows. -/
def row (q : ℕ) (x : Fin 512) : Fin 8192 := ⟨(512 * q + x.val) % 8192, Nat.mod_lt _ (by decide)⟩

theorem row_val {q : ℕ} (hq : q < 16) (x : Fin 512) : (row q x).val = 512 * q + x.val :=
  Nat.mod_eq_of_lt (by have := x.isLt; omega)

/-- The head of the pair a lane belongs to. -/
def hd (d : Fin 128) : Fin 2 := if d.val < 64 then 0 else 1

/-- What one grid point reads: the pair's augmented queries and keys, its values, the incoming gradient and, per
query, the logarithm of the softmax's denominator and the row sum `delta`. -/
structure Blk where
  QA : S2x8192x128.Idx → EReal
  KA : S2x512x128.Idx → EReal
  VB : S512x128.Idx → EReal
  DO : S8192x128.Idx → EReal
  L : S2x1x8192.Idx → EReal
  D : S2x1x8192.Idx → EReal

namespace Blk
variable (b : Blk)

/-- The values of head `r` alone. -/
def vm (r : Fin 2) (a : Fin 512) (d : Fin 128) : EReal := if hd d = r then b.VB (ix2 a d) else 0
/-- The incoming gradient of head `r` alone. -/
def dom (r : Fin 2) (x : Fin 8192) (d : Fin 128) : EReal := if hd d = r then b.DO (ix2 x d) else 0
/-- A weight of the attention before the mask. -/
def P (r : Fin 2) (a : Fin 512) (x : Fin 8192) : EReal :=
  Ideal.exp ((∑ d : Fin 128, b.KA (ix3 r a d) * b.QA (ix3 r x d)) - b.L (ix3 r 0 x))
/-- A weight of the attention, zero where the key comes after the query. -/
def PM (ki : ℕ) (r : Fin 2) (a : Fin 512) (x : Fin 8192) : EReal := if 512 * ki + a.val ≤ x.val then b.P r a x else 0
/-- The gradient of a logit. -/
def DM (ki : ℕ) (r : Fin 2) (a : Fin 512) (x : Fin 8192) : EReal :=
  b.PM ki r a x * ((∑ d : Fin 128, b.vm r a d * b.DO (ix2 x d)) - b.D (ix3 r 0 x))
/-- What query tile `q` adds to the gradient of the keys. -/
def tdk (ki : ℕ) (r : Fin 2) (q : ℕ) (a : Fin 512) (d : Fin 128) : EReal :=
  ∑ x : Fin 512, b.DM ki r a (row q x) * b.QA (ix3 r (row q x) d)
/-- What query tile `q` adds to the gradient of the values of head `r`. -/
def tdv (ki : ℕ) (r : Fin 2) (q : ℕ) (a : Fin 512) (d : Fin 128) : EReal :=
  ∑ x : Fin 512, b.PM ki r a (row q x) * b.dom r (row q x) d
/-- What the key block adds to the gradient of a query. -/
def tdq (ki : ℕ) (r : Fin 2) (x : Fin 8192) (d : Fin 128) : EReal :=
  ∑ a : Fin 512, b.DM ki r a x * b.KA (ix3 r a d)

theorem PM_later {ki q : ℕ} (h : ki < q) (hq : q < 16) (r : Fin 2) (a x : Fin 512) : b.PM ki r a (row q x) = b.P r a (row q x) :=
  if_pos (by rw [row_val hq]; have := a.isLt; omega)

theorem PM_earlier {ki : ℕ} {x : Fin 8192} (h : x.val < 512 * ki) (r : Fin 2) (a : Fin 512) : b.PM ki r a x = 0 :=
  if_neg (by omega)

theorem DM_earlier {ki : ℕ} {x : Fin 8192} (h : x.val < 512 * ki) (r : Fin 2) (a : Fin 512) : b.DM ki r a x = 0 := by
  unfold DM; rw [PM_earlier b h, zero_mul]

theorem tdk_earlier {ki q : ℕ} (h : q < ki) (hk : ki < 16) (r : Fin 2) (a : Fin 512) (d : Fin 128) : b.tdk ki r q a d = 0 :=
  Finset.sum_eq_zero fun x _ => by
    rw [DM_earlier b (by rw [row_val (by omega)]; have := x.isLt; omega), zero_mul]

theorem tdv_earlier {ki q : ℕ} (h : q < ki) (hk : ki < 16) (r : Fin 2) (a : Fin 512) (d : Fin 128) : b.tdv ki r q a d = 0 :=
  Finset.sum_eq_zero fun x _ => by
    rw [PM_earlier b (by rw [row_val (by omega)]; have := x.isLt; omega), zero_mul]

theorem tdq_earlier {ki : ℕ} {x : Fin 8192} (h : x.val < 512 * ki) (r : Fin 2) (d : Fin 128) : b.tdq ki r x d = 0 :=
  Finset.sum_eq_zero fun a _ => by rw [DM_earlier b h, zero_mul]

end Blk

/-! ### Loads of a tile, read at an index -/

section Loads
variable {κ : Kind} {sp : Space} {e : EltTy}

theorem rd_rows3 (v : View sig κ sp S2x8192x128 e) (f : v.ty.Contents (Elt Ideal)) {r : Fin 2} {q : ℕ} (hq : q < 16) {off : Fin 3 → ℕ}
    (hoff : off = ![r.val, 512 * q, 0]) (inb : ∀ a, off a + S1x512x128.size a ≤ S2x8192x128.size a) (u : Fin 1) (x : Fin 512) (d : Fin 128) :
    v.readAt (Elt Ideal) (Rect.unit (s := S2x8192x128) off S1x512x128.size inb).toLoadRect f (ix3 u x d) = v.read (Elt Ideal) f (ix3 r (row q x) d) := by
  subst hoff
  refine congrArg (v.read (Elt Ideal) f) (funext fun a => Fin.ext ?_)
  fin_cases a
  · show r.val + 1 * u.val = r.val
    have := u.isLt; omega
  · show 512 * q + 1 * x.val = (row q x).val
    rw [row_val hq, Nat.one_mul]
  · show 0 + 1 * d.val = d.val
    omega

theorem rd_keys (v : View sig κ sp S2x512x128 e) (f : v.ty.Contents (Elt Ideal)) {r : Fin 2} {off : Fin 3 → ℕ}
    (hoff : off = ![r.val, 0, 0]) (inb : ∀ a, off a + S1x512x128.size a ≤ S2x512x128.size a) (u : Fin 1) (x : Fin 512) (d : Fin 128) :
    v.readAt (Elt Ideal) (Rect.unit (s := S2x512x128) off S1x512x128.size inb).toLoadRect f (ix3 u x d) = v.read (Elt Ideal) f (ix3 r x d) := by
  subst hoff
  refine congrArg (v.read (Elt Ideal) f) (funext fun a => Fin.ext ?_)
  fin_cases a
  · show r.val + 1 * u.val = r.val
    have := u.isLt; omega
  · show 0 + 1 * x.val = x.val
    omega
  · show 0 + 1 * d.val = d.val
    omega

theorem rd_rows2 (v : View sig κ sp S8192x128 e) (f : v.ty.Contents (Elt Ideal)) {q : ℕ} (hq : q < 16) {off : Fin 2 → ℕ}
    (hoff : off = ![512 * q, 0]) (inb : ∀ a, off a + S512x128.size a ≤ S8192x128.size a) (x : Fin 512) (d : Fin 128) :
    v.readAt (Elt Ideal) (Rect.unit (s := S8192x128) off S512x128.size inb).toLoadRect f (ix2 x d) = v.read (Elt Ideal) f (ix2 (row q x) d) := by
  subst hoff
  refine congrArg (v.read (Elt Ideal) f) (funext fun a => Fin.ext ?_)
  fin_cases a
  · show 512 * q + 1 * x.val = (row q x).val
    rw [row_val hq, Nat.one_mul]
  · show 0 + 1 * d.val = d.val
    omega

theorem rd_lanes (v : View sig κ sp S2x1x8192 e) (f : v.ty.Contents (Elt Ideal)) {r : Fin 2} {q : ℕ} (hq : q < 16) {off : Fin 3 → ℕ}
    (hoff : off = ![r.val, 0, 512 * q]) (inb : ∀ a, off a + S1x1x512.size a ≤ S2x1x8192.size a) (u w : Fin 1) (x : Fin 512) :
    v.readAt (Elt Ideal) (Rect.unit (s := S2x1x8192) off S1x1x512.size inb).toLoadRect f (ix3 u w x) = v.read (Elt Ideal) f (ix3 r 0 (row q x)) := by
  subst hoff
  refine congrArg (v.read (Elt Ideal) f) (funext fun a => Fin.ext ?_)
  fin_cases a
  · show r.val + 1 * u.val = r.val
    have := u.isLt; omega
  · show 0 + 1 * w.val = 0
    have := w.isLt; omega
  · show 512 * q + 1 * x.val = (row q x).val
    rw [row_val hq, Nat.one_mul]

theorem rd_vals (v : View sig κ sp S512x128 e) (f : v.ty.Contents (Elt Ideal)) {off : Fin 2 → ℕ}
    (hoff : off = ![0, 0]) (inb : ∀ a, off a + S512x128.size a ≤ S512x128.size a) (x : Fin 512) (d : Fin 128) :
    v.readAt (Elt Ideal) (Rect.unit (s := S512x128) off S512x128.size inb).toLoadRect f (ix2 x d) = v.read (Elt Ideal) f (ix2 x d) := by
  subst hoff
  refine congrArg (v.read (Elt Ideal) f) (funext fun a => Fin.ext ?_)
  fin_cases a
  · show 0 + 1 * x.val = x.val
    omega
  · show 0 + 1 * d.val = d.val
    omega

/-- A tile stored over a block of queries: read back at an index, it is the tile there and what lay below elsewhere. -/
theorem rd_store (v : View sig κ sp S2x8192x128 e) (f : v.ty.Contents (Elt Ideal)) {r : Fin 2} {q : ℕ} (hq : q < 16) {off : Fin 3 → ℕ}
    (hoff : off = ![r.val, 512 * q, 0]) (inb : ∀ a, off a + S1x512x128.size a ≤ S2x8192x128.size a)
    (w : S1x512x128.Idx → Elt Ideal e) (Lp : List (View.Piece (Elt Ideal) S2x8192x128 e)) (G : Fin 2 → Fin 8192 → Fin 128 → Elt Ideal e)
    (hw : ∀ x d, w (ix3 0 x d) = G r (row q x) d) (r' : Fin 2) (x : Fin 8192) (d : Fin 128) :
    v.read (Elt Ideal) (v.writes (Elt Ideal) f ((⟨Rect.unit (s := S2x8192x128) off S1x512x128.size inb, w⟩ : View.Piece (Elt Ideal) S2x8192x128 e) :: Lp)) (ix3 r' x d)
      = if r' = r ∧ x.val / 512 = q then G r' x d else v.read (Elt Ideal) (v.writes (Elt Ideal) f Lp) (ix3 r' x d) := by
  by_cases h : r' = r ∧ x.val / 512 = q
  · rw [if_pos h]
    obtain ⟨rfl, h⟩ := h
    have hx : row q ⟨x.val % 512, Nat.mod_lt _ (by decide)⟩ = x := Fin.ext (by rw [row_val hq]; show 512 * q + x.val % 512 = x.val; omega)
    rw [View.read_writes_cons_unit_of_mem v f inb w Lp (ix3 r' x d) (ix3 0 ⟨x.val % 512, Nat.mod_lt _ (by decide)⟩ d) hoff ?_, hw, hx]
    intro a
    fin_cases a
    · show r'.val = r'.val + 0
      rfl
    · show x.val = 512 * q + x.val % 512
      omega
    · show d.val = 0 + d.val
      omega
  · rw [if_neg h]
    by_cases hr : r' = r
    · refine View.read_writes_cons_unit_of_not_mem v f inb w Lp (ix3 r' x d) hoff 1 ?_
      show x.val < 512 * q ∨ 512 * q + 512 ≤ x.val
      have : x.val / 512 ≠ q := fun e => h ⟨hr, e⟩
      omega
    · refine View.read_writes_cons_unit_of_not_mem v f inb w Lp (ix3 r' x d) hoff 0 ?_
      show r'.val < r.val ∨ r.val + 1 ≤ r'.val
      have : r'.val ≠ r.val := fun e => hr (Fin.ext e)
      omega

end Loads

/-! ### The body's words, read at an index -/

theorem pay36_apply (a : Fin 512) (d : Fin 128) : k0_pay36 (ix2 a d) = if hd d = 0 then 1#1 else 0#1 := by
  have e : k0_pay36 (ix2 a d) = IntOp.cmpi .slt (BitVec.ofNat 32 d.val) 64#32 := by pointwise [k0_pay36]
  rw [e]
  clear e
  revert d; decide

theorem pay38_apply (a : Fin 512) (d : Fin 128) : k0_pay38 (F := Ideal) (ix2 a d) = 0 := by pointwise [k0_pay38]

theorem sel_hd (d : Fin 128) (s t : EReal) : Scalar.select (if hd d = 0 then 1#1 else 0#1) s t = if hd d = 0 then s else t := by
  by_cases h : hd d = 0 <;> simp [h, Scalar.select]

theorem hd_one (d : Fin 128) (s t : EReal) : (if hd d = 0 then s else t) = if hd d = 1 then t else s := by
  unfold hd; by_cases h : d.val < 64 <;> simp [h]

theorem pay39_apply (vb : Vec Ideal S512x128 .bf16) (a : Fin 512) (d : Fin 128) : k0_pay39 (F := Ideal) vb (ix2 a d) = if hd d = 0 then vb (ix2 a d) else 0 := by
  have e : k0_pay39 (F := Ideal) vb (ix2 a d) = Scalar.select (k0_pay36 (ix2 a d)) (vb (ix2 a d)) 0 := by pointwise [k0_pay39, k0_pay37, k0_pay38]
  rw [e, pay36_apply, sel_hd]

theorem pay40_apply (vb : Vec Ideal S512x128 .bf16) (a : Fin 512) (d : Fin 128) : k0_pay40 (F := Ideal) vb (ix2 a d) = if hd d = 1 then vb (ix2 a d) else 0 := by
  have e : k0_pay40 (F := Ideal) vb (ix2 a d) = Scalar.select (k0_pay36 (ix2 a d)) 0 (vb (ix2 a d)) := by pointwise [k0_pay40, k0_pay37, k0_pay38]
  rw [e, pay36_apply, sel_hd, hd_one]

theorem pay43_apply (vb : Vec Ideal S512x128 .bf16) (a : Fin 512) (d : Fin 128) : k0_pay43 (F := Ideal) vb (ix2 a d) = if hd d = 0 then vb (ix2 a d) else 0 := by
  have e : k0_pay43 (F := Ideal) vb (ix2 a d) = Scalar.select (k0_pay36 (ix2 a d)) (vb (ix2 a d)) 0 := by pointwise [k0_pay43, k0_pay42, k0_pay38]
  rw [e, pay36_apply, sel_hd]

theorem pay44_apply (vb : Vec Ideal S512x128 .bf16) (a : Fin 512) (d : Fin 128) : k0_pay44 (F := Ideal) vb (ix2 a d) = if hd d = 1 then vb (ix2 a d) else 0 := by
  have e : k0_pay44 (F := Ideal) vb (ix2 a d) = Scalar.select (k0_pay36 (ix2 a d)) 0 (vb (ix2 a d)) := by pointwise [k0_pay44, k0_pay42, k0_pay38]
  rw [e, pay36_apply, sel_hd, hd_one]

theorem pay4_apply (wo : Vec Ideal S512x128 .bf16) (a : Fin 512) (d : Fin 128) :
    k0_pay4 (F := Ideal) k0_pay36 (k0_pay38 (F := Ideal)) wo (ix2 a d) = if hd d = 1 then wo (ix2 a d) else 0 := by
  have e : k0_pay4 (F := Ideal) k0_pay36 (k0_pay38 (F := Ideal)) wo (ix2 a d) = Scalar.select (k0_pay36 (ix2 a d)) 0 (wo (ix2 a d)) := by
    pointwise [k0_pay4, k0_pay3, k0_pay38]
  rw [e, pay36_apply, sel_hd, hd_one]

theorem pay3_apply (wo : Vec Ideal S512x128 .bf16) (a : Fin 512) (d : Fin 128) : k0_pay3 (F := Ideal) wo (ix2 a d) = wo (ix2 a d) := by pointwise [k0_pay3]
theorem pay42_apply (wo : Vec Ideal S512x128 .bf16) (a : Fin 512) (d : Fin 128) : k0_pay42 (F := Ideal) wo (ix2 a d) = wo (ix2 a d) := by pointwise [k0_pay42]
theorem pay45_apply (wo : Vec Ideal S1x512x128 .bf16) (a : Fin 512) (d : Fin 128) : k0_pay45 (F := Ideal) wo (ix2 a d) = wo (ix3 0 a d) := by pointwise [k0_pay45]
theorem pay52_apply (wo : Vec Ideal S1x512x128 .bf16) (a : Fin 512) (d : Fin 128) : k0_pay52 (F := Ideal) wo (ix2 a d) = wo (ix3 0 a d) := by pointwise [k0_pay52]
theorem pay41_apply (a : Fin 512) (d : Fin 128) : k0_pay41 (F := Ideal) (ix2 a d) = 0 := by pointwise [k0_pay41]
theorem pay35_apply (r : Fin 2) (x : Fin 8192) (d : Fin 128) : k0_pay35 (F := Ideal) (ix3 r x d) = 0 := by pointwise [k0_pay35]
theorem pay1_apply (w : FVec Ideal S512x128 .f32) (u : Fin 1) (a : Fin 512) (d : Fin 128) : k0_pay1 (F := Ideal) w (ix3 u a d) = w (ix2 a d) := by pointwise [k0_pay1]
theorem pay2_apply (w : FVec Ideal S512x128 .f32) (a : Fin 512) (d : Fin 128) : k0_pay2 (F := Ideal) w (ix2 a d) = w (ix2 a d) := by pointwise [k0_pay2]

section Words
variable (v11 : FVec Ideal S512x128 .bf16) (wo : Vec Ideal S512x128 .bf16) (wq wk wk' : Vec Ideal S1x512x128 .bf16) (wl wd : Vec Ideal S1x1x512 .f32)
  (old : Vec Ideal S1x512x128 .f32) (acc : FVec Ideal S512x128 .f32) (p t : FVec Ideal S512x512 .f32) (u : Fin 1) (a x : Fin 512) (d : Fin 128)

theorem pay6_apply : k0_pay6 (F := Ideal) wq wk wl (ix2 a x) = Ideal.exp ((∑ d : Fin 128, wk (ix3 0 a d) * wq (ix3 0 x d)) - wl (ix3 0 0 x)) := by
  pointwise [k0_pay6, k0_pay5]
theorem pay7_apply : k0_pay7 (F := Ideal) v11 wo wq wk wl wd (ix2 a x)
    = k0_pay6 (F := Ideal) wq wk wl (ix2 a x) * ((∑ d : Fin 128, v11 (ix2 a d) * wo (ix2 x d)) - wd (ix3 0 0 x)) := by
  pointwise [k0_pay7, k0_pay3]
theorem pay8_apply : k0_pay8 (F := Ideal) k0_pay36 (k0_pay38 (F := Ideal)) acc wo wq wk wl (ix2 a d)
    = acc (ix2 a d) + ∑ x : Fin 512, k0_pay6 (F := Ideal) wq wk wl (ix2 a x) * (if hd d = 0 then wo (ix2 x d) else 0) := by
  have e : k0_pay8 (F := Ideal) k0_pay36 (k0_pay38 (F := Ideal)) acc wo wq wk wl (ix2 a d)
    = acc (ix2 a d) + ∑ x : Fin 512, k0_pay6 (F := Ideal) wq wk wl (ix2 a x) * Scalar.select (k0_pay36 (ix2 x d)) (wo (ix2 x d)) 0 := by
    pointwise [k0_pay8, k0_pay3, k0_pay38]
  rw [e]; simp only [pay36_apply, sel_hd]
theorem pay9_apply : k0_pay9 (F := Ideal) v11 acc wo wq wk wl wd (ix2 a d)
    = acc (ix2 a d) + ∑ x : Fin 512, k0_pay7 (F := Ideal) v11 wo wq wk wl wd (ix2 a x) * wq (ix3 0 x d) := by
  pointwise [k0_pay9, k0_pay5]
theorem pay12_apply : k0_pay12 (F := Ideal) (k0_pay10 old) (k0_pay11 v11 wo wq wk wl wd wk') (ix3 u x d)
    = old (ix3 0 x d) + ∑ a : Fin 512, k0_pay7 (F := Ideal) v11 wo wq wk wl wd (ix2 a x) * wk' (ix3 0 a d) := by
  pointwise [k0_pay12, k0_pay10, k0_pay11]
theorem pay14_apply : k0_pay14 (F := Ideal) wq wk wl (ix2 a x) = Ideal.exp ((∑ d : Fin 128, wk (ix3 0 a d) * wq (ix3 0 x d)) - wl (ix3 0 0 x)) := by
  pointwise [k0_pay14, k0_pay13]
theorem pay15_apply : k0_pay15 (F := Ideal) v11 (k0_pay3 wo) wq wk wl wd (ix2 a x)
    = k0_pay14 (F := Ideal) wq wk wl (ix2 a x) * ((∑ d : Fin 128, v11 (ix2 a d) * wo (ix2 x d)) - wd (ix3 0 0 x)) := by
  pointwise [k0_pay15, k0_pay3]
theorem pay16_apply : k0_pay16 (F := Ideal) v11 acc wq wk wl (ix2 a d)
    = acc (ix2 a d) + ∑ x : Fin 512, k0_pay14 (F := Ideal) wq wk wl (ix2 a x) * v11 (ix2 x d) := by
  pointwise [k0_pay16]
theorem pay17_apply : k0_pay17 (F := Ideal) v11 acc (k0_pay3 wo) wq wk wl wd (ix2 a d)
    = acc (ix2 a d) + ∑ x : Fin 512, k0_pay15 (F := Ideal) v11 (k0_pay3 wo) wq wk wl wd (ix2 a x) * wq (ix3 0 x d) := by
  pointwise [k0_pay17, k0_pay13]
theorem pay18_apply : k0_pay18 (F := Ideal) v11 (k0_pay3 wo) wq wk wl wd old wk' (ix2 x d)
    = old (ix3 0 x d) + ∑ a : Fin 512, k0_pay15 (F := Ideal) v11 (k0_pay3 wo) wq wk wl wd (ix2 a x) * wk' (ix3 0 a d) := by
  pointwise [k0_pay18]

theorem mask_exp (h : Bool) (s l : EReal) (c : BitVec 1) (hc : c = if h then 1#1 else 0#1) :
    Ideal.exp (Scalar.select c s (Named.named (F := Ideal) κ "mask" (φ := .f32) 0xF149F2CA#32) - l) = if h then Ideal.exp (s - l) else 0 := by
  have e : (Named.named (F := Ideal) κ "mask" (φ := .f32) 0xF149F2CA#32 : EReal) = ⊥ := named_eq _ _ _
  cases h
  · subst hc; simp [Scalar.select, e, EReal.bot_sub]
  · subst hc; simp [Scalar.select]

theorem le_word : IntOp.cmpi .sle (BitVec.ofNat 32 a.val) (BitVec.ofNat 32 x.val) = if decide (a.val ≤ x.val) then 1#1 else 0#1 := by
  have ha := a.isLt
  have hx := x.isLt
  rw [WordCmp.cmpi_sle_ofNat (by omega) (by omega)]
  by_cases h : a.val ≤ x.val <;> simp [h]

theorem pay46_apply : k0_pay46 (F := Ideal) wq wk wl (ix2 a x)
    = if a.val ≤ x.val then Ideal.exp ((∑ d : Fin 128, wk (ix3 0 a d) * wq (ix3 0 x d)) - wl (ix3 0 0 x)) else 0 := by
  have e : k0_pay46 (F := Ideal) wq wk wl (ix2 a x) = Ideal.exp
      (Scalar.select (IntOp.cmpi .sle (BitVec.ofNat 32 a.val) (BitVec.ofNat 32 x.val))
          (∑ d : Fin 128, wk (ix3 0 a d) * wq (ix3 0 x d)) (Named.named (F := Ideal) κ "mask" (φ := .f32) 0xF149F2CA#32) - wl (ix3 0 0 x)) := by
    pointwise [k0_pay46, k0_pay45]
  rw [e, mask_exp _ _ _ _ (le_word a x)]; simp only [decide_eq_true_eq]
theorem pay53_apply (v6 v7 : IVec S512x512 32) (h6 : v6 = iota .tc S512x512 32 [0] iota_S512x512_d0_w32) (h7 : v7 = iota .tc S512x512 32 [1] iota_S512x512_d1_w32) :
    k0_pay53 (F := Ideal) v6 v7 wq wk wl (ix2 a x)
    = if a.val ≤ x.val then Ideal.exp ((∑ d : Fin 128, wk (ix3 0 a d) * wq (ix3 0 x d)) - wl (ix3 0 0 x)) else 0 := by
  have e : k0_pay53 (F := Ideal) v6 v7 wq wk wl (ix2 a x) = Ideal.exp
      (Scalar.select (IntOp.cmpi .sle (BitVec.ofNat 32 a.val) (BitVec.ofNat 32 x.val))
          (∑ d : Fin 128, wk (ix3 0 a d) * wq (ix3 0 x d)) (Named.named (F := Ideal) κ "mask" (φ := .f32) 0xF149F2CA#32) - wl (ix3 0 0 x)) := by
    subst h6 h7
    pointwise [k0_pay53, k0_pay52]
  rw [e, mask_exp _ _ _ _ (le_word a x)]; simp only [decide_eq_true_eq]
theorem pay47_apply (vb : Vec Ideal S512x128 .bf16) : k0_pay47 (F := Ideal) vb wo (ix2 a x) = ∑ d : Fin 128, (if hd d = 0 then vb (ix2 a d) else 0) * wo (ix2 x d) := by
  have e : k0_pay47 (F := Ideal) vb wo (ix2 a x) = ∑ d : Fin 128, k0_pay39 (F := Ideal) vb (ix2 a d) * wo (ix2 x d) := by
    pointwise [k0_pay47, k0_pay42]
  rw [e]; simp only [pay39_apply]
theorem pay48_apply : k0_pay48 (F := Ideal) p t wd (ix2 a x) = p (ix2 a x) * (t (ix2 a x) - wd (ix3 0 0 x)) := by
  pointwise [k0_pay48]
theorem pay49_apply (w : FVec Ideal S512x128 .bf16) : k0_pay49 (F := Ideal) acc w p (ix2 a d) = acc (ix2 a d) + ∑ x : Fin 512, p (ix2 a x) * w (ix2 x d) := by
  pointwise [k0_pay49]
theorem pay50_apply (w : FVec Ideal S512x128 .bf16) : k0_pay50 (F := Ideal) acc w p t wd (ix2 a d)
    = acc (ix2 a d) + ∑ x : Fin 512, k0_pay48 (F := Ideal) p t wd (ix2 a x) * w (ix2 x d) := by
  pointwise [k0_pay50]
theorem pay51_apply : k0_pay51 (F := Ideal) p t wd old wk (ix3 u x d)
    = old (ix3 0 x d) + ∑ a : Fin 512, k0_pay48 (F := Ideal) p t wd (ix2 a x) * wk (ix3 0 a d) := by
  pointwise [k0_pay51]
theorem pay54_apply : k0_pay54 (F := Ideal) v11 wo p (constant S512x512 .f32 0x00000000#32) wd (ix2 a x)
    = p (ix2 a x) * ((∑ d : Fin 128, v11 (ix2 a d) * wo (ix2 x d)) - wd (ix3 0 0 x)) := by
  pointwise [k0_pay54]
theorem pay55_apply (w : FVec Ideal S512x128 .bf16) : k0_pay55 (F := Ideal) w acc p (ix2 a d) = acc (ix2 a d) + ∑ x : Fin 512, p (ix2 a x) * w (ix2 x d) := by
  pointwise [k0_pay55]
theorem pay56_apply (w : FVec Ideal S512x128 .bf16) : k0_pay56 (F := Ideal) v11 acc wo w p (constant S512x512 .f32 0x00000000#32) wd (ix2 a d)
    = acc (ix2 a d) + ∑ x : Fin 512, k0_pay54 (F := Ideal) v11 wo p (constant S512x512 .f32 0x00000000#32) wd (ix2 a x) * w (ix2 x d) := by
  pointwise [k0_pay56]
theorem pay57_apply : k0_pay57 (F := Ideal) v11 wo p (constant S512x512 .f32 0x00000000#32) wd old wk (ix3 u x d)
    = old (ix3 0 x d) + ∑ a : Fin 512, k0_pay54 (F := Ideal) v11 wo p (constant S512x512 .f32 0x00000000#32) wd (ix2 a x) * wk (ix3 0 a d) := by
  pointwise [k0_pay57]
end Words

end Cert.KernelIdeal.Val
end
-- ==== Proof.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pointwise
public import Idealize.ShloMosaic.Lib.VecWindow
public import proofs.«01_k».proof.Proof.Tile
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem trips_eq : ∀ i : grid0.Coords, (k0_t1_loop i).trips = 15 - (i 1).val := by decide +kernel

/-- The grid point's block functions off the memrefs' contents. -/
abbrev blk (arg2 : Memref sig .tc .vmem S2x8192x128 .bf16) (arg3 : Memref sig .tc .vmem S2x512x128 .bf16) (arg5 : Memref sig .tc .vmem S8192x128 .bf16)
    (arg6 : Memref sig .tc .vmem S2x1x8192 .f32) (arg7 : Memref sig .tc .vmem S2x1x8192 .f32) (vb : Vec Ideal S512x128 .bf16)
    (X_arg2 : BufTy.Contents (Elt Ideal) arg2.view.ty) (X_arg3 : BufTy.Contents (Elt Ideal) arg3.view.ty) (X_arg5 : BufTy.Contents (Elt Ideal) arg5.view.ty)
    (X_arg6 : BufTy.Contents (Elt Ideal) arg6.view.ty) (X_arg7 : BufTy.Contents (Elt Ideal) arg7.view.ty) : Blk :=
  ⟨arg2.view.read (Elt Ideal) X_arg2, arg3.view.read (Elt Ideal) X_arg3, vb, arg5.view.read (Elt Ideal) X_arg5,
    arg6.view.read (Elt Ideal) X_arg6, arg7.view.read (Elt Ideal) X_arg7⟩

section Trip
variable (𝒱 : Variants) (c : Dev nD) (bd : Option 𝒱.V) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (arg1 : BitVec 32) (v13 : FVec Ideal S512x128 .f32) (v15 : BitVec 32) (v18 : FVec Ideal S512x128 .bf16) (v20 : FVec Ideal S512x128 .bf16) (v46 : FVec Ideal S512x128 .f32) (v48 : FVec Ideal S512x128 .f32) (v62 : FVec Ideal S512x128 .bf16) (v74 : FVec Ideal S512x512 .f32) (cst_34 : FVec Ideal S512x512 .f32) (v99 : BitVec 32) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (vb : Vec Ideal S512x128 .bf16) (k : Fin (k0_t1_loop i).trips) (acc : FVec Ideal S512x128 .f32 × FVec Ideal S512x128 .f32 × FVec Ideal S512x128 .f32) (f : BufTy.Contents (Elt Ideal) arg8.view.ty)

theorem tripR_eq : tripR_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 k acc f =
    (k0_pay9 (F := Ideal) (k0_pay39 (F := Ideal) vb) acc.1 (arg5.view.readAt (Elt Ideal) (Rect.unit (s := S8192x128) (k0_off6 i k) S512x128.size (k0_off6_inb i k)).toLoadRect X_arg5) (arg2.view.readAt (Elt Ideal) (Rect.unit (s := S2x8192x128) (k0_off7 i k) S1x512x128.size (k0_off7_inb i k)).toLoadRect X_arg2) (arg3.view.readAt (Elt Ideal) (Rect.unit (s := S2x512x128) ![0, 0, 0] S1x512x128.size (by decide)).toLoadRect X_arg3) (arg6.view.readAt (Elt Ideal) (Rect.unit (s := S2x1x8192) (k0_off8 i k) S1x1x512.size (k0_off8_inb i k)).toLoadRect X_arg6) (arg7.view.readAt (Elt Ideal) (Rect.unit (s := S2x1x8192) (k0_off8 i k) S1x1x512.size (k0_off8_inb i k)).toLoadRect X_arg7),
     k0_pay17 (F := Ideal) (k0_pay40 (F := Ideal) vb) acc.2.1 (k0_pay3 (arg5.view.readAt (Elt Ideal) (Rect.unit (s := S8192x128) (k0_off6 i k) S512x128.size (k0_off6_inb i k)).toLoadRect X_arg5)) (arg2.view.readAt (Elt Ideal) (Rect.unit (s := S2x8192x128) (k0_off9 i k) S1x512x128.size (k0_off9_inb i k)).toLoadRect X_arg2) (arg3.view.readAt (Elt Ideal) (Rect.unit (s := S2x512x128) ![1, 0, 0] S1x512x128.size (by decide)).toLoadRect X_arg3) (arg6.view.readAt (Elt Ideal) (Rect.unit (s := S2x1x8192) (k0_off10 i k) S1x1x512.size (k0_off10_inb i k)).toLoadRect X_arg6) (arg7.view.readAt (Elt Ideal) (Rect.unit (s := S2x1x8192) (k0_off10 i k) S1x1x512.size (k0_off10_inb i k)).toLoadRect X_arg7),
     k0_pay16 (F := Ideal) (k0_pay4 (F := Ideal) k0_pay36 (k0_pay38 (F := Ideal)) (arg5.view.readAt (Elt Ideal) (Rect.unit (s := S8192x128) (k0_off6 i k) S512x128.size (k0_off6_inb i k)).toLoadRect X_arg5))
       (k0_pay8 (F := Ideal) k0_pay36 (k0_pay38 (F := Ideal)) acc.2.2 (arg5.view.readAt (Elt Ideal) (Rect.unit (s := S8192x128) (k0_off6 i k) S512x128.size (k0_off6_inb i k)).toLoadRect X_arg5) (arg2.view.readAt (Elt Ideal) (Rect.unit (s := S2x8192x128) (k0_off7 i k) S1x512x128.size (k0_off7_inb i k)).toLoadRect X_arg2) (arg3.view.readAt (Elt Ideal) (Rect.unit (s := S2x512x128) ![0, 0, 0] S1x512x128.size (by decide)).toLoadRect X_arg3) (arg6.view.readAt (Elt Ideal) (Rect.unit (s := S2x1x8192) (k0_off8 i k) S1x1x512.size (k0_off8_inb i k)).toLoadRect X_arg6)) (arg2.view.readAt (Elt Ideal) (Rect.unit (s := S2x8192x128) (k0_off9 i k) S1x512x128.size (k0_off9_inb i k)).toLoadRect X_arg2) (arg3.view.readAt (Elt Ideal) (Rect.unit (s := S2x512x128) ![1, 0, 0] S1x512x128.size (by decide)).toLoadRect X_arg3) (arg6.view.readAt (Elt Ideal) (Rect.unit (s := S2x1x8192) (k0_off10 i k) S1x1x512.size (k0_off10_inb i k)).toLoadRect X_arg6)) := by
  unfold tripR_k0_t1 trip_k0_t1
  dsimp only
  sl_unfold_words
  rfl

theorem tripL_eq : tripL_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 k acc f =
    [⟨Rect.unit (s := S2x8192x128) (k0_off9 i k) S1x512x128.size (k0_off9_inb i k),
        k0_pay1 (F := Ideal) (k0_pay18 (F := Ideal) (k0_pay40 (F := Ideal) vb) (k0_pay3 (arg5.view.readAt (Elt Ideal) (Rect.unit (s := S8192x128) (k0_off6 i k) S512x128.size (k0_off6_inb i k)).toLoadRect X_arg5)) (arg2.view.readAt (Elt Ideal) (Rect.unit (s := S2x8192x128) (k0_off9 i k) S1x512x128.size (k0_off9_inb i k)).toLoadRect X_arg2) (arg3.view.readAt (Elt Ideal) (Rect.unit (s := S2x512x128) ![1, 0, 0] S1x512x128.size (by decide)).toLoadRect X_arg3) (arg6.view.readAt (Elt Ideal) (Rect.unit (s := S2x1x8192) (k0_off10 i k) S1x1x512.size (k0_off10_inb i k)).toLoadRect X_arg6) (arg7.view.readAt (Elt Ideal) (Rect.unit (s := S2x1x8192) (k0_off10 i k) S1x1x512.size (k0_off10_inb i k)).toLoadRect X_arg7) (arg8.view.readAt (Elt Ideal) (Rect.unit (s := S2x8192x128) (k0_off9 i k) S1x512x128.size (k0_off9_inb i k)).toLoadRect f) (arg3.view.readAt (Elt Ideal) (Rect.unit (s := S2x512x128) ![1, 0, 0] S1x512x128.size (by decide)).toLoadRect X_arg3))⟩,
     ⟨Rect.unit (s := S2x8192x128) (k0_off7 i k) S1x512x128.size (k0_off7_inb i k),
        k0_pay12 (F := Ideal) (k0_pay10 (arg8.view.readAt (Elt Ideal) (Rect.unit (s := S2x8192x128) (k0_off7 i k) S1x512x128.size (k0_off7_inb i k)).toLoadRect f)) (k0_pay11 (k0_pay39 (F := Ideal) vb) (arg5.view.readAt (Elt Ideal) (Rect.unit (s := S8192x128) (k0_off6 i k) S512x128.size (k0_off6_inb i k)).toLoadRect X_arg5) (arg2.view.readAt (Elt Ideal) (Rect.unit (s := S2x8192x128) (k0_off7 i k) S1x512x128.size (k0_off7_inb i k)).toLoadRect X_arg2) (arg3.view.readAt (Elt Ideal) (Rect.unit (s := S2x512x128) ![0, 0, 0] S1x512x128.size (by decide)).toLoadRect X_arg3) (arg6.view.readAt (Elt Ideal) (Rect.unit (s := S2x1x8192) (k0_off8 i k) S1x1x512.size (k0_off8_inb i k)).toLoadRect X_arg6) (arg7.view.readAt (Elt Ideal) (Rect.unit (s := S2x1x8192) (k0_off8 i k) S1x1x512.size (k0_off8_inb i k)).toLoadRect X_arg7) (arg3.view.readAt (Elt Ideal) (Rect.unit (s := S2x512x128) ![0, 0, 0] S1x512x128.size (by decide)).toLoadRect X_arg3))⟩] := by
  unfold tripL_k0_t1 trip_k0_t1
  dsimp only
  sl_unfold_words
  rfl

end Trip

/-- The query tile of trip `k`. -/
theorem tile_lt (i : grid0.Coords) (k : Fin (k0_t1_loop i).trips) : (i 1).val + 1 + k.val < 16 := by
  have h := k.isLt
  have e := trips_eq i
  omega

theorem o6 (i : grid0.Coords) (k : Fin (k0_t1_loop i).trips) : k0_off6 i k = ![512 * ((i 1).val + 1 + k.val), 0] := by
  rw [k0_off6_eq, show 512 * (i 1).val + 512 * k.val + 512 = 512 * ((i 1).val + 1 + k.val) by ring]
theorem o7 (i : grid0.Coords) (k : Fin (k0_t1_loop i).trips) : k0_off7 i k = ![(0 : Fin 2).val, 512 * ((i 1).val + 1 + k.val), 0] := by
  rw [k0_off7_eq, show 512 * (i 1).val + 512 * k.val + 512 = 512 * ((i 1).val + 1 + k.val) by ring]; rfl
theorem o9 (i : grid0.Coords) (k : Fin (k0_t1_loop i).trips) : k0_off9 i k = ![(1 : Fin 2).val, 512 * ((i 1).val + 1 + k.val), 0] := by
  rw [k0_off9_eq, show 512 * (i 1).val + 512 * k.val + 512 = 512 * ((i 1).val + 1 + k.val) by ring]; rfl
theorem o8 (i : grid0.Coords) (k : Fin (k0_t1_loop i).trips) : k0_off8 i k = ![(0 : Fin 2).val, 0, 512 * ((i 1).val + 1 + k.val)] := by
  rw [k0_off8_eq, show 512 * (i 1).val + 512 * k.val + 512 = 512 * ((i 1).val + 1 + k.val) by ring]; rfl
theorem o10 (i : grid0.Coords) (k : Fin (k0_t1_loop i).trips) : k0_off10 i k = ![(1 : Fin 2).val, 0, 512 * ((i 1).val + 1 + k.val)] := by
  rw [k0_off10_eq, show 512 * (i 1).val + 512 * k.val + 512 = 512 * ((i 1).val + 1 + k.val) by ring]; rfl
theorem ok0 : (![0, 0, 0] : Fin 3 → ℕ) = ![(0 : Fin 2).val, 0, 0] := rfl
theorem ok1 : (![1, 0, 0] : Fin 3 → ℕ) = ![(1 : Fin 2).val, 0, 0] := rfl

section Trip
variable (𝒱 : Variants) (c : Dev nD) (bd : Option 𝒱.V) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (arg1 : BitVec 32) (v13 : FVec Ideal S512x128 .f32) (v15 : BitVec 32) (v18 : FVec Ideal S512x128 .bf16) (v20 : FVec Ideal S512x128 .bf16) (v46 : FVec Ideal S512x128 .f32) (v48 : FVec Ideal S512x128 .f32) (v62 : FVec Ideal S512x128 .bf16) (v74 : FVec Ideal S512x512 .f32) (cst_34 : FVec Ideal S512x512 .f32) (v99 : BitVec 32) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (vb : Vec Ideal S512x128 .bf16) (k : Fin (k0_t1_loop i).trips) (acc : FVec Ideal S512x128 .f32 × FVec Ideal S512x128 .f32 × FVec Ideal S512x128 .f32) (f : BufTy.Contents (Elt Ideal) arg8.view.ty)

theorem trip_P0 (a x : Fin 512) : k0_pay6 (F := Ideal) (arg2.view.readAt (Elt Ideal) (Rect.unit (s := S2x8192x128) (k0_off7 i k) S1x512x128.size (k0_off7_inb i k)).toLoadRect X_arg2) (arg3.view.readAt (Elt Ideal) (Rect.unit (s := S2x512x128) ![0, 0, 0] S1x512x128.size (by decide)).toLoadRect X_arg3) (arg6.view.readAt (Elt Ideal) (Rect.unit (s := S2x1x8192) (k0_off8 i k) S1x1x512.size (k0_off8_inb i k)).toLoadRect X_arg6) (ix2 a x) = ((blk arg2 arg3 arg5 arg6 arg7 vb X_arg2 X_arg3 X_arg5 X_arg6 X_arg7)).PM (i 1).val 0 a (row ((i 1).val + 1 + k.val) x) := by
  have hq := tile_lt i k
  rw [pay6_apply, Blk.PM_later _ (by omega) hq]
  unfold Blk.P
  simp only [rd_rows3 _ _ hq (o7 i k), rd_lanes _ _ hq (o8 i k), rd_keys _ _ ok0]

theorem trip_P1 (a x : Fin 512) : k0_pay14 (F := Ideal) (arg2.view.readAt (Elt Ideal) (Rect.unit (s := S2x8192x128) (k0_off9 i k) S1x512x128.size (k0_off9_inb i k)).toLoadRect X_arg2) (arg3.view.readAt (Elt Ideal) (Rect.unit (s := S2x512x128) ![1, 0, 0] S1x512x128.size (by decide)).toLoadRect X_arg3) (arg6.view.readAt (Elt Ideal) (Rect.unit (s := S2x1x8192) (k0_off10 i k) S1x1x512.size (k0_off10_inb i k)).toLoadRect X_arg6) (ix2 a x) = ((blk arg2 arg3 arg5 arg6 arg7 vb X_arg2 X_arg3 X_arg5 X_arg6 X_arg7)).PM (i 1).val 1 a (row ((i 1).val + 1 + k.val) x) := by
  have hq := tile_lt i k
  rw [pay14_apply, Blk.PM_later _ (by omega) hq]
  unfold Blk.P
  simp only [rd_rows3 _ _ hq (o9 i k), rd_lanes _ _ hq (o10 i k), rd_keys _ _ ok1]

theorem trip_D0 (a x : Fin 512) : k0_pay7 (F := Ideal) (k0_pay39 (F := Ideal) vb) (arg5.view.readAt (Elt Ideal) (Rect.unit (s := S8192x128) (k0_off6 i k) S512x128.size (k0_off6_inb i k)).toLoadRect X_arg5) (arg2.view.readAt (Elt Ideal) (Rect.unit (s := S2x8192x128) (k0_off7 i k) S1x512x128.size (k0_off7_inb i k)).toLoadRect X_arg2) (arg3.view.readAt (Elt Ideal) (Rect.unit (s := S2x512x128) ![0, 0, 0] S1x512x128.size (by decide)).toLoadRect X_arg3) (arg6.view.readAt (Elt Ideal) (Rect.unit (s := S2x1x8192) (k0_off8 i k) S1x1x512.size (k0_off8_inb i k)).toLoadRect X_arg6) (arg7.view.readAt (Elt Ideal) (Rect.unit (s := S2x1x8192) (k0_off8 i k) S1x1x512.size (k0_off8_inb i k)).toLoadRect X_arg7) (ix2 a x)
    = ((blk arg2 arg3 arg5 arg6 arg7 vb X_arg2 X_arg3 X_arg5 X_arg6 X_arg7)).DM (i 1).val 0 a (row ((i 1).val + 1 + k.val) x) := by
  have hq := tile_lt i k
  rw [pay7_apply, trip_P0 (vb := vb) (X_arg5 := X_arg5) (X_arg7 := X_arg7)]
  unfold Blk.DM Blk.vm
  simp only [rd_rows2 _ _ hq (o6 i k), rd_lanes _ _ hq (o8 i k), pay39_apply]

theorem trip_D1 (a x : Fin 512) : k0_pay15 (F := Ideal) (k0_pay40 (F := Ideal) vb) (k0_pay3 (arg5.view.readAt (Elt Ideal) (Rect.unit (s := S8192x128) (k0_off6 i k) S512x128.size (k0_off6_inb i k)).toLoadRect X_arg5)) (arg2.view.readAt (Elt Ideal) (Rect.unit (s := S2x8192x128) (k0_off9 i k) S1x512x128.size (k0_off9_inb i k)).toLoadRect X_arg2) (arg3.view.readAt (Elt Ideal) (Rect.unit (s := S2x512x128) ![1, 0, 0] S1x512x128.size (by decide)).toLoadRect X_arg3) (arg6.view.readAt (Elt Ideal) (Rect.unit (s := S2x1x8192) (k0_off10 i k) S1x1x512.size (k0_off10_inb i k)).toLoadRect X_arg6) (arg7.view.readAt (Elt Ideal) (Rect.unit (s := S2x1x8192) (k0_off10 i k) S1x1x512.size (k0_off10_inb i k)).toLoadRect X_arg7) (ix2 a x)
    = ((blk arg2 arg3 arg5 arg6 arg7 vb X_arg2 X_arg3 X_arg5 X_arg6 X_arg7)).DM (i 1).val 1 a (row ((i 1).val + 1 + k.val) x) := by
  have hq := tile_lt i k
  rw [pay15_apply, trip_P1 (vb := vb) (X_arg5 := X_arg5) (X_arg7 := X_arg7)]
  unfold Blk.DM Blk.vm
  simp only [rd_rows2 _ _ hq (o6 i k), rd_lanes _ _ hq (o10 i k), pay40_apply]

theorem tripR_dk0 (a : Fin 512) (d : Fin 128) : (tripR_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 k acc f).1 (ix2 a d)
    = acc.1 (ix2 a d) + ((blk arg2 arg3 arg5 arg6 arg7 vb X_arg2 X_arg3 X_arg5 X_arg6 X_arg7)).tdk (i 1).val 0 ((i 1).val + 1 + k.val) a d := by
  have hq := tile_lt i k
  rw [tripR_eq]
  refine (pay9_apply ..).trans ?_
  refine congrArg _ (Finset.sum_congr rfl fun x _ => ?_)
  exact congrArg₂ (· * ·) (trip_D0 ..) (rd_rows3 _ _ hq (o7 i k) ..)

theorem tripR_dk1 (a : Fin 512) (d : Fin 128) : (tripR_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 k acc f).2.1 (ix2 a d)
    = acc.2.1 (ix2 a d) + ((blk arg2 arg3 arg5 arg6 arg7 vb X_arg2 X_arg3 X_arg5 X_arg6 X_arg7)).tdk (i 1).val 1 ((i 1).val + 1 + k.val) a d := by
  have hq := tile_lt i k
  rw [tripR_eq]
  refine (pay17_apply ..).trans ?_
  refine congrArg _ (Finset.sum_congr rfl fun x _ => ?_)
  exact congrArg₂ (· * ·) (trip_D1 ..) (rd_rows3 _ _ hq (o9 i k) ..)

theorem tripR_dv (a : Fin 512) (d : Fin 128) : (tripR_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 k acc f).2.2 (ix2 a d)
    = acc.2.2 (ix2 a d) + (((blk arg2 arg3 arg5 arg6 arg7 vb X_arg2 X_arg3 X_arg5 X_arg6 X_arg7)).tdv (i 1).val 0 ((i 1).val + 1 + k.val) a d + ((blk arg2 arg3 arg5 arg6 arg7 vb X_arg2 X_arg3 X_arg5 X_arg6 X_arg7)).tdv (i 1).val 1 ((i 1).val + 1 + k.val) a d) := by
  have hq := tile_lt i k
  rw [tripR_eq]
  refine (pay16_apply ..).trans ?_
  rw [pay8_apply, add_assoc]
  refine congrArg _ (congrArg₂ (· + ·) (Finset.sum_congr rfl fun x _ => ?_) (Finset.sum_congr rfl fun x _ => ?_))
  · refine congrArg₂ (· * ·) (trip_P0 ..) ?_
    rw [rd_rows2 _ _ hq (o6 i k)]; rfl
  · refine congrArg₂ (· * ·) (trip_P1 ..) ?_
    rw [pay4_apply, rd_rows2 _ _ hq (o6 i k)]; rfl

theorem tripL_dq (r : Fin 2) (x : Fin 8192) (d : Fin 128) :
    arg8.view.read (Elt Ideal) (arg8.view.writes (Elt Ideal) f (tripL_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 k acc f)) (ix3 r x d)
    = arg8.view.read (Elt Ideal) f (ix3 r x d)
      + if x.val / 512 = (i 1).val + 1 + k.val then ((blk arg2 arg3 arg5 arg6 arg7 vb X_arg2 X_arg3 X_arg5 X_arg6 X_arg7)).tdq (i 1).val r x d else 0 := by
  have hq := tile_lt i k
  rw [tripL_eq]
  rw [rd_store arg8.view f hq (o9 i k) _ _ _ (fun r x d => arg8.view.read (Elt Ideal) f (ix3 r x d) + ((blk arg2 arg3 arg5 arg6 arg7 vb X_arg2 X_arg3 X_arg5 X_arg6 X_arg7)).tdq (i 1).val r x d)]
  · rw [rd_store arg8.view f hq (o7 i k) _ _ _ (fun r x d => arg8.view.read (Elt Ideal) f (ix3 r x d) + ((blk arg2 arg3 arg5 arg6 arg7 vb X_arg2 X_arg3 X_arg5 X_arg6 X_arg7)).tdq (i 1).val r x d)]
    · by_cases hx : x.val / 512 = (i 1).val + 1 + k.val
      · rw [if_pos hx]
        fin_cases r
        · exact (if_neg (fun h => absurd h.1 (by decide))).trans (if_pos ⟨rfl, hx⟩)
        · exact if_pos ⟨rfl, hx⟩
      · rw [if_neg hx, if_neg (fun h => hx h.2), if_neg (fun h => hx h.2), add_zero]
        rfl
    · intro x d
      refine (pay12_apply ..).trans ?_
      refine congrArg₂ (· + ·) (rd_rows3 _ _ hq (o7 i k) ..) (Finset.sum_congr rfl fun a _ => ?_)
      exact congrArg₂ (· * ·) (trip_D0 ..) (rd_keys _ _ ok0 ..)
  · intro x d
    refine (pay1_apply ..).trans ?_
    refine (pay18_apply ..).trans ?_
    refine congrArg₂ (· + ·) (rd_rows3 _ _ hq (o9 i k) ..) (Finset.sum_congr rfl fun a _ => ?_)
    exact congrArg₂ (· * ·) (trip_D1 ..) (rd_keys _ _ ok1 ..)

end Trip

end Cert.KernelIdeal.Val
end
-- ==== Proof.LoopVal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pointwise
public import Idealize.ShloMosaic.Lib.VecWindow
public import proofs.«01_k».proof.Proof.Trip
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem trips2_eq : ∀ i : grid0.Coords, (k0_t2_loop i).trips = 0 := fun i => Nat.le_zero.mp (k0_t2_abs i).2.1

section Loop
variable (𝒱 : Variants) (c : Dev nD) (bd : Option 𝒱.V) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (arg1 : BitVec 32) (v13 : FVec Ideal S512x128 .f32) (v15 : BitVec 32) (v18 : FVec Ideal S512x128 .bf16) (v20 : FVec Ideal S512x128 .bf16) (v46 : FVec Ideal S512x128 .f32) (v48 : FVec Ideal S512x128 .f32) (v62 : FVec Ideal S512x128 .bf16) (v74 : FVec Ideal S512x512 .f32) (cst_34 : FVec Ideal S512x512 .f32) (v99 : BitVec 32) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (vb : Vec Ideal S512x128 .bf16) (G : BufTy.Contents (Elt Ideal) arg8.view.ty) (init : FVec Ideal S512x128 .f32 × FVec Ideal S512x128 .f32 × FVec Ideal S512x128 .f32)

/-- After `n` trips: the carried gradients have the tiles' parts added, the queries' gradient has the key block's part in
those tiles. -/
theorem loop_at (n : ℕ) (hn : n ≤ (k0_t1_loop i).trips) :
    (∀ a d, (st_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init n).1.1 (ix2 a d) = init.1 (ix2 a d) + ∑ j ∈ Finset.range n, ((blk arg2 arg3 arg5 arg6 arg7 vb X_arg2 X_arg3 X_arg5 X_arg6 X_arg7)).tdk (i 1).val 0 ((i 1).val + 1 + j) a d)
    ∧ (∀ a d, (st_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init n).1.2.1 (ix2 a d) = init.2.1 (ix2 a d) + ∑ j ∈ Finset.range n, ((blk arg2 arg3 arg5 arg6 arg7 vb X_arg2 X_arg3 X_arg5 X_arg6 X_arg7)).tdk (i 1).val 1 ((i 1).val + 1 + j) a d)
    ∧ (∀ a d, (st_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init n).1.2.2 (ix2 a d) = init.2.2 (ix2 a d)
        + ∑ j ∈ Finset.range n, (((blk arg2 arg3 arg5 arg6 arg7 vb X_arg2 X_arg3 X_arg5 X_arg6 X_arg7)).tdv (i 1).val 0 ((i 1).val + 1 + j) a d + ((blk arg2 arg3 arg5 arg6 arg7 vb X_arg2 X_arg3 X_arg5 X_arg6 X_arg7)).tdv (i 1).val 1 ((i 1).val + 1 + j) a d))
    ∧ (∀ r x d, arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init n).2) (ix3 r x d)
        = arg8.view.read (Elt Ideal) G (ix3 r x d)
          + if (i 1).val + 1 ≤ x.val / 512 ∧ x.val / 512 < (i 1).val + 1 + n then ((blk arg2 arg3 arg5 arg6 arg7 vb X_arg2 X_arg3 X_arg5 X_arg6 X_arg7)).tdq (i 1).val r x d else 0) := by
  induction n with
  | zero =>
    refine ⟨fun a d => ?_, fun a d => ?_, fun a d => ?_, fun r x d => ?_⟩
    · rw [Finset.range_zero, Finset.sum_empty, add_zero]; rfl
    · rw [Finset.range_zero, Finset.sum_empty, add_zero]; rfl
    · rw [Finset.range_zero, Finset.sum_empty, add_zero]; rfl
    · rw [if_neg (by omega), add_zero]; rfl
  | succ n ih =>
    obtain ⟨h0, h1, h2, h3⟩ := ih (by omega)
    have e := st_k0_t1_succ (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init ⟨n, by omega⟩
    refine ⟨fun a d => ?_, fun a d => ?_, fun a d => ?_, fun r x d => ?_⟩
    · refine (congrArg (fun s => s.1.1 (ix2 a d)) e).trans ((tripR_dk0 ..).trans ?_)
      rw [h0 a d, add_assoc, Finset.sum_range_succ]
    · refine (congrArg (fun s => s.1.2.1 (ix2 a d)) e).trans ((tripR_dk1 ..).trans ?_)
      rw [h1 a d, add_assoc, Finset.sum_range_succ]
    · refine (congrArg (fun s => s.1.2.2 (ix2 a d)) e).trans ((tripR_dv ..).trans ?_)
      rw [h2 a d, add_assoc, Finset.sum_range_succ]
    · refine (congrArg (fun s => arg8.view.read (Elt Ideal) (arg8.view.writes (Elt Ideal) G s.2) (ix3 r x d)) e).trans ?_
      refine (congrArg (fun s => arg8.view.read (Elt Ideal) s (ix3 r x d)) (View.writes_append ..)).trans ?_
      refine (tripL_dq ..).trans ?_
      rw [h3 r x d, add_assoc]
      congr 1
      show (if (i 1).val + 1 ≤ x.val / 512 ∧ x.val / 512 < (i 1).val + 1 + n then ((blk arg2 arg3 arg5 arg6 arg7 vb X_arg2 X_arg3 X_arg5 X_arg6 X_arg7)).tdq (i 1).val r x d else 0)
        + (if x.val / 512 = (i 1).val + 1 + n then ((blk arg2 arg3 arg5 arg6 arg7 vb X_arg2 X_arg3 X_arg5 X_arg6 X_arg7)).tdq (i 1).val r x d else 0) = _
      by_cases hx : x.val / 512 = (i 1).val + 1 + n
      · rw [if_neg (by omega), if_pos hx, zero_add, if_pos (by omega)]
      · rw [if_neg hx, add_zero]
        by_cases hx' : (i 1).val + 1 ≤ x.val / 512 ∧ x.val / 512 < (i 1).val + 1 + n
        · rw [if_pos hx', if_pos (by omega)]
        · rw [if_neg hx', if_neg (by omega)]

theorem loop_dk0 (a : Fin 512) (d : Fin 128) : (st_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init (k0_t1_loop i).trips).1.1 (ix2 a d)
    = init.1 (ix2 a d) + ∑ j ∈ Finset.range (15 - (i 1).val), ((blk arg2 arg3 arg5 arg6 arg7 vb X_arg2 X_arg3 X_arg5 X_arg6 X_arg7)).tdk (i 1).val 0 ((i 1).val + 1 + j) a d :=
  ((loop_at (hn := le_rfl) ..).1 a d).trans (by rw [trips_eq])
theorem loop_dk1 (a : Fin 512) (d : Fin 128) : (st_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init (k0_t1_loop i).trips).1.2.1 (ix2 a d)
    = init.2.1 (ix2 a d) + ∑ j ∈ Finset.range (15 - (i 1).val), ((blk arg2 arg3 arg5 arg6 arg7 vb X_arg2 X_arg3 X_arg5 X_arg6 X_arg7)).tdk (i 1).val 1 ((i 1).val + 1 + j) a d :=
  ((loop_at (hn := le_rfl) ..).2.1 a d).trans (by rw [trips_eq])
theorem loop_dv (a : Fin 512) (d : Fin 128) : (st_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init (k0_t1_loop i).trips).1.2.2 (ix2 a d)
    = init.2.2 (ix2 a d) + ∑ j ∈ Finset.range (15 - (i 1).val),
        (((blk arg2 arg3 arg5 arg6 arg7 vb X_arg2 X_arg3 X_arg5 X_arg6 X_arg7)).tdv (i 1).val 0 ((i 1).val + 1 + j) a d + ((blk arg2 arg3 arg5 arg6 arg7 vb X_arg2 X_arg3 X_arg5 X_arg6 X_arg7)).tdv (i 1).val 1 ((i 1).val + 1 + j) a d) :=
  ((loop_at (hn := le_rfl) ..).2.2.1 a d).trans (by rw [trips_eq])
theorem loop_dq (r : Fin 2) (x : Fin 8192) (d : Fin 128) :
    arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v99 X_arg2 X_arg3 X_arg5 X_arg6 X_arg7 G init (k0_t1_loop i).trips).2) (ix3 r x d)
    = arg8.view.read (Elt Ideal) G (ix3 r x d) + if (i 1).val + 1 ≤ x.val / 512 then ((blk arg2 arg3 arg5 arg6 arg7 vb X_arg2 X_arg3 X_arg5 X_arg6 X_arg7)).tdq (i 1).val r x d else 0 :=
  ((loop_at (hn := le_rfl) ..).2.2.2 r x d).trans (by
    have e := trips_eq i
    have hx := x.isLt
    have hi : (i 1).val < 16 := (i 1).isLt
    by_cases h : (i 1).val + 1 ≤ x.val / 512
    · rw [if_pos h, if_pos ⟨h, by omega⟩]
    · rw [if_neg h, if_neg (fun h' => h h'.1)])

end Loop

section Loop2
variable (𝒱 : Variants) (c : Dev nD) (bd : Option 𝒱.V) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (arg1 : BitVec 32) (v13 : FVec Ideal S512x128 .f32) (v15 : BitVec 32) (v18 : FVec Ideal S512x128 .bf16) (v20 : FVec Ideal S512x128 .bf16) (v46 : FVec Ideal S512x128 .f32) (v48 : FVec Ideal S512x128 .f32) (v62 : FVec Ideal S512x128 .bf16) (v74 : FVec Ideal S512x512 .f32) (cst_34 : FVec Ideal S512x512 .f32) (v104 : BitVec 32) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (vb : Vec Ideal S512x128 .bf16) (G : BufTy.Contents (Elt Ideal) arg8.view.ty) (init : FVec Ideal S512x128 .f32 × FVec Ideal S512x128 .f32 × FVec Ideal S512x128 .f32)
/-- The second loop has no trip. -/
theorem loop2_eq : st_k0_t2 (F := Ideal) 𝒱 c bd i arg2 harg2 arg3 harg3 arg4 harg4 arg5 harg5 arg6 harg6 arg7 harg7 arg8 harg8 arg9 harg9 arg10 harg10 arg1 k0_pay36 (k0_pay38 (F := Ideal)) (k0_pay39 (F := Ideal) vb) (k0_pay40 (F := Ideal) vb) v13 v15 v18 v20 v46 v48 v62 v74 cst_34 v104 X_arg2 X_arg3 X_arg5 X_arg6 X_arg7 G init (k0_t2_loop i).trips = (init, []) := by
  rw [trips2_eq]; rfl
end Loop2

end Cert.KernelIdeal.Val
end
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.LoopVal
public import Idealize.ShloMosaic.Lib.Pointwise
public import Idealize.ShloMosaic.Lib.VecWindow
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body clears the queries' gradient: the key block is the first. -/
abbrev cond0 (i : grid0.Coords) : Prop := (Scalar.cmpi .ne (Scalar.extui (Scalar.cmpi .eq (BitVec.ofNat 32 (i 1).val) 0#32)) 0#32) = 1#1

/-- The nine buffers of one call of the body and what they hold. -/
abbrev Bufs (c : Dev nD) (arg2 : Memref sig .tc .vmem S2x8192x128 .bf16) (arg3 : Memref sig .tc .vmem S2x512x128 .bf16) (arg4 : Memref sig .tc .vmem S512x128 .bf16) (arg5 : Memref sig .tc .vmem S8192x128 .bf16) (arg6 : Memref sig .tc .vmem S2x1x8192 .f32) (arg7 : Memref sig .tc .vmem S2x1x8192 .f32) (arg8 : Memref sig .tc .vmem S2x8192x128 .f32) (arg9 : Memref sig .tc .vmem S2x512x128 .f32) (arg10 : Memref sig .tc .vmem S512x128 .bf16)
    (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) (X5 : BufTy.Contents (Elt F) arg7.view.ty) (f6 : BufTy.Contents (Elt F) arg8.view.ty) (f7 : BufTy.Contents (Elt F) arg9.view.ty) (f8 : BufTy.Contents (Elt F) arg10.view.ty) : sProp 𝕄 :=
  iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg5.view.loc (c : Thread nD τ) ↦[arg5.view.set]{fullShare} X3) ∗ (arg6.view.loc (c : Thread nD τ) ↦[arg6.view.set]{fullShare} X4) ∗ (arg7.view.loc (c : Thread nD τ) ↦[arg7.view.set]{fullShare} X5) ∗ (arg8.view.loc (c : Thread nD τ) ↦[arg8.view.set]{fullShare} f6) ∗ (arg9.view.loc (c : Thread nD τ) ↦[arg9.view.set]{fullShare} f7) ∗ (arg10.view.loc (c : Thread nD τ) ↦[arg10.view.set]{fullShare} f8))

set_option maxHeartbeats 1000000 in
/-- The body's run at the first key block; what it leaves in its three outputs is found by the run. -/
def runA (c : Dev nD) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (hc0 : cond0 i)
    (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) (X5 : BufTy.Contents (Elt F) arg7.view.ty) (f6 : BufTy.Contents (Elt F) arg8.view.ty) (f7 : BufTy.Contents (Elt F) arg9.view.ty) (f8 : BufTy.Contents (Elt F) arg10.view.ty) :
    Σ' (g6 : BufTy.Contents (Elt F) arg8.view.ty) (g7 : BufTy.Contents (Elt F) arg9.view.ty), { g8 : BufTy.Contents (Elt F) arg10.view.ty // ∀ (E : Set ℕ),
      Bufs c arg2 arg3 arg4 arg5 arg6 arg7 arg8 arg9 arg10 X0 X1 X2 X3 X4 X5 f6 f7 f8
      ⊢ wp frame (wpE (defs₀ (F := F)) Variants.none c none) E (cc0_fox_bwd i arg2 harg2 arg3 harg3 arg4 harg4 arg5 harg5 arg6 harg6 arg7 harg7 arg8 harg8 arg9 harg9 arg10 harg10)
         (fun _ => Bufs c arg2 arg3 arg4 arg5 arg6 arg7 arg8 arg9 arg10 X0 X1 X2 X3 X4 X5 g6 g7 g8) } := by
  refine ⟨?_, ?_, ?_, fun E => ?run⟩
  case run =>
    simp only [cc0_fox_bwd_eq_skeleton]; unfold cc0_fox_bwd_skel
    simp only [k0_part5_eq_skeleton, k0_part6_eq_skeleton, k0_part7_eq_skeleton]
    iintro ⟨H0, H1, H2, H3, H4, H5, H6, H7, H8⟩
    sl_exec (disch := first | sl_exact hc0)
    sl_step
    sl_close

set_option maxHeartbeats 1000000 in
/-- The body's run at a later key block. -/
def runB (c : Dev nD) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (hc0 : ¬cond0 i)
    (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) (X5 : BufTy.Contents (Elt F) arg7.view.ty) (f6 : BufTy.Contents (Elt F) arg8.view.ty) (f7 : BufTy.Contents (Elt F) arg9.view.ty) (f8 : BufTy.Contents (Elt F) arg10.view.ty) :
    Σ' (g6 : BufTy.Contents (Elt F) arg8.view.ty) (g7 : BufTy.Contents (Elt F) arg9.view.ty), { g8 : BufTy.Contents (Elt F) arg10.view.ty // ∀ (E : Set ℕ),
      Bufs c arg2 arg3 arg4 arg5 arg6 arg7 arg8 arg9 arg10 X0 X1 X2 X3 X4 X5 f6 f7 f8
      ⊢ wp frame (wpE (defs₀ (F := F)) Variants.none c none) E (cc0_fox_bwd i arg2 harg2 arg3 harg3 arg4 harg4 arg5 harg5 arg6 harg6 arg7 harg7 arg8 harg8 arg9 harg9 arg10 harg10)
         (fun _ => Bufs c arg2 arg3 arg4 arg5 arg6 arg7 arg8 arg9 arg10 X0 X1 X2 X3 X4 X5 g6 g7 g8) } := by
  refine ⟨?_, ?_, ?_, fun E => ?run⟩
  case run =>
    simp only [cc0_fox_bwd_eq_skeleton]; unfold cc0_fox_bwd_skel
    simp only [k0_part5_eq_skeleton, k0_part6_eq_skeleton, k0_part7_eq_skeleton]
    iintro ⟨H0, H1, H2, H3, H4, H5, H6, H7, H8⟩
    sl_exec (disch := first | sl_exact hc0)
    sl_step
    sl_close

end Cert.KernelIdeal.Val
end
-- ==== Proof.Same.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Body
public import Idealize.ShloMosaic.Lib.Pointwise
public import Idealize.ShloMosaic.Lib.VecWindow
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Store
variable {κ : Kind} {sp : Space} {e : EltTy}
/-- A store over a whole buffer hides what the buffer held. -/
theorem read_whole (v : View sig κ sp S512x128 e) (f g : v.ty.Contents (Elt F)) (inb : ∀ a, (![0, 0] : Fin 2 → ℕ) a + S512x128.size a ≤ S512x128.size a)
    (w : S512x128.Idx → Elt F e) :
    v.read (Elt F) (v.writes (Elt F) f [(⟨Rect.unit (s := S512x128) ![0, 0] S512x128.size inb, w⟩ : View.Piece (Elt F) S512x128 e)])
      = v.read (Elt F) (v.writes (Elt F) g [(⟨Rect.unit (s := S512x128) ![0, 0] S512x128.size inb, w⟩ : View.Piece (Elt F) S512x128 e)]) := by
  have key : ∀ f : v.ty.Contents (Elt F), ∀ j, v.read (Elt F) (v.writes (Elt F) f [(⟨Rect.unit (s := S512x128) ![0, 0] S512x128.size inb, w⟩ : View.Piece (Elt F) S512x128 e)]) j = w j := fun f j => by
    refine View.read_writes_cons_unit_of_mem v f inb w [] j j rfl fun k => ?_
    fin_cases k
    · exact (Nat.zero_add _).symm
    · exact (Nat.zero_add _).symm
  exact funext fun j => (key f j).trans (key g j).symm

/-- Two stores, one over each half, hide what the buffer held. -/
theorem read_two (v : View sig κ sp S2x512x128 e) (f g : v.ty.Contents (Elt F))
    (inb1 : ∀ a, (![1, 0, 0] : Fin 3 → ℕ) a + S1x512x128.size a ≤ S2x512x128.size a) (inb0 : ∀ a, (![0, 0, 0] : Fin 3 → ℕ) a + S1x512x128.size a ≤ S2x512x128.size a)
    (w1 w0 : S1x512x128.Idx → Elt F e) :
    v.read (Elt F) (v.writes (Elt F) f [(⟨Rect.unit (s := S2x512x128) ![1, 0, 0] S1x512x128.size inb1, w1⟩ : View.Piece (Elt F) S2x512x128 e), ⟨Rect.unit (s := S2x512x128) ![0, 0, 0] S1x512x128.size inb0, w0⟩])
      = v.read (Elt F) (v.writes (Elt F) g [(⟨Rect.unit (s := S2x512x128) ![1, 0, 0] S1x512x128.size inb1, w1⟩ : View.Piece (Elt F) S2x512x128 e), ⟨Rect.unit (s := S2x512x128) ![0, 0, 0] S1x512x128.size inb0, w0⟩]) := by
  have key : ∀ f : v.ty.Contents (Elt F), ∀ r a d, v.read (Elt F) (v.writes (Elt F) f [(⟨Rect.unit (s := S2x512x128) ![1, 0, 0] S1x512x128.size inb1, w1⟩ : View.Piece (Elt F) S2x512x128 e), ⟨Rect.unit (s := S2x512x128) ![0, 0, 0] S1x512x128.size inb0, w0⟩]) (ix3 r a d)
      = if r = 0 then w0 (ix3 0 a d) else w1 (ix3 0 a d) := fun f r a d => by
    fin_cases r
    · refine (View.read_writes_cons_unit_of_not_mem v f inb1 w1 _ (ix3 0 a d) rfl 0 (Or.inl Nat.zero_lt_one)).trans ?_
      refine (View.read_writes_cons_unit_of_mem v f inb0 w0 [] (ix3 0 a d) (ix3 0 a d) rfl fun k => ?_).trans rfl
      fin_cases k <;> exact (Nat.zero_add _).symm
    · refine (View.read_writes_cons_unit_of_mem v f inb1 w1 _ (ix3 1 a d) (ix3 0 a d) rfl fun k => ?_).trans rfl
      fin_cases k
      · rfl
      · exact (Nat.zero_add _).symm
      · exact (Nat.zero_add _).symm
  refine funext fun j => ?_
  rw [eq_ix3 j]
  exact (key f _ _ _).trans (key g _ _ _).symm
end Store

section A
variable (c : Dev nD) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (hc0 : cond0 i) (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) (X5 : BufTy.Contents (Elt F) arg7.view.ty)  (f6 e6 : BufTy.Contents (Elt F) arg8.view.ty) (f7 e7 : BufTy.Contents (Elt F) arg9.view.ty) (f8 e8 : BufTy.Contents (Elt F) arg10.view.ty)

/-- What the body leaves in its outputs does not depend on what they held. -/
theorem sameA_6 : (runA c i arg2 harg2 arg3 harg3 arg4 harg4 arg5 harg5 arg6 harg6 arg7 harg7 arg8 harg8 arg9 harg9 arg10 harg10 hc0 X0 X1 X2 X3 X4 X5 f6 f7 f8).1 = (runA c i arg2 harg2 arg3 harg3 arg4 harg4 arg5 harg5 arg6 harg6 arg7 harg7 arg8 harg8 arg9 harg9 arg10 harg10 hc0 X0 X1 X2 X3 X4 X5 e6 e7 e8).1 := rfl
theorem sameA_7 : arg9.view.read (Elt F) (runA c i arg2 harg2 arg3 harg3 arg4 harg4 arg5 harg5 arg6 harg6 arg7 harg7 arg8 harg8 arg9 harg9 arg10 harg10 hc0 X0 X1 X2 X3 X4 X5 f6 f7 f8).2.1 = arg9.view.read (Elt F) (runA c i arg2 harg2 arg3 harg3 arg4 harg4 arg5 harg5 arg6 harg6 arg7 harg7 arg8 harg8 arg9 harg9 arg10 harg10 hc0 X0 X1 X2 X3 X4 X5 e6 e7 e8).2.1 := by
  unfold runA
  dsimp only
  exact read_two arg9.view f7 e7 _ _ _ _
theorem sameA_8 : arg10.view.read (Elt F) (runA c i arg2 harg2 arg3 harg3 arg4 harg4 arg5 harg5 arg6 harg6 arg7 harg7 arg8 harg8 arg9 harg9 arg10 harg10 hc0 X0 X1 X2 X3 X4 X5 f6 f7 f8).2.2.1 = arg10.view.read (Elt F) (runA c i arg2 harg2 arg3 harg3 arg4 harg4 arg5 harg5 arg6 harg6 arg7 harg7 arg8 harg8 arg9 harg9 arg10 harg10 hc0 X0 X1 X2 X3 X4 X5 e6 e7 e8).2.2.1 := by
  unfold runA
  dsimp only
  exact read_whole arg10.view f8 e8 _ _
end A

section B
variable (c : Dev nD) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (hc0 : ¬cond0 i) (X0 : BufTy.Contents (Elt F) arg2.view.ty) (X1 : BufTy.Contents (Elt F) arg3.view.ty) (X2 : BufTy.Contents (Elt F) arg4.view.ty) (X3 : BufTy.Contents (Elt F) arg5.view.ty) (X4 : BufTy.Contents (Elt F) arg6.view.ty) (X5 : BufTy.Contents (Elt F) arg7.view.ty)  (f6 e6 : BufTy.Contents (Elt F) arg8.view.ty) (f7 e7 : BufTy.Contents (Elt F) arg9.view.ty) (f8 e8 : BufTy.Contents (Elt F) arg10.view.ty)

/-- What the body leaves in its outputs does not depend on what the last two held. -/
theorem sameB_6 : (runB c i arg2 harg2 arg3 harg3 arg4 harg4 arg5 harg5 arg6 harg6 arg7 harg7 arg8 harg8 arg9 harg9 arg10 harg10 hc0 X0 X1 X2 X3 X4 X5 f6 f7 f8).1 = (runB c i arg2 harg2 arg3 harg3 arg4 harg4 arg5 harg5 arg6 harg6 arg7 harg7 arg8 harg8 arg9 harg9 arg10 harg10 hc0 X0 X1 X2 X3 X4 X5 f6 e7 e8).1 := rfl
theorem sameB_7 : arg9.view.read (Elt F) (runB c i arg2 harg2 arg3 harg3 arg4 harg4 arg5 harg5 arg6 harg6 arg7 harg7 arg8 harg8 arg9 harg9 arg10 harg10 hc0 X0 X1 X2 X3 X4 X5 f6 f7 f8).2.1 = arg9.view.read (Elt F) (runB c i arg2 harg2 arg3 harg3 arg4 harg4 arg5 harg5 arg6 harg6 arg7 harg7 arg8 harg8 arg9 harg9 arg10 harg10 hc0 X0 X1 X2 X3 X4 X5 f6 e7 e8).2.1 := by
  unfold runB
  dsimp only
  exact read_two arg9.view f7 e7 _ _ _ _
theorem sameB_8 : arg10.view.read (Elt F) (runB c i arg2 harg2 arg3 harg3 arg4 harg4 arg5 harg5 arg6 harg6 arg7 harg7 arg8 harg8 arg9 harg9 arg10 harg10 hc0 X0 X1 X2 X3 X4 X5 f6 f7 f8).2.2.1 = arg10.view.read (Elt F) (runB c i arg2 harg2 arg3 harg3 arg4 harg4 arg5 harg5 arg6 harg6 arg7 harg7 arg8 harg8 arg9 harg9 arg10 harg10 hc0 X0 X1 X2 X3 X4 X5 f6 e7 e8).2.2.1 := by
  unfold runB
  dsimp only
  exact read_whole arg10.view f8 e8 _ _
end B

end Cert.KernelIdeal.Val
end
-- ==== Proof.Run.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Same
public import Idealize.ShloMosaic.Lib.Pointwise
public import Idealize.ShloMosaic.Lib.VecWindow
public import Idealize.ShloMosaic.Lib.Tactic

public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first key block of a pair of heads is at the points ≡ 0 (mod 16). -/
theorem hcond0 : ∀ t : Fin cfg0.N, cond0 (grid0.coords t) ↔ t.val % 16 = 0 :=
  (fun t => by
    have ht : t.val < 128 := Nat.lt_of_lt_of_eq t.isLt N_0
    have e1 : (grid0.coords t 1).val = t.val / 1 % 16 := Pipeline.Grid.coords_val t 1 (by decide) rfl
    simp only [cond0, e1]
    word_cmp
   : ∀ t : Fin grid0.N, cond0 (grid0.coords t) ↔ t.val % 16 = 0)

/-! Each window's current staging memref. -/
abbrev ms0 (t : Fin cfg0.N) : Memref sig .tc .vmem S2x8192x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1x8192 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x1x8192 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x8192x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x128 .bf16 := win0_8.stage (cfg0.slots t 8)
abbrev hs8 (t : Fin cfg0.N) : (ms8 t).IsWhole := hstage0_8 ((cfg0.slots t 8).cast nbuf0_8)

/-- The body at point `t`, on the windows' blocks and what the outputs hold. -/
def leftA (c : Dev nD) (t : Fin cfg0.N) (h : cond0 (grid0.coords t)) (f6 : BufTy.Contents (Elt F) (ms6 t).view.ty) (f7 : BufTy.Contents (Elt F) (ms7 t).view.ty) (f8 : BufTy.Contents (Elt F) (ms8 t).view.ty) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) h ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) f6 f7 f8
def leftB (c : Dev nD) (t : Fin cfg0.N) (h : ¬cond0 (grid0.coords t)) (f6 : BufTy.Contents (Elt F) (ms6 t).view.ty) (f7 : BufTy.Contents (Elt F) (ms7 t).view.ty) (f8 : BufTy.Contents (Elt F) (ms8 t).view.ty) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) h ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) f6 f7 f8

/-- What it leaves in the queries' gradients' buffer, over what the queries' gradients' buffer held. -/
def left6 (c : Dev nD) (t : Fin cfg0.N) (f6 : BufTy.Contents (Elt F) (ms6 t).view.ty) : Vec F S2x8192x128 .f32 :=
  if h : cond0 (grid0.coords t) then (ms6 t).view.read (Elt F) (leftA m c t h f6 (ms7 t).view.junk (ms8 t).view.junk).1
  else (ms6 t).view.read (Elt F) (leftB m c t h f6 (ms7 t).view.junk (ms8 t).view.junk).1

/-- What it leaves in the keys' gradients' buffer, over what the queries' gradients' buffer held. -/
def left7 (c : Dev nD) (t : Fin cfg0.N) (f6 : BufTy.Contents (Elt F) (ms6 t).view.ty) : Vec F S2x512x128 .f32 :=
  if h : cond0 (grid0.coords t) then (ms7 t).view.read (Elt F) (leftA m c t h f6 (ms7 t).view.junk (ms8 t).view.junk).2.1
  else (ms7 t).view.read (Elt F) (leftB m c t h f6 (ms7 t).view.junk (ms8 t).view.junk).2.1

/-- What it leaves in the values' gradients' buffer, over what the queries' gradients' buffer held. -/
def left8 (c : Dev nD) (t : Fin cfg0.N) (f6 : BufTy.Contents (Elt F) (ms6 t).view.ty) : Vec F S512x128 .bf16 :=
  if h : cond0 (grid0.coords t) then (ms8 t).view.read (Elt F) (leftA m c t h f6 (ms7 t).view.junk (ms8 t).view.junk).2.2.1
  else (ms8 t).view.read (Elt F) (leftB m c t h f6 (ms7 t).view.junk (ms8 t).view.junk).2.2.1

/-- The queries' gradients after point `n`: accumulated over the key blocks. -/
def acc6 (c : Dev nD) : (n : ℕ) → n < cfg0.N → Vec F S2x8192x128 .f32
  | 0, h => left6 m c ⟨0, h⟩ (ms6 ⟨0, h⟩).view.junk
  | n + 1, h => left6 m c ⟨n + 1, h⟩ ((hs6 ⟨n + 1, h⟩).unread (acc6 c n (Nat.lt_of_succ_lt h)))

/-- What that buffer holds as point `t` begins. -/
def prev6 (c : Dev nD) (t : Fin cfg0.N) : BufTy.Contents (Elt F) (ms6 t).view.ty :=
  if h : t.val = 0 then (ms6 t).view.junk else (hs6 t).unread (acc6 m c (t.val - 1) (Nat.lt_of_le_of_lt (Nat.sub_le _ _) t.isLt))

theorem prev6_pos (c : Dev nD) (t : Fin cfg0.N) (h : ¬t.val = 0) : prev6 m c t = (hs6 t).unread (acc6 m c (t.val - 1) (Nat.lt_of_le_of_lt (Nat.sub_le _ _) t.isLt)) := by
  unfold prev6; rw [dif_neg h]

theorem acc6_eq (c : Dev nD) (t : Fin cfg0.N) : acc6 m c t.val t.isLt = left6 m c t (prev6 m c t) := by
  obtain ⟨n, h⟩ := t
  cases n with
  | zero => rfl
  | succ n => exact congrArg (left6 m c ⟨n + 1, h⟩) (prev6_pos m c ⟨n + 1, h⟩ (Nat.succ_ne_zero n)).symm

/-- The proof data: the arrays as the region finds them; each input's buffer at its block, the outputs' at what the
    body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc6 m c t.val t.isLt
    | ⟨7, _⟩ => left7 m c t (prev6 m c t)
    | ⟨8, _⟩ => left8 m c t (prev6 m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = acc6 m c t.val t.isLt := by dsimp only [dats]
theorem after_7 (c : Dev nD) (t : Fin cfg0.N) : (dats m 0 c).after 7 t = left7 m c t (prev6 m c t) := by dsimp only [dats]
theorem after_8 (c : Dev nD) (t : Fin cfg0.N) : (dats m 0 c).after 8 t = left8 m c t (prev6 m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The queries' gradients are found as the point before left them, but at a pair's first point. -/
theorem before_6 (c : Dev nD) (t : Fin cfg0.N) (ht : ¬t.val % 16 = 0) (d) :
    (dats m 0 c).before 6 t d = acc6 m c (t.val - 1) (Nat.lt_of_le_of_lt (Nat.sub_le _ _) t.isLt) := by
  have h0 : t.val ≠ 0 := fun h => ht (by rw [h])
  refine ((dats m 0 c).before_out_kept 6 rfl t h0 ?_ (fun _ => rfl) (fun _ _ => rfl) d).trans (after_6 m c _)
  refine Bool.eq_false_iff.mpr fun h => ?_
  have := (flush0_6 _).mp h
  dsimp only at this
  omega

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

theorem leftA_6 (c : Dev nD) (t : Fin cfg0.N) (h : cond0 (grid0.coords t)) (f6 : BufTy.Contents (Elt F) (ms6 t).view.ty) (f7 : BufTy.Contents (Elt F) (ms7 t).view.ty) (f8 : BufTy.Contents (Elt F) (ms8 t).view.ty) :
    (ms6 t).view.read (Elt F) (leftA m c t h f6 f7 f8).1 = acc6 m c t.val t.isLt := by
  rw [acc6_eq]; unfold left6; rw [dif_pos h]; exact congrArg _ (sameA_6 ..)
theorem leftA_7 (c : Dev nD) (t : Fin cfg0.N) (h : cond0 (grid0.coords t)) (f6 : BufTy.Contents (Elt F) (ms6 t).view.ty) (f7 : BufTy.Contents (Elt F) (ms7 t).view.ty) (f8 : BufTy.Contents (Elt F) (ms8 t).view.ty) :
    (ms7 t).view.read (Elt F) (leftA m c t h f6 f7 f8).2.1 = left7 m c t (prev6 m c t) := by
  unfold left7; rw [dif_pos h]; exact sameA_7 ..
theorem leftA_8 (c : Dev nD) (t : Fin cfg0.N) (h : cond0 (grid0.coords t)) (f6 : BufTy.Contents (Elt F) (ms6 t).view.ty) (f7 : BufTy.Contents (Elt F) (ms7 t).view.ty) (f8 : BufTy.Contents (Elt F) (ms8 t).view.ty) :
    (ms8 t).view.read (Elt F) (leftA m c t h f6 f7 f8).2.2.1 = left8 m c t (prev6 m c t) := by
  unfold left8; rw [dif_pos h]; exact sameA_8 ..

theorem leftB_6 (c : Dev nD) (t : Fin cfg0.N) (h : ¬cond0 (grid0.coords t)) (f7 : BufTy.Contents (Elt F) (ms7 t).view.ty) (f8 : BufTy.Contents (Elt F) (ms8 t).view.ty) :
    (ms6 t).view.read (Elt F) (leftB m c t h (prev6 m c t) f7 f8).1 = acc6 m c t.val t.isLt := by
  rw [acc6_eq]; unfold left6; rw [dif_neg h]; exact congrArg _ (sameB_6 ..)
theorem leftB_7 (c : Dev nD) (t : Fin cfg0.N) (h : ¬cond0 (grid0.coords t)) (f7 : BufTy.Contents (Elt F) (ms7 t).view.ty) (f8 : BufTy.Contents (Elt F) (ms8 t).view.ty) :
    (ms7 t).view.read (Elt F) (leftB m c t h (prev6 m c t) f7 f8).2.1 = left7 m c t (prev6 m c t) := by
  unfold left7; rw [dif_neg h]; exact sameB_7 ..
theorem leftB_8 (c : Dev nD) (t : Fin cfg0.N) (h : ¬cond0 (grid0.coords t)) (f7 : BufTy.Contents (Elt F) (ms7 t).view.ty) (f8 : BufTy.Contents (Elt F) (ms8 t).view.ty) :
    (ms8 t).view.read (Elt F) (leftB m c t h (prev6 m c t) f7 f8).2.2.1 = left8 m c t (prev6 m c t) := by
  unfold left8; rw [dif_neg h]; exact sameB_8 ..

set_option pp.deepTerms false in
set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold owns
  by_cases h0 : t.val % 16 = 0
  · iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
    obtain rfl := (hs0 t).eq_unread hf0
    obtain rfl := (hs1 t).eq_unread hf1
    obtain rfl := (hs2 t).eq_unread hf2
    obtain rfl := (hs3 t).eq_unread hf3
    obtain rfl := (hs4 t).eq_unread hf4
    obtain rfl := (hs5 t).eq_unread hf5
    iapply (wp_wand_r frame _ Set.univ (Q := fun _ => Bufs c (ms0 t) (ms1 t) (ms2 t) (ms3 t) (ms4 t) (ms5 t) (ms6 t) (ms7 t) (ms8 t) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) (leftA m c t ((hcond0 t).mpr h0) f6 f7 f8).1 (leftA m c t ((hcond0 t).mpr h0) f6 f7 f8).2.1 (leftA m c t ((hcond0 t).mpr h0) f6 f7 f8).2.2.1))
    isplitl [H0 H1 H2 H3 H4 H5 H6 H7 H8]
    · iapply ((leftA m c t ((hcond0 t).mpr h0) f6 f7 f8).2.2.2 Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro %a
    dsimp only [Bufs]
    iintro ⟨H0, H1, H2, H3, H4, H5, H6, H7, H8⟩
    isplitl [HΦ]; · iexact HΦ
    isplitl [Ho]; · iexact Ho
    isplitl [H0]
    · iexists _; isplitr; · ipureintro; exact (hs0 t).read_unread _
      iexact H0
    isplitl [H1]
    · iexists _; isplitr; · ipureintro; exact (hs1 t).read_unread _
      iexact H1
    isplitl [H2]
    · iexists _; isplitr; · ipureintro; exact (hs2 t).read_unread _
      iexact H2
    isplitl [H3]
    · iexists _; isplitr; · ipureintro; exact (hs3 t).read_unread _
      iexact H3
    isplitl [H4]
    · iexists _; isplitr; · ipureintro; exact (hs4 t).read_unread _
      iexact H4
    isplitl [H5]
    · iexists _; isplitr; · ipureintro; exact (hs5 t).read_unread _
      iexact H5
    isplitl [H6]
    · iexists _; isplitr; swap; · iexact H6
      ipureintro; exact leftA_6 m c t ((hcond0 t).mpr h0) f6 f7 f8
    isplitl [H7]
    · iexists _; isplitr; swap; · iexact H7
      ipureintro; exact leftA_7 m c t ((hcond0 t).mpr h0) f6 f7 f8
    iexists _; isplitr; swap; · iexact H8
    ipureintro; exact leftA_8 m c t ((hcond0 t).mpr h0) f6 f7 f8
  · iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
    obtain rfl := (hs0 t).eq_unread hf0
    obtain rfl := (hs1 t).eq_unread hf1
    obtain rfl := (hs2 t).eq_unread hf2
    obtain rfl := (hs3 t).eq_unread hf3
    obtain rfl := (hs4 t).eq_unread hf4
    obtain rfl := (hs5 t).eq_unread hf5
    rw [before_6 m c t h0 d6] at hf6
    obtain rfl : f6 = prev6 m c t := ((hs6 t).eq_unread hf6).trans (prev6_pos m c t (fun h => h0 (by rw [h]))).symm
    iapply (wp_wand_r frame _ Set.univ (Q := fun _ => Bufs c (ms0 t) (ms1 t) (ms2 t) (ms3 t) (ms4 t) (ms5 t) (ms6 t) (ms7 t) (ms8 t) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) (leftB m c t (fun h => h0 ((hcond0 t).mp h)) (prev6 m c t) f7 f8).1 (leftB m c t (fun h => h0 ((hcond0 t).mp h)) (prev6 m c t) f7 f8).2.1 (leftB m c t (fun h => h0 ((hcond0 t).mp h)) (prev6 m c t) f7 f8).2.2.1))
    isplitl [H0 H1 H2 H3 H4 H5 H6 H7 H8]
    · iapply ((leftB m c t (fun h => h0 ((hcond0 t).mp h)) (prev6 m c t) f7 f8).2.2.2 Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro %a
    dsimp only [Bufs]
    iintro ⟨H0, H1, H2, H3, H4, H5, H6, H7, H8⟩
    isplitl [HΦ]; · iexact HΦ
    isplitl [Ho]; · iexact Ho
    isplitl [H0]
    · iexists _; isplitr; · ipureintro; exact (hs0 t).read_unread _
      iexact H0
    isplitl [H1]
    · iexists _; isplitr; · ipureintro; exact (hs1 t).read_unread _
      iexact H1
    isplitl [H2]
    · iexists _; isplitr; · ipureintro; exact (hs2 t).read_unread _
      iexact H2
    isplitl [H3]
    · iexists _; isplitr; · ipureintro; exact (hs3 t).read_unread _
      iexact H3
    isplitl [H4]
    · iexists _; isplitr; · ipureintro; exact (hs4 t).read_unread _
      iexact H4
    isplitl [H5]
    · iexists _; isplitr; · ipureintro; exact (hs5 t).read_unread _
      iexact H5
    isplitl [H6]
    · iexists _; isplitr; swap; · iexact H6
      ipureintro; exact leftB_6 m c t (fun h => h0 ((hcond0 t).mp h)) f7 f8
    isplitl [H7]
    · iexists _; isplitr; swap; · iexact H7
      ipureintro; exact leftB_7 m c t (fun h => h0 ((hcond0 t).mp h)) f7 f8
    iexists _; isplitr; swap; · iexact H8
    ipureintro; exact leftB_8 m c t (fun h => h0 ((hcond0 t).mp h)) f7 f8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends with the arrays at what the pipeline and the lines after it leave, and every counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Val
end
-- ==== Proof.Printed.lean ====
module

public import proofs.«01_k».proof.Proof.Gen.Kernel
public import proofs.«01_k».proof.Proof.Run
public import proofs.«01_k».proof.Defs

@[expose] public section

set_option maxRecDepth 16384

/-! The printed kernel's arguments end unchanged: its text is the ideal kernel's with each named number read at its
    printed word, so the one run serves both. -/

noncomputable section
namespace Cert.Kernel.Val

open Cert.Kernel
open Idealize.ShloMosaic Idealize.ShloMosaic.TcCoe Idealize.SL.Sem

/-- Each named number at its printed word. -/
local instance : Named Bits := ⟨fun _ _ {φ} bits => Scalar.ofBits φ bits⟩

set_option maxHeartbeats 1000000 in
theorem body_same (i : Cert.Kernel.grid0.Coords) : Cert.Kernel.cc0_fox_bwd (F := Bits) i = Cert.KernelIdeal.cc0_fox_bwd (F := Bits) i := rfl

set_option maxHeartbeats 1000000 in
theorem defs_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

set_option maxHeartbeats 1000000 in
theorem main_same : Cert.Kernel.main (F := Bits) = Cert.KernelIdeal.main (F := Bits) := rfl

set_option maxHeartbeats 4000000 in
/-- The arguments end unchanged and every counter ends at zero. -/
theorem frame_main (m : (ℓ : Loc nD τ sig) → Buf (Elt Bits) ℓ) (ρ : Dev nD → PrngReg) :
    θ_run (Cert.Kernel.defs (F := Bits)) (onTc (τ := τ) (Cert.Kernel.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  unfold Cert.Kernel.defs
  rw [defs_same, main_same]
  exact Cert.KernelIdeal.Val.frame_main (F := Bits) m ρ

end Cert.Kernel.Val
end
-- ==== Proof.Diag.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Body
public import Idealize.ShloMosaic.Lib.Pointwise
public import Idealize.ShloMosaic.Lib.VecWindow
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a call of the body reads, as functions of the index. -/
abbrev bodyBlk (arg2 : Memref sig .tc .vmem S2x8192x128 .bf16) (arg3 : Memref sig .tc .vmem S2x512x128 .bf16) (arg4 : Memref sig .tc .vmem S512x128 .bf16) (arg5 : Memref sig .tc .vmem S8192x128 .bf16) (arg6 : Memref sig .tc .vmem S2x1x8192 .f32) (arg7 : Memref sig .tc .vmem S2x1x8192 .f32)
    (X0 : BufTy.Contents (Elt Ideal) arg2.view.ty) (X1 : BufTy.Contents (Elt Ideal) arg3.view.ty) (X2 : BufTy.Contents (Elt Ideal) arg4.view.ty) (X3 : BufTy.Contents (Elt Ideal) arg5.view.ty) (X4 : BufTy.Contents (Elt Ideal) arg6.view.ty) (X5 : BufTy.Contents (Elt Ideal) arg7.view.ty) : Blk :=
  blk arg2 arg3 arg5 arg6 arg7 (arg4.view.readAt (Elt Ideal) (Rect.unit (s := S512x128) ![0, 0] S512x128.size (by decide)).toLoadRect X2) X0 X1 X3 X4 X5

theorem d1 (i : grid0.Coords) : k0_off1 i = ![512 * (i 1).val, 0] := k0_off1_eq i
theorem d2 (i : grid0.Coords) : k0_off2 i = ![(0 : Fin 2).val, 512 * (i 1).val, 0] := k0_off2_eq i
theorem d3 (i : grid0.Coords) : k0_off3 i = ![(0 : Fin 2).val, 0, 512 * (i 1).val] := k0_off3_eq i
theorem d4 (i : grid0.Coords) : k0_off4 i = ![(1 : Fin 2).val, 512 * (i 1).val, 0] := k0_off4_eq i
theorem d5 (i : grid0.Coords) : k0_off5 i = ![(1 : Fin 2).val, 0, 512 * (i 1).val] := k0_off5_eq i

section Diag
variable (i : grid0.Coords) (arg2 : Memref sig .tc .vmem S2x8192x128 .bf16) (arg3 : Memref sig .tc .vmem S2x512x128 .bf16) (arg4 : Memref sig .tc .vmem S512x128 .bf16) (arg5 : Memref sig .tc .vmem S8192x128 .bf16) (arg6 : Memref sig .tc .vmem S2x1x8192 .f32) (arg7 : Memref sig .tc .vmem S2x1x8192 .f32) (arg8 : Memref sig .tc .vmem S2x8192x128 .f32) (arg9 : Memref sig .tc .vmem S2x512x128 .f32) (arg10 : Memref sig .tc .vmem S512x128 .bf16) (X0 : BufTy.Contents (Elt Ideal) arg2.view.ty) (X1 : BufTy.Contents (Elt Ideal) arg3.view.ty) (X2 : BufTy.Contents (Elt Ideal) arg4.view.ty) (X3 : BufTy.Contents (Elt Ideal) arg5.view.ty) (X4 : BufTy.Contents (Elt Ideal) arg6.view.ty) (X5 : BufTy.Contents (Elt Ideal) arg7.view.ty) (f6 : BufTy.Contents (Elt Ideal) arg8.view.ty) (f7 : BufTy.Contents (Elt Ideal) arg9.view.ty) (f8 : BufTy.Contents (Elt Ideal) arg10.view.ty)

theorem key_lt : (i 1).val < 16 := (i 1).isLt

theorem diag_P0 (a x : Fin 512) : (k0_pay46 (F := Ideal) (arg2.view.readAt (Elt Ideal) (Rect.unit (s := S2x8192x128) (k0_off2 i) S1x512x128.size (k0_off2_inb i)).toLoadRect X0) (arg3.view.readAt (Elt Ideal) (Rect.unit (s := S2x512x128) ![0, 0, 0] S1x512x128.size (by decide)).toLoadRect X1) (arg6.view.readAt (Elt Ideal) (Rect.unit (s := S2x1x8192) (k0_off3 i) S1x1x512.size (k0_off3_inb i)).toLoadRect X4)) (ix2 a x) = ((bodyBlk arg2 arg3 arg4 arg5 arg6 arg7 X0 X1 X2 X3 X4 X5)).PM (i 1).val 0 a (row (i 1).val x) := by
  have hq := key_lt i
  rw [pay46_apply]
  unfold Blk.PM Blk.P
  rw [row_val hq]
  simp only [rd_rows3 _ _ hq (d2 i), rd_lanes _ _ hq (d3 i), rd_keys _ _ ok0, Nat.add_le_add_iff_left]

theorem diag_P1 (a x : Fin 512) : (k0_pay53 (F := Ideal) (iota .tc S512x512 32 [0] iota_S512x512_d0_w32) (iota .tc S512x512 32 [1] iota_S512x512_d1_w32) (arg2.view.readAt (Elt Ideal) (Rect.unit (s := S2x8192x128) (k0_off4 i) S1x512x128.size (k0_off4_inb i)).toLoadRect X0) (arg3.view.readAt (Elt Ideal) (Rect.unit (s := S2x512x128) ![1, 0, 0] S1x512x128.size (by decide)).toLoadRect X1) (arg6.view.readAt (Elt Ideal) (Rect.unit (s := S2x1x8192) (k0_off5 i) S1x1x512.size (k0_off5_inb i)).toLoadRect X4)) (ix2 a x) = ((bodyBlk arg2 arg3 arg4 arg5 arg6 arg7 X0 X1 X2 X3 X4 X5)).PM (i 1).val 1 a (row (i 1).val x) := by
  have hq := key_lt i
  rw [pay53_apply _ _ _ _ _ _ _ rfl rfl]
  unfold Blk.PM Blk.P
  rw [row_val hq]
  simp only [rd_rows3 _ _ hq (d4 i), rd_lanes _ _ hq (d5 i), rd_keys _ _ ok1, Nat.add_le_add_iff_left]

theorem diag_D0 (a x : Fin 512) : k0_pay48 (F := Ideal) (k0_pay46 (F := Ideal) (arg2.view.readAt (Elt Ideal) (Rect.unit (s := S2x8192x128) (k0_off2 i) S1x512x128.size (k0_off2_inb i)).toLoadRect X0) (arg3.view.readAt (Elt Ideal) (Rect.unit (s := S2x512x128) ![0, 0, 0] S1x512x128.size (by decide)).toLoadRect X1) (arg6.view.readAt (Elt Ideal) (Rect.unit (s := S2x1x8192) (k0_off3 i) S1x1x512.size (k0_off3_inb i)).toLoadRect X4)) (k0_pay47 (F := Ideal) (arg4.view.readAt (Elt Ideal) (Rect.unit (s := S512x128) ![0, 0] S512x128.size (by decide)).toLoadRect X2) (arg5.view.readAt (Elt Ideal) (Rect.unit (s := S8192x128) (k0_off1 i) S512x128.size (k0_off1_inb i)).toLoadRect X3)) (arg7.view.readAt (Elt Ideal) (Rect.unit (s := S2x1x8192) (k0_off3 i) S1x1x512.size (k0_off3_inb i)).toLoadRect X5) (ix2 a x) = ((bodyBlk arg2 arg3 arg4 arg5 arg6 arg7 X0 X1 X2 X3 X4 X5)).DM (i 1).val 0 a (row (i 1).val x) := by
  have hq := key_lt i
  rw [pay48_apply, diag_P0 (arg4 := arg4) (arg5 := arg5) (arg7 := arg7) (X2 := X2) (X3 := X3) (X5 := X5), pay47_apply]
  unfold Blk.DM Blk.vm
  simp only [rd_rows2 _ _ hq (d1 i), rd_lanes _ _ hq (d3 i)]

theorem diag_D1 (a x : Fin 512) : k0_pay54 (F := Ideal) (k0_pay40 (F := Ideal) (arg4.view.readAt (Elt Ideal) (Rect.unit (s := S512x128) ![0, 0] S512x128.size (by decide)).toLoadRect X2)) (k0_pay42 (F := Ideal) (arg5.view.readAt (Elt Ideal) (Rect.unit (s := S8192x128) (k0_off1 i) S512x128.size (k0_off1_inb i)).toLoadRect X3)) (k0_pay53 (F := Ideal) (iota .tc S512x512 32 [0] iota_S512x512_d0_w32) (iota .tc S512x512 32 [1] iota_S512x512_d1_w32) (arg2.view.readAt (Elt Ideal) (Rect.unit (s := S2x8192x128) (k0_off4 i) S1x512x128.size (k0_off4_inb i)).toLoadRect X0) (arg3.view.readAt (Elt Ideal) (Rect.unit (s := S2x512x128) ![1, 0, 0] S1x512x128.size (by decide)).toLoadRect X1) (arg6.view.readAt (Elt Ideal) (Rect.unit (s := S2x1x8192) (k0_off5 i) S1x1x512.size (k0_off5_inb i)).toLoadRect X4)) (constant S512x512 .f32 0x00000000#32) (arg7.view.readAt (Elt Ideal) (Rect.unit (s := S2x1x8192) (k0_off5 i) S1x1x512.size (k0_off5_inb i)).toLoadRect X5) (ix2 a x) = ((bodyBlk arg2 arg3 arg4 arg5 arg6 arg7 X0 X1 X2 X3 X4 X5)).DM (i 1).val 1 a (row (i 1).val x) := by
  have hq := key_lt i
  rw [pay54_apply, diag_P1 (arg4 := arg4) (arg5 := arg5) (arg7 := arg7) (X2 := X2) (X3 := X3) (X5 := X5)]
  unfold Blk.DM Blk.vm
  simp only [rd_rows2 _ _ hq (d1 i), rd_lanes _ _ hq (d5 i), pay40_apply, pay42_apply]

theorem diag_dk0 (a : Fin 512) (d : Fin 128) : k0_pay50 (F := Ideal) k0_pay41 (k0_pay45 (F := Ideal) (arg2.view.readAt (Elt Ideal) (Rect.unit (s := S2x8192x128) (k0_off2 i) S1x512x128.size (k0_off2_inb i)).toLoadRect X0)) (k0_pay46 (F := Ideal) (arg2.view.readAt (Elt Ideal) (Rect.unit (s := S2x8192x128) (k0_off2 i) S1x512x128.size (k0_off2_inb i)).toLoadRect X0) (arg3.view.readAt (Elt Ideal) (Rect.unit (s := S2x512x128) ![0, 0, 0] S1x512x128.size (by decide)).toLoadRect X1) (arg6.view.readAt (Elt Ideal) (Rect.unit (s := S2x1x8192) (k0_off3 i) S1x1x512.size (k0_off3_inb i)).toLoadRect X4)) (k0_pay47 (F := Ideal) (arg4.view.readAt (Elt Ideal) (Rect.unit (s := S512x128) ![0, 0] S512x128.size (by decide)).toLoadRect X2) (arg5.view.readAt (Elt Ideal) (Rect.unit (s := S8192x128) (k0_off1 i) S512x128.size (k0_off1_inb i)).toLoadRect X3)) (arg7.view.readAt (Elt Ideal) (Rect.unit (s := S2x1x8192) (k0_off3 i) S1x1x512.size (k0_off3_inb i)).toLoadRect X5) (ix2 a d)
    = ((bodyBlk arg2 arg3 arg4 arg5 arg6 arg7 X0 X1 X2 X3 X4 X5)).tdk (i 1).val 0 (i 1).val a d := by
  have hq := key_lt i
  refine (pay50_apply ..).trans ?_
  rw [pay41_apply, zero_add]
  refine Finset.sum_congr rfl fun x _ => ?_
  exact congrArg₂ (· * ·) (diag_D0 ..) ((pay45_apply ..).trans (rd_rows3 _ _ hq (d2 i) ..))

theorem diag_dk1 (a : Fin 512) (d : Fin 128) : k0_pay56 (F := Ideal) (k0_pay40 (F := Ideal) (arg4.view.readAt (Elt Ideal) (Rect.unit (s := S512x128) ![0, 0] S512x128.size (by decide)).toLoadRect X2)) k0_pay41 (k0_pay42 (F := Ideal) (arg5.view.readAt (Elt Ideal) (Rect.unit (s := S8192x128) (k0_off1 i) S512x128.size (k0_off1_inb i)).toLoadRect X3)) (k0_pay52 (F := Ideal) (arg2.view.readAt (Elt Ideal) (Rect.unit (s := S2x8192x128) (k0_off4 i) S1x512x128.size (k0_off4_inb i)).toLoadRect X0)) (k0_pay53 (F := Ideal) (iota .tc S512x512 32 [0] iota_S512x512_d0_w32) (iota .tc S512x512 32 [1] iota_S512x512_d1_w32) (arg2.view.readAt (Elt Ideal) (Rect.unit (s := S2x8192x128) (k0_off4 i) S1x512x128.size (k0_off4_inb i)).toLoadRect X0) (arg3.view.readAt (Elt Ideal) (Rect.unit (s := S2x512x128) ![1, 0, 0] S1x512x128.size (by decide)).toLoadRect X1) (arg6.view.readAt (Elt Ideal) (Rect.unit (s := S2x1x8192) (k0_off5 i) S1x1x512.size (k0_off5_inb i)).toLoadRect X4)) (constant S512x512 .f32 0x00000000#32) (arg7.view.readAt (Elt Ideal) (Rect.unit (s := S2x1x8192) (k0_off5 i) S1x1x512.size (k0_off5_inb i)).toLoadRect X5) (ix2 a d)
    = ((bodyBlk arg2 arg3 arg4 arg5 arg6 arg7 X0 X1 X2 X3 X4 X5)).tdk (i 1).val 1 (i 1).val a d := by
  have hq := key_lt i
  refine (pay56_apply ..).trans ?_
  rw [pay41_apply, zero_add]
  refine Finset.sum_congr rfl fun x _ => ?_
  exact congrArg₂ (· * ·) (diag_D1 ..) ((pay52_apply ..).trans (rd_rows3 _ _ hq (d4 i) ..))

theorem diag_dv (a : Fin 512) (d : Fin 128) : k0_pay55 (F := Ideal) (k0_pay44 (F := Ideal) (arg5.view.readAt (Elt Ideal) (Rect.unit (s := S8192x128) (k0_off1 i) S512x128.size (k0_off1_inb i)).toLoadRect X3)) (k0_pay49 (F := Ideal) k0_pay41 (k0_pay43 (F := Ideal) (arg5.view.readAt (Elt Ideal) (Rect.unit (s := S8192x128) (k0_off1 i) S512x128.size (k0_off1_inb i)).toLoadRect X3)) (k0_pay46 (F := Ideal) (arg2.view.readAt (Elt Ideal) (Rect.unit (s := S2x8192x128) (k0_off2 i) S1x512x128.size (k0_off2_inb i)).toLoadRect X0) (arg3.view.readAt (Elt Ideal) (Rect.unit (s := S2x512x128) ![0, 0, 0] S1x512x128.size (by decide)).toLoadRect X1) (arg6.view.readAt (Elt Ideal) (Rect.unit (s := S2x1x8192) (k0_off3 i) S1x1x512.size (k0_off3_inb i)).toLoadRect X4))) (k0_pay53 (F := Ideal) (iota .tc S512x512 32 [0] iota_S512x512_d0_w32) (iota .tc S512x512 32 [1] iota_S512x512_d1_w32) (arg2.view.readAt (Elt Ideal) (Rect.unit (s := S2x8192x128) (k0_off4 i) S1x512x128.size (k0_off4_inb i)).toLoadRect X0) (arg3.view.readAt (Elt Ideal) (Rect.unit (s := S2x512x128) ![1, 0, 0] S1x512x128.size (by decide)).toLoadRect X1) (arg6.view.readAt (Elt Ideal) (Rect.unit (s := S2x1x8192) (k0_off5 i) S1x1x512.size (k0_off5_inb i)).toLoadRect X4)) (ix2 a d)
    = ((bodyBlk arg2 arg3 arg4 arg5 arg6 arg7 X0 X1 X2 X3 X4 X5)).tdv (i 1).val 0 (i 1).val a d + ((bodyBlk arg2 arg3 arg4 arg5 arg6 arg7 X0 X1 X2 X3 X4 X5)).tdv (i 1).val 1 (i 1).val a d := by
  have hq := key_lt i
  refine (pay55_apply ..).trans (congrArg₂ (· + ·) ?_ (Finset.sum_congr rfl fun x _ => ?_))
  · refine (pay49_apply ..).trans ?_
    rw [pay41_apply, zero_add]
    refine Finset.sum_congr rfl fun x _ => ?_
    refine congrArg₂ (· * ·) (diag_P0 ..) ((pay43_apply ..).trans ?_)
    unfold Blk.dom
    rw [rd_rows2 _ _ hq (d1 i)]
  · refine congrArg₂ (· * ·) (diag_P1 ..) ((pay44_apply ..).trans ?_)
    unfold Blk.dom
    rw [rd_rows2 _ _ hq (d1 i)]

end Diag

/-- The parts of the tiles before the key block being zero, the key block's own tile and those after it make the whole sum. -/
theorem sum_tiles {ki : ℕ} (hk : ki < 16) (f : ℕ → EReal) (hf : ∀ q, q < ki → f q = 0) :
    f ki + ∑ j ∈ Finset.range (15 - ki), f (ki + 1 + j) = ∑ q ∈ Finset.range 16, f q := by
  have e : 16 = ki + (15 - ki + 1) := by omega
  rw [e, Finset.sum_range_add, Finset.sum_eq_zero (fun q hq => hf q (Finset.mem_range.mp hq)), zero_add, Finset.sum_range_succ']
  rw [add_comm]
  refine congrArg₂ (· + ·) (Finset.sum_congr rfl fun j _ => congrArg f (by omega)) (by rw [add_zero])

end Cert.KernelIdeal.Val
end
-- ==== Proof.Out.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Diag
public import Idealize.ShloMosaic.Lib.Pointwise
public import Idealize.ShloMosaic.Lib.VecWindow
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem pay60_apply (w : FVec Ideal S512x128 .f32) (u : Fin 1) (a : Fin 512) (d : Fin 128) : k0_pay60 (F := Ideal) w (ix3 u a d) = w (ix2 a d) := by pointwise [k0_pay60]

section Store
variable {κ : Kind} {sp : Space} {e : EltTy}
/-- A store over a whole buffer, read back. -/
theorem rd_whole2 (v : View sig κ sp S512x128 e) (f : v.ty.Contents (Elt Ideal)) (inb : ∀ a, (![0, 0] : Fin 2 → ℕ) a + S512x128.size a ≤ S512x128.size a)
    (w : S512x128.Idx → Elt Ideal e) (a : Fin 512) (d : Fin 128) :
    v.read (Elt Ideal) (v.writes (Elt Ideal) f [(⟨Rect.unit (s := S512x128) ![0, 0] S512x128.size inb, w⟩ : View.Piece (Elt Ideal) S512x128 e)]) (ix2 a d) = w (ix2 a d) := by
  refine View.read_writes_cons_unit_of_mem v f inb w [] (ix2 a d) (ix2 a d) rfl fun k => ?_
  fin_cases k
  · exact (Nat.zero_add _).symm
  · exact (Nat.zero_add _).symm

theorem fst_none {α β : Type} (g : α → EReal) (T : α × List β) (init : α) (h : T = (init, [])) : g T.1 = g init := by subst h; rfl
theorem rd_none {S : Shape} {α : Type} (v : View sig κ sp S e) (f : v.ty.Contents (Elt Ideal)) (T : α × List (View.Piece (Elt Ideal) S e)) (M : List (View.Piece (Elt Ideal) S e))
    (init : α) (h : T = (init, [])) (j : S.Idx) :
    v.read (Elt Ideal) (v.writes (Elt Ideal) f (T.2 ++ M)) j = v.read (Elt Ideal) (v.writes (Elt Ideal) f M) j := by subst h; rfl
theorem rd_append {S : Shape} (v : View sig κ sp S e) (f : v.ty.Contents (Elt Ideal)) (T M : List (View.Piece (Elt Ideal) S e)) (j : S.Idx) :
    v.read (Elt Ideal) (v.writes (Elt Ideal) f (T ++ M)) j = v.read (Elt Ideal) (v.writes (Elt Ideal) (v.writes (Elt Ideal) f M) T) j :=
  congrArg (fun s => v.read (Elt Ideal) s j) (View.writes_append ..)

/-- A tile of each head stored over the queries' gradients: read back, it is the tile there and what lay below elsewhere. -/
theorem rd_store2 (v : View sig κ sp S2x8192x128 e) (f : v.ty.Contents (Elt Ideal)) {q : ℕ} (hq : q < 16) {off1 off0 : Fin 3 → ℕ}
    (inb1 : ∀ a, off1 a + S1x512x128.size a ≤ S2x8192x128.size a) (inb0 : ∀ a, off0 a + S1x512x128.size a ≤ S2x8192x128.size a)
    (w1 w0 : S1x512x128.Idx → Elt Ideal e) (Lp : List (View.Piece (Elt Ideal) S2x8192x128 e))
    (h1 : off1 = ![(1 : Fin 2).val, 512 * q, 0]) (h0 : off0 = ![(0 : Fin 2).val, 512 * q, 0]) (G : Fin 2 → Fin 8192 → Fin 128 → Elt Ideal e)
    (hw1 : ∀ x d, w1 (ix3 0 x d) = G 1 (row q x) d) (hw0 : ∀ x d, w0 (ix3 0 x d) = G 0 (row q x) d) (r : Fin 2) (x : Fin 8192) (d : Fin 128) :
    v.read (Elt Ideal) (v.writes (Elt Ideal) f ((⟨Rect.unit (s := S2x8192x128) off1 S1x512x128.size inb1, w1⟩ : View.Piece (Elt Ideal) S2x8192x128 e)
        :: (⟨Rect.unit (s := S2x8192x128) off0 S1x512x128.size inb0, w0⟩ : View.Piece (Elt Ideal) S2x8192x128 e) :: Lp)) (ix3 r x d)
      = if x.val / 512 = q then G r x d else v.read (Elt Ideal) (v.writes (Elt Ideal) f Lp) (ix3 r x d) := by
  rw [rd_store v f hq h1 inb1 w1 _ G hw1 r x d, rd_store v f hq h0 inb0 w0 _ G hw0 r x d]
  by_cases h : x.val / 512 = q
  · fin_cases r
    · rw [if_neg (fun hh => absurd hh.1 (by decide)), if_pos ⟨rfl, h⟩, if_pos h]
    · rw [if_pos ⟨rfl, h⟩, if_pos h]
  · rw [if_neg (fun hh => h hh.2), if_neg (fun hh => h hh.2), if_neg h]

/-- A tile stored over head 0 leaves head 1 as it was. -/
theorem rd_skip (v : View sig κ sp S2x8192x128 e) (f : v.ty.Contents (Elt Ideal)) {q : ℕ} {off0 : Fin 3 → ℕ}
    (inb0 : ∀ a, off0 a + S1x512x128.size a ≤ S2x8192x128.size a) (w0 : S1x512x128.Idx → Elt Ideal e) (Lp : List (View.Piece (Elt Ideal) S2x8192x128 e))
    (h0 : off0 = ![(0 : Fin 2).val, 512 * q, 0]) (x : Fin 8192) (d : Fin 128) :
    v.read (Elt Ideal) (v.writes (Elt Ideal) f ((⟨Rect.unit (s := S2x8192x128) off0 S1x512x128.size inb0, w0⟩ : View.Piece (Elt Ideal) S2x8192x128 e) :: Lp)) (ix3 1 x d)
      = v.read (Elt Ideal) (v.writes (Elt Ideal) f Lp) (ix3 1 x d) :=
  View.read_writes_cons_unit_of_not_mem v f inb0 w0 Lp (ix3 1 x d) h0 0 (Or.inr (le_refl 1))

/-- The cleared queries' gradients read zero. -/
theorem rd_zero (v : View sig κ sp S2x8192x128 .f32) (f : v.ty.Contents (Elt Ideal)) (inb : ∀ a, (![0, 0, 0] : Fin 3 → ℕ) a + S2x8192x128.size a ≤ S2x8192x128.size a)
    (r : Fin 2) (x : Fin 8192) (d : Fin 128) :
    v.read (Elt Ideal) (v.writes (Elt Ideal) f [(⟨Rect.unit (s := S2x8192x128) ![0, 0, 0] S2x8192x128.size inb, k0_pay35 (F := Ideal)⟩ : View.Piece (Elt Ideal) S2x8192x128 .f32)]) (ix3 r x d) = 0 := by
  refine (View.read_writes_cons_unit_of_mem v f inb _ [] (ix3 r x d) (ix3 r x d) rfl fun k => ?_).trans (pay35_apply r x d)
  fin_cases k <;> exact (Nat.zero_add _).symm

/-- Two stores, one over each head's half, read back. -/
theorem rd_two (v : View sig κ sp S2x512x128 e) (f : v.ty.Contents (Elt Ideal))
    (inb1 : ∀ a, (![1, 0, 0] : Fin 3 → ℕ) a + S1x512x128.size a ≤ S2x512x128.size a) (inb0 : ∀ a, (![0, 0, 0] : Fin 3 → ℕ) a + S1x512x128.size a ≤ S2x512x128.size a)
    (w1 w0 : S1x512x128.Idx → Elt Ideal e) (G : Fin 2 → Fin 512 → Fin 128 → Elt Ideal e)
    (h1 : ∀ a d, w1 (ix3 0 a d) = G 1 a d) (h0 : ∀ a d, w0 (ix3 0 a d) = G 0 a d) (r : Fin 2) (a : Fin 512) (d : Fin 128) :
    v.read (Elt Ideal) (v.writes (Elt Ideal) f [(⟨Rect.unit (s := S2x512x128) ![1, 0, 0] S1x512x128.size inb1, w1⟩ : View.Piece (Elt Ideal) S2x512x128 e),
      ⟨Rect.unit (s := S2x512x128) ![0, 0, 0] S1x512x128.size inb0, w0⟩]) (ix3 r a d) = G r a d := by
  fin_cases r
  · refine (View.read_writes_cons_unit_of_not_mem v f inb1 w1 _ (ix3 0 a d) rfl 0 (Or.inl Nat.zero_lt_one)).trans ?_
    refine (View.read_writes_cons_unit_of_mem v f inb0 w0 [] (ix3 0 a d) (ix3 0 a d) rfl fun k => ?_).trans (h0 a d)
    fin_cases k <;> exact (Nat.zero_add _).symm
  · refine (View.read_writes_cons_unit_of_mem v f inb1 w1 _ (ix3 1 a d) (ix3 0 a d) rfl fun k => ?_).trans (h1 a d)
    fin_cases k
    · rfl
    · exact (Nat.zero_add _).symm
    · exact (Nat.zero_add _).symm
end Store

section A
variable (c : Dev nD) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (hc0 : cond0 i) (X0 : BufTy.Contents (Elt Ideal) arg2.view.ty) (X1 : BufTy.Contents (Elt Ideal) arg3.view.ty) (X2 : BufTy.Contents (Elt Ideal) arg4.view.ty) (X3 : BufTy.Contents (Elt Ideal) arg5.view.ty) (X4 : BufTy.Contents (Elt Ideal) arg6.view.ty) (X5 : BufTy.Contents (Elt Ideal) arg7.view.ty) (f6 : BufTy.Contents (Elt Ideal) arg8.view.ty) (f7 : BufTy.Contents (Elt Ideal) arg9.view.ty) (f8 : BufTy.Contents (Elt Ideal) arg10.view.ty)

set_option maxHeartbeats 2000000 in
theorem outA_dv (a : Fin 512) (d : Fin 128) : arg10.view.read (Elt Ideal) (runA (F := Ideal) c i arg2 harg2 arg3 harg3 arg4 harg4 arg5 harg5 arg6 harg6 arg7 harg7 arg8 harg8 arg9 harg9 arg10 harg10 hc0 X0 X1 X2 X3 X4 X5 f6 f7 f8).2.2.1 (ix2 a d)
    = ∑ q ∈ Finset.range 16, (((bodyBlk arg2 arg3 arg4 arg5 arg6 arg7 X0 X1 X2 X3 X4 X5)).tdv (i 1).val 0 q a d + ((bodyBlk arg2 arg3 arg4 arg5 arg6 arg7 X0 X1 X2 X3 X4 X5)).tdv (i 1).val 1 q a d) := by
  have hq := key_lt i
  unfold runA
  dsimp only
  refine (rd_whole2 _ _ _ _ _ _).trans ?_
  refine (pay2_apply ..).trans ?_
  refine (fst_none (fun s => s.2.2 (ix2 a d)) _ _ (loop2_eq ..)).trans ?_
  refine (loop_dv ..).trans ?_
  refine (congrArg (· + _) (diag_dv i arg2 arg3 arg4 arg5 arg6 arg7 X0 X1 X2 X3 X4 X5 a d)).trans ?_
  exact sum_tiles hq (fun q => ((bodyBlk arg2 arg3 arg4 arg5 arg6 arg7 X0 X1 X2 X3 X4 X5)).tdv (i 1).val 0 q a d + ((bodyBlk arg2 arg3 arg4 arg5 arg6 arg7 X0 X1 X2 X3 X4 X5)).tdv (i 1).val 1 q a d) fun q h => by
    show ((bodyBlk arg2 arg3 arg4 arg5 arg6 arg7 X0 X1 X2 X3 X4 X5)).tdv (i 1).val 0 q a d + ((bodyBlk arg2 arg3 arg4 arg5 arg6 arg7 X0 X1 X2 X3 X4 X5)).tdv (i 1).val 1 q a d = 0
    rw [Blk.tdv_earlier _ h hq, Blk.tdv_earlier _ h hq, add_zero]

set_option maxHeartbeats 2000000 in
theorem outA_dk (r : Fin 2) (a : Fin 512) (d : Fin 128) : arg9.view.read (Elt Ideal) (runA (F := Ideal) c i arg2 harg2 arg3 harg3 arg4 harg4 arg5 harg5 arg6 harg6 arg7 harg7 arg8 harg8 arg9 harg9 arg10 harg10 hc0 X0 X1 X2 X3 X4 X5 f6 f7 f8).2.1 (ix3 r a d)
    = ∑ q ∈ Finset.range 16, ((bodyBlk arg2 arg3 arg4 arg5 arg6 arg7 X0 X1 X2 X3 X4 X5)).tdk (i 1).val r q a d := by
  have hq := key_lt i
  unfold runA
  dsimp only
  refine (rd_two (e := .f32) _ _ _ _ _ _ (fun r a d => ∑ q ∈ Finset.range 16, ((bodyBlk arg2 arg3 arg4 arg5 arg6 arg7 X0 X1 X2 X3 X4 X5)).tdk (i 1).val r q a d) ?_ ?_ r a d)
  · intro a d
    refine (pay1_apply ..).trans ?_
    refine (fst_none (fun s => s.2.1 (ix2 a d)) _ _ (loop2_eq ..)).trans ?_
    refine (loop_dk1 ..).trans ?_
    refine (congrArg (· + _) (diag_dk1 i arg2 arg3 arg4 arg5 arg6 arg7 X0 X1 X2 X3 X4 X5 a d)).trans ?_
    exact sum_tiles hq _ fun q h => Blk.tdk_earlier _ h hq ..
  · intro a d
    refine (pay60_apply ..).trans ?_
    refine (fst_none (fun s => s.1 (ix2 a d)) _ _ (loop2_eq ..)).trans ?_
    refine (loop_dk0 ..).trans ?_
    refine (congrArg (· + _) (diag_dk0 i arg2 arg3 arg4 arg5 arg6 arg7 X0 X1 X2 X3 X4 X5 a d)).trans ?_
    exact sum_tiles hq _ fun q h => Blk.tdk_earlier _ h hq ..

set_option maxHeartbeats 2000000 in
theorem outA_dq (r : Fin 2) (x : Fin 8192) (d : Fin 128) : arg8.view.read (Elt Ideal) (runA (F := Ideal) c i arg2 harg2 arg3 harg3 arg4 harg4 arg5 harg5 arg6 harg6 arg7 harg7 arg8 harg8 arg9 harg9 arg10 harg10 hc0 X0 X1 X2 X3 X4 X5 f6 f7 f8).1 (ix3 r x d)
    = ((bodyBlk arg2 arg3 arg4 arg5 arg6 arg7 X0 X1 X2 X3 X4 X5)).tdq (i 1).val r x d := by
  have hq := key_lt i
  unfold runA
  dsimp only
  refine (rd_none _ _ _ _ _ (loop2_eq ..) _).trans ?_
  refine (rd_append _ _ _ _ _).trans ?_
  refine (loop_dq ..).trans ?_
  refine (congrArg (· + _) (rd_store2 (e := .f32) _ _ hq _ _ _ _ _ (d4 i) (d2 i)
    (fun r x d => ((bodyBlk arg2 arg3 arg4 arg5 arg6 arg7 X0 X1 X2 X3 X4 X5)).tdq (i 1).val r x d) ?_ ?_ r x d)).trans ?_
  · intro x d
    refine (pay57_apply ..).trans ?_
    refine (congrArg₂ (· + ·) (rd_rows3 _ _ hq (d4 i) ..) (Finset.sum_congr rfl fun a _ =>
      congrArg₂ (· * ·) (diag_D1 i arg2 arg3 arg4 arg5 arg6 arg7 X0 X1 X2 X3 X4 X5 a x) (rd_keys _ _ ok1 ..))).trans ?_
    exact (congrArg (· + _) ((rd_skip (e := .f32) _ _ _ _ _ (d2 i) _ _).trans (rd_zero ..))).trans (zero_add _)
  · intro x d
    refine (pay51_apply ..).trans ?_
    refine (congrArg₂ (· + ·) (rd_rows3 _ _ hq (d2 i) ..) (Finset.sum_congr rfl fun a _ =>
      congrArg₂ (· * ·) (diag_D0 i arg2 arg3 arg4 arg5 arg6 arg7 X0 X1 X2 X3 X4 X5 a x) (rd_keys _ _ ok0 ..))).trans ?_
    exact (congrArg (· + _) (rd_zero ..)).trans (zero_add _)
  · by_cases h : x.val / 512 = (i 1).val
    · rw [if_pos h, if_neg (by omega), add_zero]
    · rw [if_neg h]
      by_cases h' : (i 1).val + 1 ≤ x.val / 512
      · rw [if_pos h']; exact (congrArg (· + _) (rd_zero ..)).trans (zero_add _)
      · rw [if_neg h', add_zero, Blk.tdq_earlier _ (by omega)]; exact rd_zero ..
end A

section B
variable (c : Dev nD) (i : grid0.Coords) (arg2 : Memref sig .tc .vmem S2x8192x128 .bf16) (harg2 : arg2.IsWhole) (arg3 : Memref sig .tc .vmem S2x512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x128 .f32) (harg8 : arg8.IsWhole) (arg9 : Memref sig .tc .vmem S2x512x128 .f32) (harg9 : arg9.IsWhole) (arg10 : Memref sig .tc .vmem S512x128 .bf16) (harg10 : arg10.IsWhole) (hc0 : ¬cond0 i) (X0 : BufTy.Contents (Elt Ideal) arg2.view.ty) (X1 : BufTy.Contents (Elt Ideal) arg3.view.ty) (X2 : BufTy.Contents (Elt Ideal) arg4.view.ty) (X3 : BufTy.Contents (Elt Ideal) arg5.view.ty) (X4 : BufTy.Contents (Elt Ideal) arg6.view.ty) (X5 : BufTy.Contents (Elt Ideal) arg7.view.ty) (f6 : BufTy.Contents (Elt Ideal) arg8.view.ty) (f7 : BufTy.Contents (Elt Ideal) arg9.view.ty) (f8 : BufTy.Contents (Elt Ideal) arg10.view.ty)

set_option maxHeartbeats 2000000 in
theorem outB_dv (a : Fin 512) (d : Fin 128) : arg10.view.read (Elt Ideal) (runB (F := Ideal) c i arg2 harg2 arg3 harg3 arg4 harg4 arg5 harg5 arg6 harg6 arg7 harg7 arg8 harg8 arg9 harg9 arg10 harg10 hc0 X0 X1 X2 X3 X4 X5 f6 f7 f8).2.2.1 (ix2 a d)
    = ∑ q ∈ Finset.range 16, (((bodyBlk arg2 arg3 arg4 arg5 arg6 arg7 X0 X1 X2 X3 X4 X5)).tdv (i 1).val 0 q a d + ((bodyBlk arg2 arg3 arg4 arg5 arg6 arg7 X0 X1 X2 X3 X4 X5)).tdv (i 1).val 1 q a d) := by
  have hq := key_lt i
  unfold runB
  dsimp only
  refine (rd_whole2 _ _ _ _ _ _).trans ?_
  refine (pay2_apply ..).trans ?_
  refine (fst_none (fun s => s.2.2 (ix2 a d)) _ _ (loop2_eq ..)).trans ?_
  refine (loop_dv ..).trans ?_
  refine (congrArg (· + _) (diag_dv i arg2 arg3 arg4 arg5 arg6 arg7 X0 X1 X2 X3 X4 X5 a d)).trans ?_
  exact sum_tiles hq (fun q => ((bodyBlk arg2 arg3 arg4 arg5 arg6 arg7 X0 X1 X2 X3 X4 X5)).tdv (i 1).val 0 q a d + ((bodyBlk arg2 arg3 arg4 arg5 arg6 arg7 X0 X1 X2 X3 X4 X5)).tdv (i 1).val 1 q a d) fun q h => by
    show ((bodyBlk arg2 arg3 arg4 arg5 arg6 arg7 X0 X1 X2 X3 X4 X5)).tdv (i 1).val 0 q a d + ((bodyBlk arg2 arg3 arg4 arg5 arg6 arg7 X0 X1 X2 X3 X4 X5)).tdv (i 1).val 1 q a d = 0
    rw [Blk.tdv_earlier _ h hq, Blk.tdv_earlier _ h hq, add_zero]

set_option maxHeartbeats 2000000 in
theorem outB_dk (r : Fin 2) (a : Fin 512) (d : Fin 128) : arg9.view.read (Elt Ideal) (runB (F := Ideal) c i arg2 harg2 arg3 harg3 arg4 harg4 arg5 harg5 arg6 harg6 arg7 harg7 arg8 harg8 arg9 harg9 arg10 harg10 hc0 X0 X1 X2 X3 X4 X5 f6 f7 f8).2.1 (ix3 r a d)
    = ∑ q ∈ Finset.range 16, ((bodyBlk arg2 arg3 arg4 arg5 arg6 arg7 X0 X1 X2 X3 X4 X5)).tdk (i 1).val r q a d := by
  have hq := key_lt i
  unfold runB
  dsimp only
  refine (rd_two (e := .f32) _ _ _ _ _ _ (fun r a d => ∑ q ∈ Finset.range 16, ((bodyBlk arg2 arg3 arg4 arg5 arg6 arg7 X0 X1 X2 X3 X4 X5)).tdk (i 1).val r q a d) ?_ ?_ r a d)
  · intro a d
    refine (pay1_apply ..).trans ?_
    refine (fst_none (fun s => s.2.1 (ix2 a d)) _ _ (loop2_eq ..)).trans ?_
    refine (loop_dk1 ..).trans ?_
    refine (congrArg (· + _) (diag_dk1 i arg2 arg3 arg4 arg5 arg6 arg7 X0 X1 X2 X3 X4 X5 a d)).trans ?_
    exact sum_tiles hq _ fun q h => Blk.tdk_earlier _ h hq ..
  · intro a d
    refine (pay60_apply ..).trans ?_
    refine (fst_none (fun s => s.1 (ix2 a d)) _ _ (loop2_eq ..)).trans ?_
    refine (loop_dk0 ..).trans ?_
    refine (congrArg (· + _) (diag_dk0 i arg2 arg3 arg4 arg5 arg6 arg7 X0 X1 X2 X3 X4 X5 a d)).trans ?_
    exact sum_tiles hq _ fun q h => Blk.tdk_earlier _ h hq ..

set_option maxHeartbeats 2000000 in
theorem outB_dq (r : Fin 2) (x : Fin 8192) (d : Fin 128) : arg8.view.read (Elt Ideal) (runB (F := Ideal) c i arg2 harg2 arg3 harg3 arg4 harg4 arg5 harg5 arg6 harg6 arg7 harg7 arg8 harg8 arg9 harg9 arg10 harg10 hc0 X0 X1 X2 X3 X4 X5 f6 f7 f8).1 (ix3 r x d)
    = arg8.view.read (Elt Ideal) f6 (ix3 r x d) + ((bodyBlk arg2 arg3 arg4 arg5 arg6 arg7 X0 X1 X2 X3 X4 X5)).tdq (i 1).val r x d := by
  have hq := key_lt i
  unfold runB
  dsimp only
  refine (rd_none _ _ _ _ _ (loop2_eq ..) _).trans ?_
  refine (rd_append _ _ _ _ _).trans ?_
  refine (loop_dq ..).trans ?_
  refine (congrArg (· + _) (rd_store2 (e := .f32) _ _ hq _ _ _ _ _ (d4 i) (d2 i)
    (fun r x d => arg8.view.read (Elt Ideal) f6 (ix3 r x d) + ((bodyBlk arg2 arg3 arg4 arg5 arg6 arg7 X0 X1 X2 X3 X4 X5)).tdq (i 1).val r x d) ?_ ?_ r x d)).trans ?_
  · intro x d
    refine (pay57_apply ..).trans ?_
    refine (congrArg₂ (· + ·) (rd_rows3 _ _ hq (d4 i) ..) (Finset.sum_congr rfl fun a _ =>
      congrArg₂ (· * ·) (diag_D1 i arg2 arg3 arg4 arg5 arg6 arg7 X0 X1 X2 X3 X4 X5 a x) (rd_keys _ _ ok1 ..))).trans ?_
    rfl
  · intro x d
    refine (pay51_apply ..).trans ?_
    refine (congrArg₂ (· + ·) (rd_rows3 _ _ hq (d2 i) ..) (Finset.sum_congr rfl fun a _ =>
      congrArg₂ (· * ·) (diag_D0 i arg2 arg3 arg4 arg5 arg6 arg7 X0 X1 X2 X3 X4 X5 a x) (rd_keys _ _ ok0 ..))).trans ?_
    rfl
  · by_cases h : x.val / 512 = (i 1).val
    · rw [if_pos h, if_neg (by omega), add_zero]
    · rw [if_neg h]
      by_cases h' : (i 1).val + 1 ≤ x.val / 512
      · rw [if_pos h']; rfl
      · rw [if_neg h', add_zero, Blk.tdq_earlier _ (by omega), add_zero]; rfl
end B

end Cert.KernelIdeal.Val
end
-- ==== Proof.Arrays.lean ====
/- The three arrays the region writes, entry by entry, as sums over all queries or all keys. -/
module

public import proofs.«01_k».proof.Proof.Out
public import proofs.«01_k».proof.Proof.Run
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-- Head `r` of pair `n`. -/
def hp (n : ℕ) (r : Fin 2) : Fin 16 := ⟨(2 * n + r.val) % 16, Nat.mod_lt _ (by decide)⟩
theorem hp_val {n : ℕ} (hn : n < 8) (r : Fin 2) : (hp n r).val = 2 * n + r.val :=
  Nat.mod_eq_of_lt (by have := r.isLt; omega)
/-- Lane `d` of pair `n`. -/
def lp (n : ℕ) (d : Fin 128) : Fin 1024 := ⟨(128 * n + d.val) % 1024, Nat.mod_lt _ (by decide)⟩
theorem lp_val {n : ℕ} (hn : n < 8) (d : Fin 128) : (lp n d).val = 128 * n + d.val :=
  Nat.mod_eq_of_lt (by have := d.isLt; omega)
/-- The values' lane `e` among the queries', keys' and values' lanes. -/
def vl (e : Fin 1024) : Fin 3072 := ⟨2048 + e.val, by have := e.isLt; omega⟩

/-- The arrays the region reads. -/
structure Arr where
  Q : S16x8192x128.Idx → EReal
  K : S16x8192x128.Idx → EReal
  X : S8192x3072.Idx → EReal
  DO : S8192x1024.Idx → EReal
  L : S16x1x8192.Idx → EReal
  D : S16x1x8192.Idx → EReal

namespace Arr
variable (A : Arr)

/-- A weight of the attention, zero where the key comes after the query. -/
def PM (n : ℕ) (r : Fin 2) (s x : Fin 8192) : EReal :=
  if s.val ≤ x.val then Ideal.exp ((∑ d : Fin 128, A.K (ix3 (hp n r) s d) * A.Q (ix3 (hp n r) x d)) - A.L (ix3 (hp n r) 0 x)) else 0
/-- The gradient of a logit. -/
def DM (n : ℕ) (r : Fin 2) (s x : Fin 8192) : EReal :=
  A.PM n r s x * ((∑ d : Fin 128, (if hd d = r then A.X (ix2 s (vl (lp n d))) else 0) * A.DO (ix2 x (lp n d))) - A.D (ix3 (hp n r) 0 x))

end Arr

variable (m : (ℓ : Loc nD τ sig) → Buf (Elt Ideal) ℓ)

/-- The arrays the region reads on device `c`. -/
def arr (c : Dev nD) : Arr where
  Q := V m c main_v61
  K := V m c main_v66
  X := V m c main_v39
  DO := V m c main_v67
  L := V m c main_v68
  D := V m c main_v69

theorem crd : ∀ t : Fin cfg0.N, (grid0.coords t 0).val = t.val / 16 ∧ (grid0.coords t 1).val = t.val % 16 :=
  (by decide +kernel : ∀ t : Fin grid0.N, _)
theorem e0 : ∀ t : Fin cfg0.N, win0_0.index t = ![t.val / 16, 0, 0] := (by decide +kernel : ∀ t : Fin grid0.N, _)
theorem e1 : ∀ t : Fin cfg0.N, win0_1.index t = ![t.val / 16, t.val % 16, 0] := (by decide +kernel : ∀ t : Fin grid0.N, _)
theorem e2 : ∀ t : Fin cfg0.N, win0_2.index t = ![t.val % 16, 16 + t.val / 16] := (by decide +kernel : ∀ t : Fin grid0.N, _)
theorem e3 : ∀ t : Fin cfg0.N, win0_3.index t = ![0, t.val / 16] := (by decide +kernel : ∀ t : Fin grid0.N, _)
theorem e4 : ∀ t : Fin cfg0.N, win0_4.index t = ![t.val / 16, 0, 0] := (by decide +kernel : ∀ t : Fin grid0.N, _)
theorem e5 : ∀ t : Fin cfg0.N, win0_5.index t = ![t.val / 16, 0, 0] := (by decide +kernel : ∀ t : Fin grid0.N, _)
theorem e6 : ∀ t : Fin cfg0.N, win0_6.index t = ![t.val / 16, 0, 0] := (by decide +kernel : ∀ t : Fin grid0.N, _)
theorem e7 : ∀ t : Fin cfg0.N, win0_7.index t = ![t.val / 16, t.val % 16, 0] := (by decide +kernel : ∀ t : Fin grid0.N, _)
theorem e8 : ∀ t : Fin cfg0.N, win0_8.index t = ![t.val % 16, t.val / 16] := (by decide +kernel : ∀ t : Fin grid0.N, _)

theorem pair_lt (t : Fin cfg0.N) : t.val / 16 < 8 := by have h : t.val < 128 := t.isLt; omega
theorem kb_lt (t : Fin cfg0.N) : t.val % 16 < 16 := Nat.mod_lt _ (by decide)

theorem b0 (c : Dev nD) (t : Fin cfg0.N) (r : Fin 2) (x : Fin 8192) (d : Fin 128) :
    iblk m c 0 t (ix3 r x d) = (arr m c).Q (ix3 (hp (t.val / 16) r) x d) := by
  have h := hp_val (pair_lt t) r
  have e := e0 t
  blk_ext [iblk, arr, e, h]
theorem b1 (c : Dev nD) (t : Fin cfg0.N) (r : Fin 2) (a : Fin 512) (d : Fin 128) :
    iblk m c 1 t (ix3 r a d) = (arr m c).K (ix3 (hp (t.val / 16) r) (row (t.val % 16) a) d) := by
  have h := hp_val (pair_lt t) r
  have h' := row_val (kb_lt t) a
  have e := e1 t
  blk_ext [iblk, arr, e, h, h']
theorem b2 (c : Dev nD) (t : Fin cfg0.N) (a : Fin 512) (d : Fin 128) :
    iblk m c 2 t (ix2 a d) = (arr m c).X (ix2 (row (t.val % 16) a) (vl (lp (t.val / 16) d))) := by
  have h := lp_val (pair_lt t) d
  have h' := row_val (kb_lt t) a
  have e := e2 t
  blk_ext [iblk, arr, e, h, h', vl]
theorem b3 (c : Dev nD) (t : Fin cfg0.N) (x : Fin 8192) (d : Fin 128) :
    iblk m c 3 t (ix2 x d) = (arr m c).DO (ix2 x (lp (t.val / 16) d)) := by
  have h := lp_val (pair_lt t) d
  have e := e3 t
  blk_ext [iblk, arr, e, h]
theorem b5_of (g : S16x1x8192.Idx → EReal) (t : Fin cfg0.N) (r : Fin 2) (u : Fin 1) (x : Fin 8192) :
    ((cfg0.win 5).blk t).view.read (Elt Ideal) g (ix3 r u x) = g (ix3 (hp (t.val / 16) r) 0 x) := by
  have h := hp_val (pair_lt t) r
  have e := e5 t
  blk_ext [e, h]
theorem b4_of (g : S16x1x8192.Idx → EReal) (t : Fin cfg0.N) (r : Fin 2) (u : Fin 1) (x : Fin 8192) :
    ((cfg0.win 4).blk t).view.read (Elt Ideal) g (ix3 r u x) = g (ix3 (hp (t.val / 16) r) 0 x) := by
  have h := hp_val (pair_lt t) r
  have e := e4 t
  blk_ext [e, h]
theorem b4 (c : Dev nD) (t : Fin cfg0.N) (r : Fin 2) (u : Fin 1) (x : Fin 8192) :
    iblk m c 4 t (ix3 r u x) = (arr m c).L (ix3 (hp (t.val / 16) r) 0 x) :=
  b4_of (V m c main_v68) t r u x
theorem b5 (c : Dev nD) (t : Fin cfg0.N) (r : Fin 2) (u : Fin 1) (x : Fin 8192) :
    iblk m c 5 t (ix3 r u x) = (arr m c).D (ix3 (hp (t.val / 16) r) 0 x) :=
  b5_of (V m c main_v69) t r u x

/-- What point `t` reads. -/
def ptb (c : Dev nD) (t : Fin cfg0.N) : Blk where
  QA := iblk m c 0 t
  KA := iblk m c 1 t
  VB := iblk m c 2 t
  DO := iblk m c 3 t
  L := iblk m c 4 t
  D := iblk m c 5 t

theorem body_ptb (c : Dev nD) (t : Fin cfg0.N) :
    bodyBlk (ms0 t) (ms1 t) (ms2 t) (ms3 t) (ms4 t) (ms5 t) ((hs0 t).unread (iblk m c 0 t)) ((hs1 t).unread (iblk m c 1 t))
      ((hs2 t).unread (iblk m c 2 t)) ((hs3 t).unread (iblk m c 3 t)) ((hs4 t).unread (iblk m c 4 t)) ((hs5 t).unread (iblk m c 5 t))
    = ptb m c t := by
  have h2 : (ms2 t).view.readAt (Elt Ideal) (Rect.unit (s := S512x128) ![0, 0] S512x128.size (by decide)).toLoadRect ((hs2 t).unread (iblk m c 2 t)) = iblk m c 2 t := by
    funext y
    obtain ⟨a, d, rfl⟩ : ∃ (a : Fin 512) (d : Fin 128), y = ix2 a d := ⟨y 0, y 1, eq_ix2 y⟩
    refine (rd_vals _ _ rfl _ _ _).trans ?_
    rw [(hs2 t).read_unread]
  unfold bodyBlk blk ptb
  rw [h2, (hs0 t).read_unread, (hs1 t).read_unread, (hs3 t).read_unread, (hs4 t).read_unread, (hs5 t).read_unread]

theorem ptb_PM (c : Dev nD) (t : Fin cfg0.N) (r : Fin 2) (a : Fin 512) (x : Fin 8192) :
    (ptb m c t).PM (t.val % 16) r a x = (arr m c).PM (t.val / 16) r (row (t.val % 16) a) x := by
  unfold Blk.PM Blk.P Arr.PM ptb
  dsimp only
  simp only [b0, b1, b4, row_val (kb_lt t)]

theorem ptb_DM (c : Dev nD) (t : Fin cfg0.N) (r : Fin 2) (a : Fin 512) (x : Fin 8192) :
    (ptb m c t).DM (t.val % 16) r a x = (arr m c).DM (t.val / 16) r (row (t.val % 16) a) x := by
  unfold Blk.DM Arr.DM Blk.vm
  rw [ptb_PM]
  unfold ptb
  dsimp only
  simp only [b2, b3, b5]

theorem ptb_tdq (c : Dev nD) (t : Fin cfg0.N) (r : Fin 2) (x : Fin 8192) (d : Fin 128) :
    (ptb m c t).tdq (t.val % 16) r x d = ∑ a : Fin 512, (arr m c).DM (t.val / 16) r (row (t.val % 16) a) x * (arr m c).K (ix3 (hp (t.val / 16) r) (row (t.val % 16) a) d) := by
  unfold Blk.tdq
  simp only [ptb_DM]
  refine Finset.sum_congr rfl fun a _ => ?_
  exact congrArg _ (b1 m c t r a d)

/-- Sixteen tiles of 512 rows are the 8192 rows. -/
theorem sum_rows (f : Fin 8192 → EReal) : ∑ q ∈ Finset.range 16, ∑ x : Fin 512, f (row q x) = ∑ x : Fin 8192, f x := by
  rw [Finset.sum_range]
  refine Eq.trans ?_ (Fin.sum_mul_add_fin 16 512 f (by decide))
  refine Finset.sum_congr rfl fun q _ => Finset.sum_congr rfl fun x _ => congrArg f (Fin.ext ?_)
  rw [row_val q.isLt]
  show _ = q.val * 512 + x.val
  omega

theorem left7_apply (c : Dev nD) (t : Fin cfg0.N) (f6) (r : Fin 2) (a : Fin 512) (d : Fin 128) :
    left7 m c t f6 (ix3 r a d) = ∑ x : Fin 8192, (arr m c).DM (t.val / 16) r (row (t.val % 16) a) x * (arr m c).Q (ix3 (hp (t.val / 16) r) x d) := by
  have key : left7 m c t f6 (ix3 r a d) = ∑ q ∈ Finset.range 16, (ptb m c t).tdk (t.val % 16) r q a d := by
    rw [← body_ptb, ← (crd t).2]
    unfold left7
    by_cases h : cond0 (grid0.coords t)
    · rw [dif_pos h]; exact outA_dk ..
    · rw [dif_neg h]; exact outB_dk ..
  rw [key]
  refine Eq.trans ?_ (sum_rows _)
  refine Finset.sum_congr rfl fun q _ => Finset.sum_congr rfl fun x _ => ?_
  rw [ptb_DM]
  exact congrArg _ (b0 m c t r _ d)

theorem left8_apply (c : Dev nD) (t : Fin cfg0.N) (f6) (a : Fin 512) (d : Fin 128) :
    left8 m c t f6 (ix2 a d) = ∑ q ∈ Finset.range 16, ((ptb m c t).tdv (t.val % 16) 0 q a d + (ptb m c t).tdv (t.val % 16) 1 q a d) := by
  rw [← body_ptb, ← (crd t).2]
  unfold left8
  by_cases h : cond0 (grid0.coords t)
  · rw [dif_pos h]; exact outA_dv ..
  · rw [dif_neg h]; exact outB_dv ..

theorem acc6_apply (c : Dev nD) (t : Fin cfg0.N) (ht : t.val % 16 = 15) (r : Fin 2) (x : Fin 8192) (d : Fin 128) :
    acc6 m c t.val t.isLt (ix3 r x d) = ∑ s : Fin 8192, (arr m c).DM (t.val / 16) r s x * (arr m c).K (ix3 (hp (t.val / 16) r) s d) := by
  have key := Pipeline.eq_sum_of_reset_step_of_mod (fun n h => acc6 m c n h (ix3 r x d)) 16 (0 : EReal)
    (fun n => ∑ a : Fin 512, (arr m c).DM (n / 16) r (row (n % 16) a) x * (arr m c).K (ix3 (hp (n / 16) r) (row (n % 16) a) d))
    (fun t h => by
      show acc6 m c t.val t.isLt (ix3 r x d) = _
      rw [zero_add, ← ptb_tdq, acc6_eq, ← body_ptb, ← (crd t).2]
      unfold left6
      rw [dif_pos ((hcond0 t).2 h)]
      exact outA_dq ..)
    (fun t h => by
      show acc6 m c t.val t.isLt (ix3 r x d) = acc6 m c (t.val - 1) _ (ix3 r x d) + _
      rw [← ptb_tdq, acc6_eq, ← body_ptb, ← (crd t).2]
      unfold left6
      rw [dif_neg (fun h' => h ((hcond0 t).1 h'))]
      refine (outB_dq ..).trans ?_
      rw [prev6_pos m c t (fun h' => h (by rw [h'])), (hs6 t).read_unread])
    t ht
  refine key.trans ?_
  rw [zero_add]
  refine Eq.trans ?_ (sum_rows _)
  refine Finset.sum_congr rfl fun q hq => ?_
  have hq' := Finset.mem_range.1 hq
  rw [show (16 * (t.val / 16) + q) / 16 = t.val / 16 by omega, show (16 * (t.val / 16) + q) % 16 = q by omega]

/-- The pair a head is in, and its place in it. -/
def hr (h : Fin 16) : Fin 2 := ⟨h.val % 2, Nat.mod_lt _ (by decide)⟩

def G6 (c : Dev nD) (i : S16x8192x128.Idx) : EReal :=
  ∑ s : Fin 8192, (arr m c).DM ((i 0).val / 2) (hr (i 0)) s (i 1) * (arr m c).K (ix3 (i 0) s (i 2))
def G7 (c : Dev nD) (i : S16x8192x128.Idx) : EReal :=
  ∑ x : Fin 8192, (arr m c).DM ((i 0).val / 2) (hr (i 0)) (i 1) x * (arr m c).Q (ix3 (i 0) x (i 2))
/-- The gradient of value lane `e` at row `s`. -/
def dvAt (c : Dev nD) (s : Fin 8192) (e : Fin 1024) : EReal :=
  ∑ x : Fin 8192, (arr m c).PM (e.val / 128) (hd ⟨e.val % 128, Nat.mod_lt _ (by decide)⟩) s x * (arr m c).DO (ix2 x e)
def G8 (c : Dev nD) (i : S8192x1024.Idx) : EReal := dvAt m c (i 0) (i 1)

theorem hp_pair {n : ℕ} (hn : n < 8) (r : Fin 2) : (hp n r).val / 2 = n := by rw [hp_val hn]; have := r.isLt; omega
theorem hp_hr {n : ℕ} (hn : n < 8) (r : Fin 2) : hr (hp n r) = r := Fin.ext (by
  show (hp n r).val % 2 = r.val
  rw [hp_val hn]; have := r.isLt; omega)
theorem lp_pair {n : ℕ} (hn : n < 8) (d : Fin 128) : (lp n d).val / 128 = n := by rw [lp_val hn]; have := d.isLt; omega
theorem lp_lane {n : ℕ} (hn : n < 8) (d : Fin 128) (h : (lp n d).val % 128 < 128) : (⟨(lp n d).val % 128, h⟩ : Fin 128) = d := Fin.ext (by
  show (lp n d).val % 128 = d.val
  rw [lp_val hn]; have := d.isLt; omega)

theorem tdv_own (c : Dev nD) (t : Fin cfg0.N) (r : Fin 2) (q : ℕ) (a : Fin 512) (d : Fin 128) (h : hd d = r) :
    (ptb m c t).tdv (t.val % 16) r q a d = ∑ y : Fin 512, (arr m c).PM (t.val / 16) r (row (t.val % 16) a) (row q y) * (arr m c).DO (ix2 (row q y) (lp (t.val / 16) d)) := by
  unfold Blk.tdv Blk.dom
  refine Finset.sum_congr rfl fun y _ => ?_
  rw [ptb_PM, if_pos h]
  exact congrArg _ (b3 m c t _ d)
theorem tdv_other (c : Dev nD) (t : Fin cfg0.N) (r : Fin 2) (q : ℕ) (a : Fin 512) (d : Fin 128) (h : ¬hd d = r) :
    (ptb m c t).tdv (t.val % 16) r q a d = 0 :=
  Finset.sum_eq_zero fun y _ => by unfold Blk.dom; rw [if_neg h, mul_zero]
theorem tdv_pair (c : Dev nD) (t : Fin cfg0.N) (q : ℕ) (a : Fin 512) (d : Fin 128) :
    (ptb m c t).tdv (t.val % 16) 0 q a d + (ptb m c t).tdv (t.val % 16) 1 q a d
      = ∑ y : Fin 512, (arr m c).PM (t.val / 16) (hd d) (row (t.val % 16) a) (row q y) * (arr m c).DO (ix2 (row q y) (lp (t.val / 16) d)) := by
  by_cases h : hd d = 0
  · rw [tdv_other m c t 1 q a d (by rw [h]; decide), add_zero, tdv_own m c t 0 q a d h, h]
  · have h1 : hd d = 1 := by
      have : ∀ r : Fin 2, ¬r = 0 → r = 1 := by decide
      exact this _ h
    rw [tdv_other m c t 0 q a d h, zero_add, tdv_own m c t 1 q a d h1, h1]

theorem final6 (c : Dev nD) : (dats m 0 c).arrAt 6 cfg0.N = G6 m c :=
  (dats m 0 c).arrAt_eq_of_covers 6 (G6 m c) (by decide +kernel) fun t hf y => by
    have ht := (flush0_6 t).mp hf
    blk_simp
    rw [after_6]
    obtain ⟨r, x, d, rfl⟩ : ∃ (r : Fin 2) (x : Fin 8192) (d : Fin 128), y = ix3 r x d := ⟨y 0, y 1, y 2, eq_ix3 y⟩
    refine (acc6_apply m c t ht r x d).trans ?_
    have h := hp_val (pair_lt t) r
    have e := e6 t
    have hi : ((cfg0.win 6).blk t).view.emb (ix3 r x d) = (ix3 (hp (t.val / 16) r) x d : S16x8192x128.Idx) := by blk_ext [e, h]
    refine Eq.trans ?_ (congrArg (G6 m c) hi).symm
    unfold G6
    rw [show ((ix3 (hp (t.val / 16) r) x d : S16x8192x128.Idx) 0) = hp (t.val / 16) r from rfl, hp_pair (pair_lt t), hp_hr (pair_lt t)]
    rfl

theorem final7 (c : Dev nD) : (dats m 0 c).arrAt 7 cfg0.N = G7 m c :=
  (dats m 0 c).arrAt_eq_of_covers 7 (G7 m c) (by decide +kernel) fun t hf y => by
    blk_simp
    rw [after_7]
    obtain ⟨r, x, d, rfl⟩ : ∃ (r : Fin 2) (x : Fin 512) (d : Fin 128), y = ix3 r x d := ⟨y 0, y 1, y 2, eq_ix3 y⟩
    refine (left7_apply m c t _ r x d).trans ?_
    have h := hp_val (pair_lt t) r
    have h' := row_val (kb_lt t) x
    have e := e7 t
    have hi : ((cfg0.win 7).blk t).view.emb (ix3 r x d) = (ix3 (hp (t.val / 16) r) (row (t.val % 16) x) d : S16x8192x128.Idx) := by blk_ext [e, h, h']
    refine Eq.trans ?_ (congrArg (G7 m c) hi).symm
    unfold G7
    rw [show ((ix3 (hp (t.val / 16) r) (row (t.val % 16) x) d : S16x8192x128.Idx) 0) = hp (t.val / 16) r from rfl, hp_pair (pair_lt t), hp_hr (pair_lt t)]
    rfl

theorem final8 (c : Dev nD) : (dats m 0 c).arrAt 8 cfg0.N = G8 m c :=
  (dats m 0 c).arrAt_eq_of_covers 8 (G8 m c) (by decide +kernel) fun t hf y => by
    blk_simp
    rw [after_8]
    obtain ⟨x, d, rfl⟩ : ∃ (x : Fin 512) (d : Fin 128), y = ix2 x d := ⟨y 0, y 1, eq_ix2 y⟩
    refine (left8_apply m c t _ x d).trans ?_
    have h := lp_val (pair_lt t) d
    have h' := row_val (kb_lt t) x
    have e := e8 t
    have hi : ((cfg0.win 8).blk t).view.emb (ix2 x d) = (ix2 (row (t.val % 16) x) (lp (t.val / 16) d) : S8192x1024.Idx) := by blk_ext [e, h, h']
    refine Eq.trans ?_ (congrArg (G8 m c) hi).symm
    show _ = dvAt m c (row (t.val % 16) x) (lp (t.val / 16) d)
    unfold dvAt
    simp only [lp_pair (pair_lt t), lp_lane (pair_lt t)]
    refine Eq.trans (Finset.sum_congr rfl fun q _ => ?_) (sum_rows fun y => (arr m c).PM (t.val / 16) (hd d) (row (t.val % 16) x) y * (arr m c).DO (ix2 y (lp (t.val / 16) d)))
    exact tdv_pair m c t q x d

end Cert.KernelIdeal.Val
end
-- ==== Proof.Host.lean ====
/- What the lines before the region leave in the arrays that the region reads. -/
module

public import proofs.«01_k».proof.Proof.Arrays
public import proofs.«01_k».proof.Proof.Gen.ReferenceIdeal
public import proofs.«01_k».proof.Proof.Gen.ReferenceIdeal.Read
public import Idealize.ShloMosaic.Lib.StableHlo.ReadAt

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Cert.ReferenceIdeal.Read

variable (m : (ℓ : Loc nD τ sig) → Buf (Elt Ideal) ℓ)

/-- The lines before the region. -/
abbrev pre : List (HloOp τ sig (Elt Ideal)) := List.flatten [hostOps0, hostOps0_1, hostOps0_2]
abbrev a0 (c : Dev nD) : S8192x1024.Idx → EReal := m ((c : Thread nD τ).loc main_arg0)
abbrev a1 (c : Dev nD) : S8192x1024.Idx → EReal := m ((c : Thread nD τ).loc main_arg1)
abbrev a2 (c : Dev nD) : S8192x1024.Idx → EReal := m ((c : Thread nD τ).loc main_arg2)
abbrev a3 (c : Dev nD) : S8192x16.Idx → EReal := m ((c : Thread nD τ).loc main_arg3)
abbrev a4 (c : Dev nD) : S8192x1024.Idx → EReal := m ((c : Thread nD τ).loc main_arg4)

/-- Each row's greatest masked logit. -/
def rowMax (w : FVec Ideal S16x8192x8192 .f32) : FVec Ideal S16x8192 .f32 :=
  Host.reduce FloatOps.maximumf w (constant S_ .f32 0xFF800000#32) reducesTo_S16x8192x8192_S16x8192_d2 h_S_
/-- The exponentials of the masked logits less their row's greatest. -/
def ex (w : FVec Ideal S16x8192x8192 .f32) : FVec Ideal S16x8192x8192 .f32 :=
  Host.exp (subf w (broadcastInDim S16x8192x8192 ![0, 1, 2] bcast_S16x8192x1_S16x8192x8192_0_1_2 (broadcastInDim S16x8192x1 ![0, 1] bcast_S16x8192_S16x8192x1_0_1 (rowMax w))))
/-- Their sums. -/
def den (w : FVec Ideal S16x8192x8192 .f32) : FVec Ideal S16x8192x1 .f32 :=
  broadcastInDim S16x8192x1 ![0, 1] bcast_S16x8192_S16x8192x1_0_1 (Host.reduceAdd (ex w) (constant S_ .f32 0x00000000#32) reducesTo_S16x8192x8192_S16x8192_d2 h_S_)
def lse (w : FVec Ideal S16x8192x8192 .f32) : FVec Ideal S16x1x8192 .f32 :=
  broadcastInDim S16x1x8192 ![0, 2] bcast_S16x8192_S16x1x8192_0_2 (shapeCast S16x8192 (addf (broadcastInDim S16x8192x1 ![0, 1] bcast_S16x8192_S16x8192x1_0_1 (rowMax w)) (Host.log (den w))) shapeCasts_S16x8192x1_S16x8192)
def att (w : FVec Ideal S16x8192x8192 .f32) (v : FVec Ideal S8192x1024 .f32) : FVec Ideal S16x64x8192 .f32 :=
  Host.dotGeneral dot_S8192x16x64_S16x8192x8192_S16x64x8192_0_2_2_1_1_0 none (shapeCast S8192x16x64 v shapeCasts_S8192x1024_S8192x16x64)
    (Host.divf (ex w) (broadcastInDim S16x8192x8192 ![0, 1, 2] bcast_S16x8192x1_S16x8192x8192_0_1_2 (den w)))
def delta (w : FVec Ideal S16x8192x8192 .f32) (v g : FVec Ideal S8192x1024 .f32) : FVec Ideal S16x1x8192 .f32 :=
  broadcastInDim S16x1x8192 ![0, 2] bcast_S16x8192_S16x1x8192_0_2 (transpose S16x8192 [1, 0] (Host.reduceAdd
    (mulf (transpose S8192x16x64 [2, 0, 1] (att w v) transposes_S16x64x8192_S8192x16x64_2_0_1) (shapeCast S8192x16x64 g shapeCasts_S8192x1024_S8192x16x64))
    (constant S_ .f32 0x00000000#32) reducesTo_S8192x16x64_S8192x16_d2 h_S_) transposes_S8192x16_S16x8192_1_0)

theorem h18 (c : Dev nD) : V m c main_v18 = val_main_v19_0 (F := Ideal) (a0 m c) (a1 m c) (a3 m c) := by
  after_reads_simp
  rfl
theorem h68 (c : Dev nD) : V m c main_v68 = lse (V m c main_v18) := by
  after_reads_simp
  rfl
theorem h69 (c : Dev nD) : V m c main_v69 = delta (V m c main_v18) (a2 m c) (a4 m c) := by
  after_reads_simp
  rfl
theorem h67 (c : Dev nD) : V m c main_v67 = a4 m c := by
  after_reads_simp
  rfl
theorem h39 (c : Dev nD) : V m c main_v39 = concatenate S8192x3072 1 [⟨S8192x1024, a0 m c⟩, ⟨S8192x1024, a1 m c⟩, ⟨S8192x1024, a2 m c⟩] concatenates_S8192x1024_S8192x1024_S8192x1024_S8192x3072_d1 := by
  have e0 : StableHlo.upto pre (fun b => m (c, b)) 46 (Proc.tc.devRef main_arg0) = a0 m c := by after_reads_simp
  have e1 : StableHlo.upto pre (fun b => m (c, b)) 46 (Proc.tc.devRef main_arg1) = a1 m c := by after_reads_simp
  have e2 : StableHlo.upto pre (fun b => m (c, b)) 46 (Proc.tc.devRef main_arg2) = a2 m c := by after_reads_simp
  rw [← e0, ← e1, ← e2]
  after_reads_simp
  rfl

/-- The logarithm of the forget gates, as one lane. -/
def cc (g : FVec Ideal S8192x16 .f32) : FVec Ideal S16x8192x1 .f32 :=
  broadcastInDim S16x8192x1 ![0, 1] bcast_S16x8192_S16x8192x1_0_1 (transpose S16x8192 [1, 0] g transposes_S8192x16_S16x8192_1_0)
def c2 (g : FVec Ideal S8192x16 .f32) : FVec Ideal S16x8192x1 .f32 := subf (F := Ideal) (φ := .f32) (cc g) (cc g)
def c3 (g : FVec Ideal S8192x16 .f32) : FVec Ideal S16x8192x1 .f32 := subf (F := Ideal) (φ := .f32) (c2 g) (c2 g)
def one1 : FVec Ideal S16x8192x1 .f32 := broadcastInDim S16x8192x1 ![] bcast_S_S16x8192x1 (constant S_ .f32 0x3F800000#32)
def zero58 : FVec Ideal S16x8192x58 .f32 := broadcastInDim S16x8192x58 ![] bcast_S_S16x8192x58 (constant S_ .f32 0x00000000#32)
def qh (g : FVec Ideal S8192x1024 .f32) : FVec Ideal S16x8192x64 .f32 :=
  mulf (transpose S16x8192x64 [1, 0, 2] (shapeCast S8192x16x64 g shapeCasts_S8192x1024_S8192x16x64) transposes_S8192x16x64_S16x8192x64_1_0_2) (broadcastInDim S16x8192x64 ![] bcast_S_S16x8192x64 (constant S_ .f32 0x3E000000#32))
def kh (g : FVec Ideal S8192x1024 .f32) : FVec Ideal S16x8192x64 .f32 :=
  transpose S16x8192x64 [1, 0, 2] (shapeCast S8192x16x64 g shapeCasts_S8192x1024_S8192x16x64) transposes_S8192x16x64_S16x8192x64_1_0_2

def cat (x : FVec Ideal S16x8192x64 .f32) (y0 y1 y2 y3 y4 y5 : FVec Ideal S16x8192x1 .f32) (z : FVec Ideal S16x8192x58 .f32) : FVec Ideal S16x8192x128 .f32 :=
  concatenate S16x8192x128 2 [⟨S16x8192x64, x⟩, ⟨S16x8192x1, y0⟩, ⟨S16x8192x1, y1⟩, ⟨S16x8192x1, y2⟩, ⟨S16x8192x1, y3⟩, ⟨S16x8192x1, y4⟩, ⟨S16x8192x1, y5⟩, ⟨S16x8192x58, z⟩]
    concatenates_S16x8192x64_S16x8192x1_S16x8192x1_S16x8192x1_S16x8192x1_S16x8192x1_S16x8192x1_S16x8192x58_S16x8192x128_d2

theorem h61 (c : Dev nD) : V m c main_v61 = cat (qh (a0 m c)) (cc (a3 m c)) (c2 (a3 m c)) (c3 (a3 m c)) one1 one1 one1 zero58 := by
  have e0 : StableHlo.upto pre (fun b => m (c, b)) 71 (Proc.tc.devRef main_v57) = qh (a0 m c) := by after_reads_simp; rfl
  have e1 : StableHlo.upto pre (fun b => m (c, b)) 71 (Proc.tc.devRef main_v49) = cc (a3 m c) := by after_reads_simp; rfl
  have e2 : StableHlo.upto pre (fun b => m (c, b)) 71 (Proc.tc.devRef main_v50) = c2 (a3 m c) := by after_reads_simp; rfl
  have e3 : StableHlo.upto pre (fun b => m (c, b)) 71 (Proc.tc.devRef main_v51) = c3 (a3 m c) := by after_reads_simp; rfl
  have e4 : StableHlo.upto pre (fun b => m (c, b)) 71 (Proc.tc.devRef main_v52) = one1 := by after_reads_simp; rfl
  have e5 : StableHlo.upto pre (fun b => m (c, b)) 71 (Proc.tc.devRef main_v53) = zero58 := by after_reads_simp; rfl
  after_reads_simp
  show cat (StableHlo.upto pre (fun b => m (c, b)) 71 (Proc.tc.devRef main_v57)) (StableHlo.upto pre (fun b => m (c, b)) 71 (Proc.tc.devRef main_v49)) (StableHlo.upto pre (fun b => m (c, b)) 71 (Proc.tc.devRef main_v50)) (StableHlo.upto pre (fun b => m (c, b)) 71 (Proc.tc.devRef main_v51)) (StableHlo.upto pre (fun b => m (c, b)) 71 (Proc.tc.devRef main_v52)) (StableHlo.upto pre (fun b => m (c, b)) 71 (Proc.tc.devRef main_v52)) (StableHlo.upto pre (fun b => m (c, b)) 71 (Proc.tc.devRef main_v52)) (StableHlo.upto pre (fun b => m (c, b)) 71 (Proc.tc.devRef main_v53)) = _
  rw [e0, e1, e2, e3, e4, e5]
theorem h66 (c : Dev nD) : V m c main_v66 = cat (kh (a1 m c)) one1 one1 one1 (Host.negf (F := Ideal) (φ := .f32) (cc (a3 m c))) (Host.negf (F := Ideal) (φ := .f32) (c2 (a3 m c))) (Host.negf (F := Ideal) (φ := .f32) (c3 (a3 m c))) zero58 := by
  have e0 : StableHlo.upto pre (fun b => m (c, b)) 76 (Proc.tc.devRef main_v59) = kh (a1 m c) := by after_reads_simp; rfl
  have e1 : StableHlo.upto pre (fun b => m (c, b)) 76 (Proc.tc.devRef main_v62) = Host.negf (F := Ideal) (φ := .f32) (cc (a3 m c)) := by after_reads_simp; rfl
  have e2 : StableHlo.upto pre (fun b => m (c, b)) 76 (Proc.tc.devRef main_v63) = Host.negf (F := Ideal) (φ := .f32) (c2 (a3 m c)) := by after_reads_simp; rfl
  have e3 : StableHlo.upto pre (fun b => m (c, b)) 76 (Proc.tc.devRef main_v64) = Host.negf (F := Ideal) (φ := .f32) (c3 (a3 m c)) := by after_reads_simp; rfl
  have e4 : StableHlo.upto pre (fun b => m (c, b)) 76 (Proc.tc.devRef main_v52) = one1 := by after_reads_simp; rfl
  have e5 : StableHlo.upto pre (fun b => m (c, b)) 76 (Proc.tc.devRef main_v53) = zero58 := by after_reads_simp; rfl
  after_reads_simp
  show cat (StableHlo.upto pre (fun b => m (c, b)) 76 (Proc.tc.devRef main_v59)) (StableHlo.upto pre (fun b => m (c, b)) 76 (Proc.tc.devRef main_v52)) (StableHlo.upto pre (fun b => m (c, b)) 76 (Proc.tc.devRef main_v52)) (StableHlo.upto pre (fun b => m (c, b)) 76 (Proc.tc.devRef main_v52)) (StableHlo.upto pre (fun b => m (c, b)) 76 (Proc.tc.devRef main_v62)) (StableHlo.upto pre (fun b => m (c, b)) 76 (Proc.tc.devRef main_v63)) (StableHlo.upto pre (fun b => m (c, b)) 76 (Proc.tc.devRef main_v64)) (StableHlo.upto pre (fun b => m (c, b)) 76 (Proc.tc.devRef main_v53)) = _
  rw [e0, e1, e2, e3, e4, e5]

end Cert.KernelIdeal.Val
end
-- ==== Proof.Spec.lean ====
/- The gradients of masked softmax attention over real numbers, and the two ways in which they are computed. -/
module

public import Idealize.ShloMosaic.PureOps.Ideal
public import Idealize.ShloMosaic.Lib.IdealHost

@[expose] public section

noncomputable section

namespace Cert.Spec

open Idealize.ShloMosaic

/-- Lane `d` of head `h`. -/
def el (h : Fin 16) (d : Fin 64) : Fin 1024 := ⟨64 * h.val + d.val, by have := h.isLt; have := d.isLt; omega⟩

/-- The arguments: queries, keys, values, the incoming gradient and the cumulated logarithms of the forget gates. -/
structure Inp where
  q : Fin 8192 → Fin 1024 → ℝ
  k : Fin 8192 → Fin 1024 → ℝ
  v : Fin 8192 → Fin 1024 → ℝ
  g : Fin 8192 → Fin 1024 → ℝ
  c : Fin 8192 → Fin 16 → ℝ

namespace Inp
variable (I : Inp) (h : Fin 16) (x s : Fin 8192)

/-- The logit of query `x` and key `s`. -/
def lg : ℝ := (∑ d : Fin 64, I.q x (el h d) * I.k s (el h d)) * (1 / 8) + I.c x h - I.c s h
/-- Its exponential, zero where the key comes after the query. -/
def e : ℝ := if s.val ≤ x.val then Real.exp (I.lg h x s) else 0
def Z : ℝ := ∑ s : Fin 8192, I.e h x s
/-- The weight of key `s` for query `x`. -/
def pr : ℝ := I.e h x s / I.Z h x
/-- The gradient of the weight. -/
def dp : ℝ := ∑ d : Fin 64, I.g x (el h d) * I.v s (el h d)
def dl : ℝ := ∑ s : Fin 8192, I.pr h x s * I.dp h x s
/-- The gradient of the logit. -/
def ds : ℝ := I.pr h x s * (I.dp h x s - I.dl h x)

theorem e_nonneg : 0 ≤ I.e h x s := by
  unfold e; split
  · exact (Real.exp_pos _).le
  · exact le_refl _
theorem Z_pos : 0 < I.Z h x := by
  refine Finset.sum_pos' (fun s _ => I.e_nonneg h x s) ⟨x, Finset.mem_univ _, ?_⟩
  unfold e; rw [if_pos (le_refl _)]; exact Real.exp_pos _

/-- The masked logit. -/
def ml : EReal := if s.val ≤ x.val then ((I.lg h x s : ℝ) : EReal) else ⊥
end Inp

theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

theorem exp_coe (r : ℝ) : Ideal.exp (r : EReal) = ((Real.exp r : ℝ) : EReal) := rfl
theorem exp_bot : Ideal.exp ⊥ = 0 := rfl
theorem log_coe {r : ℝ} (h : 0 < r) : Ideal.log (r : EReal) = ((Real.log r : ℝ) : EReal) := by
  show (if r ≤ 0 then (⊥ : EReal) else ((Real.log r : ℝ) : EReal)) = _
  rw [if_neg (not_le.mpr h)]
theorem div_coe (a : ℝ) {b : ℝ} (h : b ≠ 0) : Ideal.div (a : EReal) (b : EReal) = ((a / b : ℝ) : EReal) := by
  unfold Ideal.div
  rw [if_neg (by simpa using h), div_eq_mul_inv, EReal.coe_mul, EReal.coe_inv]

namespace Inp
variable (I : Inp) (h : Fin 16) (x s : Fin 8192)

theorem exp_ml (M : ℝ) : Ideal.exp (I.ml h x s - (M : EReal)) = ((I.e h x s * Real.exp (-M) : ℝ) : EReal) := by
  unfold ml e
  split
  · rw [← EReal.coe_sub, exp_coe, sub_eq_add_neg, Real.exp_add]
  · rw [zero_mul, EReal.bot_sub, exp_bot]; rfl
theorem sum_ml (M : ℝ) : ∑ s : Fin 8192, Ideal.exp (I.ml h x s - (M : EReal)) = ((I.Z h x * Real.exp (-M) : ℝ) : EReal) := by
  simp only [exp_ml]
  rw [coe_sum]
  exact congrArg _ (Finset.sum_mul _ _ _).symm
theorem Zm_pos (M : ℝ) : 0 < I.Z h x * Real.exp (-M) := mul_pos (I.Z_pos h x) (Real.exp_pos _)
theorem lse_ml (M : ℝ) : (M : EReal) + Ideal.log ((I.Z h x * Real.exp (-M) : ℝ) : EReal) = ((Real.log (I.Z h x) : ℝ) : EReal) := by
  rw [log_coe (I.Zm_pos h x M), Real.log_mul (I.Z_pos h x).ne' (Real.exp_pos _).ne', Real.log_exp, ← EReal.coe_add]
  congr 1; ring
theorem weight : (if s.val ≤ x.val then Ideal.exp (((I.lg h x s : ℝ) : EReal) - ((Real.log (I.Z h x) : ℝ) : EReal)) else 0) = ((I.pr h x s : ℝ) : EReal) := by
  unfold pr e
  split
  · rw [← EReal.coe_sub, exp_coe, Real.exp_sub, Real.exp_log (I.Z_pos h x)]
  · rw [zero_div]; rfl
theorem pr_ml (M : ℝ) : I.e h x s * Real.exp (-M) / (I.Z h x * Real.exp (-M)) = I.pr h x s :=
  mul_div_mul_right _ _ (Real.exp_pos _).ne'
/-- The gradient of a logit as differentiation writes it. -/
theorem ds_ml (M : ℝ) : (I.dp h x s / (I.Z h x * Real.exp (-M))
      + -(∑ s : Fin 8192, I.dp h x s * (1 / (I.Z h x * Real.exp (-M) * (I.Z h x * Real.exp (-M)))) * (I.e h x s * Real.exp (-M)))) * (I.e h x s * Real.exp (-M)) = I.ds h x s := by
  have hz := (I.Z_pos h x).ne'
  have hm := (Real.exp_pos (-M)).ne'
  have hs : (∑ s : Fin 8192, I.dp h x s * (1 / (I.Z h x * Real.exp (-M) * (I.Z h x * Real.exp (-M)))) * (I.e h x s * Real.exp (-M)))
      = I.dl h x / (I.Z h x * Real.exp (-M)) := by
    unfold dl pr
    rw [Finset.sum_div]
    refine Finset.sum_congr rfl fun s _ => ?_
    field_simp
  rw [hs]
  unfold ds pr
  field_simp
  ring
end Inp
end Cert.Spec
end
-- ==== Proof.RefA.lean ====
/- The reference's logits and exponentials, over real numbers. -/
module

public import proofs.«01_k».proof.Proof.Spec
public import proofs.«01_k».proof.Proof.Gen.ReferenceIdeal
public import proofs.«01_k».proof.Proof.Gen.ReferenceIdeal.Read
public import Idealize.ShloMosaic.Lib.Pointwise.Tactic
public import Idealize.ShloMosaic.Lib.WordCmp

@[expose] public section

set_option maxRecDepth 16384

noncomputable section

namespace Cert.Spec

open Cert.ReferenceIdeal Cert.ReferenceIdeal.Gen
open Idealize.ShloMosaic Idealize.ShloMosaic.TcCoe Idealize.ShloMosaic.Tactic
open Cert.ReferenceIdeal.Read

variable {x0 x1 x2 x4 : FVec Ideal S8192x1024 .f32} {x3 : FVec Ideal S8192x16 .f32}

/-- The arguments hold these real numbers. -/
structure Inp.Holds (I : Inp) (x0 x1 x2 : FVec Ideal S8192x1024 .f32) (x3 : FVec Ideal S8192x16 .f32) (x4 : FVec Ideal S8192x1024 .f32) : Prop where
  q : ∀ x d, x0 (ix2 x d) = ((I.q x d : ℝ) : EReal)
  k : ∀ x d, x1 (ix2 x d) = ((I.k x d : ℝ) : EReal)
  v : ∀ x d, x2 (ix2 x d) = ((I.v x d : ℝ) : EReal)
  c : ∀ x h, x3 (ix2 x h) = ((I.c x h : ℝ) : EReal)
  g : ∀ x d, x4 (ix2 x d) = ((I.g x d : ℝ) : EReal)

theorem heads (y : FVec Ideal S8192x1024 .f32) (x : Fin 8192) (h : Fin 16) (d : Fin 64) :
    val_main_v0 (F := Ideal) y (ix3 x h d) = y (ix2 x (el h d)) := by
  refine (val_main_v0_apply (F := Ideal) y (ix3 x h d)).trans ?_
  rw [eq_ix2 (idx_main_v0 (ix3 x h d))]
  have h0 := x.isLt
  have h1 := h.isLt
  have h2 := d.isLt
  exact congrArg₂ (fun a b => y (ix2 a b)) (Fin.ext (show ((x.val * 16 + h.val) * 64 + d.val) / 1024 = x.val by omega))
    (Fin.ext (show ((x.val * 16 + h.val) * 64 + d.val) % 1024 = 64 * h.val + d.val by omega))
theorem heads1 (y : FVec Ideal S8192x1024 .f32) : val_main_v1 (F := Ideal) y = val_main_v0 y := rfl
theorem heads2 (y : FVec Ideal S8192x1024 .f32) : val_main_v2 (F := Ideal) y = val_main_v0 y := rfl
theorem heads50 (y : FVec Ideal S8192x1024 .f32) : val_main_v50 (F := Ideal) y = val_main_v0 y := rfl
theorem eighth : Ideal.ofBits .f32 0x3E000000#32 = (((1 / 8 : ℝ)) : EReal) := by
  simp [Ideal.ofBits, Ideal.ieee, -EReal.coe_mul]; norm_num
theorem ofBits_ninf : Ideal.ofBits .f32 0xFF800000#32 = ⊥ := by
  simp [Ideal.ofBits, Ideal.ieee]

theorem v5_at (h : Fin 16) (x s : Fin 8192) : val_main_v5 (F := Ideal) x0 x1 (ix3 h x s) = ∑ d : Fin 64, x0 (ix2 x (el h d)) * x1 (ix2 s (el h d)) := by
  refine (val_main_v5_apply x0 x1 (ix3 h x s)).trans (Finset.sum_congr rfl fun d _ => ?_)
  rw [eq_ix3 (lidx_main_v5 (ix3 h x s) d), eq_ix3 (ridx_main_v5 (ix3 h x s) d)]
  exact congrArg₂ (· * ·) (heads x0 x h d) (heads x1 s h d)
theorem v13_at (h : Fin 16) (x s : Fin 8192) : val_main_v13 (F := Ideal) x0 x1 x3 (ix3 h x s) = val_main_v5 (F := Ideal) x0 x1 (ix3 h x s) * ((1 / 8 : ℝ) : EReal) + x3 (ix2 x h) - x3 (ix2 s h) := by
  rw [← eighth]
  pointwise [val_main_v13, val_main_v12, val_main_v11, val_main_v10, val_main_v9, val_main_v8, val_main_v7, val_main_v6, val_main_v3, val_main_cst]
theorem mask_at (h : Fin 16) (x s : Fin 8192) : val_main_v19_1 (F := Ideal) (ix3 h x s) = IntOp.cmpi .sle (BitVec.ofNat 32 s.val) (BitVec.ofNat 32 x.val) := by
  pointwise [val_main_v19_1, val_main_v18, val_main_v17, val_main_v16, val_main_v15, val_main_v14, val_main_v4]
theorem mask_word (x s : Fin 8192) : IntOp.cmpi .sle (BitVec.ofNat 32 s.val) (BitVec.ofNat 32 x.val) = if s.val ≤ x.val then 1#1 else 0#1 := by
  rw [WordCmp.cmpi_sle_ofNat (by have := s.isLt; omega) (by have := x.isLt; omega)]
  by_cases h : s.val ≤ x.val <;> simp [h]
theorem select_mask {α : Type} (x s : Fin 8192) (a b : α) : Scalar.select (IntOp.cmpi .sle (BitVec.ofNat 32 s.val) (BitVec.ofNat 32 x.val)) a b = if s.val ≤ x.val then a else b := by
  rw [mask_word]
  by_cases h : s.val ≤ x.val <;> simp [h, Scalar.select]

variable {I : Inp}

theorem logit_at (H : I.Holds x0 x1 x2 x3 x4) (h : Fin 16) (x s : Fin 8192) : val_main_v13 (F := Ideal) x0 x1 x3 (ix3 h x s) = ((I.lg h x s : ℝ) : EReal) := by
  rw [v13_at, v5_at, H.c, H.c]
  simp only [H.q, H.k, ← EReal.coe_mul]
  rw [coe_sum, ← EReal.coe_mul, ← EReal.coe_add, ← EReal.coe_sub]
  rfl
theorem masked_at (H : I.Holds x0 x1 x2 x3 x4) (h : Fin 16) (x s : Fin 8192) : val_main_v19_0 (F := Ideal) x0 x1 x3 (ix3 h x s) = I.ml h x s := by
  have e : val_main_v19_0 (F := Ideal) x0 x1 x3 (ix3 h x s) = Scalar.select (val_main_v19_1 (F := Ideal) (ix3 h x s)) (val_main_v13 (F := Ideal) x0 x1 x3 (ix3 h x s)) (Ideal.ofBits .f32 0xFF800000#32) := by
    pointwise [val_main_v19_0, val_main_call0_v2, val_main_call0_v0, val_main_cst_0]
    rfl
  rw [e, mask_at, select_mask, logit_at H, ofBits_ninf]
  rfl

theorem drop_keys (h : Fin 16) (x s : Fin 8192) : reducesTo_S16x8192x8192_S16x8192_d2.drop (ix3 h x s) = ix2 h x := by
  rw [eq_ix2 (reducesTo_S16x8192x8192_S16x8192_d2.drop (ix3 h x s))]
  rfl
/-- Each query's greatest masked logit is a real number: it sees at least the first key. -/
theorem greatest (H : I.Holds x0 x1 x2 x3 x4) (h : Fin 16) (x : Fin 8192) : ∃ M : ℝ, val_main_v20 (F := Ideal) x0 x1 x3 (ix2 h x) = (M : EReal) := by
  have e : val_main_v20 (F := Ideal) x0 x1 x3 (ix2 h x) = (Finset.univ.filter fun i => reducesTo_S16x8192x8192_S16x8192_d2.drop i = ix2 h x).fold max (Ideal.ofBits .f32 0xFF800000#32) (val_main_v19_0 (F := Ideal) x0 x1 x3) :=
    Host.reduce_eq_fold (FloatOps.maximumf (F := Ideal) (φ := .f32)) _ _ _ _ _
  have ht : val_main_v20 (F := Ideal) x0 x1 x3 (ix2 h x) < ⊤ := by
    rw [e, Finset.fold_max_lt, ofBits_ninf]
    refine ⟨bot_lt_top, fun i _ => ?_⟩
    obtain ⟨h', x', s, rfl⟩ : ∃ (h' : Fin 16) (x' s : Fin 8192), i = ix3 h' x' s := ⟨i 0, i 1, i 2, eq_ix3 i⟩
    rw [masked_at H]
    unfold Inp.ml
    split
    · exact EReal.coe_lt_top _
    · exact bot_lt_top
  have hb : ⊥ < val_main_v20 (F := Ideal) x0 x1 x3 (ix2 h x) := by
    rw [e, Finset.lt_fold_max]
    refine .inr ⟨ix3 h x 0, Finset.mem_filter.mpr ⟨Finset.mem_univ _, drop_keys h x 0⟩, ?_⟩
    rw [masked_at H]
    unfold Inp.ml
    rw [if_pos (show (0 : Fin 8192).val ≤ x.val from Nat.zero_le _)]
    exact EReal.bot_lt_coe _
  exact ⟨_, (EReal.coe_toReal ht.ne hb.ne').symm⟩
/-- That number. -/
def top (H : I.Holds x0 x1 x2 x3 x4) (h : Fin 16) (x : Fin 8192) : ℝ := (greatest H h x).choose
theorem top_eq (H : I.Holds x0 x1 x2 x3 x4) (h : Fin 16) (x : Fin 8192) : val_main_v20 (F := Ideal) x0 x1 x3 (ix2 h x) = (top H h x : EReal) := (greatest H h x).choose_spec

end Cert.Spec
end
-- ==== Proof.RefB.lean ====
/- The gradients that the reference gives, over real numbers. -/
module

public import proofs.«01_k».proof.Proof.RefA
public import proofs.«01_k».proof.Proof.Gen.ReferenceIdeal
public import proofs.«01_k».proof.Proof.Gen.ReferenceIdeal.Read
public import Idealize.ShloMosaic.Lib.Pointwise.Tactic
public import Idealize.ShloMosaic.Lib.WordCmp

@[expose] public section

set_option maxRecDepth 16384

noncomputable section

namespace Cert.Spec

open Cert.ReferenceIdeal Cert.ReferenceIdeal.Gen
open Idealize.ShloMosaic Idealize.ShloMosaic.TcCoe Idealize.ShloMosaic.Tactic
open Cert.ReferenceIdeal.Read

variable {x0 x1 x2 x4 : FVec Ideal S8192x1024 .f32} {x3 : FVec Ideal S8192x16 .f32} {I : Inp}
variable (H : I.Holds x0 x1 x2 x3 x4) (h : Fin 16) (x s : Fin 8192)

include H
omit H in
theorem less_at (y : FVec Ideal S16x8192x8192 .f32) (z : FVec Ideal S16x8192 .f32) (w : FVec Ideal S16x8192 .f32) :
    Host.exp (subf y (broadcastInDim S16x8192x8192 ![0, 1, 2] bcast_S16x8192x1_S16x8192x8192_0_1_2 (broadcastInDim S16x8192x1 ![0, 1] bcast_S16x8192_S16x8192x1_0_1 (maximumf w z)))) (ix3 h x s)
      = Ideal.exp (y (ix3 h x s) - max (w (ix2 h x)) (z (ix2 h x))) := by
  pointwise []
omit H in
theorem v26_at : val_main_v26 (F := Ideal) (ix2 h x) = Ideal.ofBits .f32 0xFF800000#32 := by
  pointwise [val_main_v26, val_main_cst_3]
omit H in
theorem exp_at0 : val_main_v40 (F := Ideal) x0 x1 x3 (ix3 h x s) = Ideal.exp (val_main_v19_0 (F := Ideal) x0 x1 x3 (ix3 h x s) - max (val_main_v26 (F := Ideal) (ix2 h x)) (val_main_v20 (F := Ideal) x0 x1 x3 (ix2 h x))) :=
  less_at h x s _ _ _
theorem exp_at : val_main_v40 (F := Ideal) x0 x1 x3 (ix3 h x s) = ((I.e h x s * Real.exp (-top H h x) : ℝ) : EReal) := by
  have hm : max (val_main_v26 (F := Ideal) (ix2 h x)) (val_main_v20 (F := Ideal) x0 x1 x3 (ix2 h x)) = ((top H h x : ℝ) : EReal) := by
    rw [v26_at, ofBits_ninf, top_eq H]
    exact max_eq_right bot_le
  refine (exp_at0 h x s).trans ?_
  rw [hm, masked_at H]
  exact I.exp_ml h x s _
theorem den_at (u : Fin 1) : val_main_v42 (F := Ideal) x0 x1 x3 (ix3 h x u) = ((I.Z h x * Real.exp (-top H h x) : ℝ) : EReal) := by
  have e : val_main_v42 (F := Ideal) x0 x1 x3 (ix3 h x u) = val_main_v41 (F := Ideal) x0 x1 x3 (ix2 h x) := by
    unfold val_main_v42
    generalize val_main_v41 (F := Ideal) x0 x1 x3 = y
    pointwise []
  refine (e.trans (val_main_v41_apply x0 x1 x3 (ix2 h x))).trans ?_
  rw [show val_main_cst_9 (F := Ideal) (Shape.Idx.first h_S_) = 0 from Ideal.ofBits_zero_f32, zero_add]
  refine Eq.trans (Finset.sum_congr rfl fun s _ => ?_) ((coe_sum Finset.univ fun s => I.e h x s * Real.exp (-top H h x)).trans (congrArg _ (Finset.sum_mul _ _ _).symm))
  rw [eq_ix3 (idx_main_v41 (ix2 h x) s)]
  exact exp_at H h x s
theorem weight_at : val_main_v44 (F := Ideal) x0 x1 x3 (ix3 h x s) = ((I.pr h x s : ℝ) : EReal) := by
  have e : val_main_v44 (F := Ideal) x0 x1 x3 (ix3 h x s) = Ideal.div (val_main_v40 (F := Ideal) x0 x1 x3 (ix3 h x s)) (val_main_v42 (F := Ideal) x0 x1 x3 (ix3 h x 0)) := by
    pointwise [val_main_v44, val_main_v43]
  rw [e, exp_at H, den_at H, div_coe _ (I.Zm_pos h x _).ne', I.pr_ml]
theorem do_at (d : Fin 64) : val_main_v51 (F := Ideal) x4 (ix3 h d x) = ((I.g x (el h d) : ℝ) : EReal) := by
  have e : val_main_v51 (F := Ideal) x4 (ix3 h d x) = val_main_v50 (F := Ideal) x4 (ix3 x h d) := by pointwise [val_main_v51]
  rw [e, heads50, heads, H.g]
theorem dp_at : val_main_v52 (F := Ideal) x2 x4 (ix3 h x s) = ((I.dp h x s : ℝ) : EReal) := by
  refine (val_main_v52_apply x2 x4 (ix3 h x s)).trans (Eq.trans ?_ (coe_sum Finset.univ _))
  refine Finset.sum_congr rfl fun d _ => ?_
  rw [eq_ix3 (lidx_main_v52 (ix3 h x s) d), eq_ix3 (ridx_main_v52 (ix3 h x s) d), EReal.coe_mul]
  exact congrArg₂ (· * ·) (do_at H h x d) ((heads x2 s h d).trans (H.v s (el h d)))
theorem back_at : val_main_v58 (F := Ideal) x0 x1 x2 x3 x4 (ix2 h x)
    = ((∑ s : Fin 8192, I.dp h x s * (1 / (I.Z h x * Real.exp (-top H h x) * (I.Z h x * Real.exp (-top H h x)))) * (I.e h x s * Real.exp (-top H h x)) : ℝ) : EReal) := by
  have e (s : Fin 8192) : val_main_v57 (F := Ideal) x0 x1 x2 x3 x4 (ix3 h x s) = val_main_v52 (F := Ideal) x2 x4 (ix3 h x s)
      * Ideal.div (Ideal.ofBits .f32 0x3F800000#32) (val_main_v42 (F := Ideal) x0 x1 x3 (ix3 h x 0) * val_main_v42 (F := Ideal) x0 x1 x3 (ix3 h x 0)) * val_main_v40 (F := Ideal) x0 x1 x3 (ix3 h x s) := by
    unfold val_main_v57 val_main_v56 val_main_v55 val_main_v47 val_main_v45
    generalize val_main_v52 (F := Ideal) x2 x4 = y
    generalize val_main_v42 (F := Ideal) x0 x1 x3 = z
    generalize val_main_v40 (F := Ideal) x0 x1 x3 = w
    pointwise [val_main_v46, val_main_cst_10]
  refine (val_main_v58_apply x0 x1 x2 x3 x4 (ix2 h x)).trans ?_
  rw [show val_main_cst_11 (F := Ideal) (Shape.Idx.first h_S_) = 0 from Ideal.ofBits_zero_f32, zero_add]
  refine Eq.trans (Finset.sum_congr rfl fun s _ => ?_) (coe_sum Finset.univ _)
  rw [eq_ix3 (idx_main_v58 (ix2 h x) s)]
  refine (e s).trans ?_
  rw [dp_at H, den_at H, exp_at H, ← EReal.coe_mul, Ideal.ofBits_one_f32, ← EReal.coe_one, div_coe _ (mul_pos (I.Zm_pos h x _) (I.Zm_pos h x _)).ne', ← EReal.coe_mul, ← EReal.coe_mul]
theorem back63_at : val_main_v63 (F := Ideal) x0 x1 x2 x3 x4 (ix2 h x) = -val_main_v58 (F := Ideal) x0 x1 x2 x3 x4 (ix2 h x) := by
  refine (val_main_v63_apply x0 x1 x2 x3 x4 (ix2 h x)).trans ?_
  rw [show val_main_cst_12 (F := Ideal) (Shape.Idx.first h_S_) = 0 from Ideal.ofBits_zero_f32, zero_add, Fin.sum_univ_one]
  refine congrArg (fun y : EReal => -y) ((val_main_v59_apply (F := Ideal) x0 x1 x2 x3 x4 _).trans ?_)
  have h1 := h.isLt
  have h0 := x.isLt
  rw [eq_ix2 (idx_main_v59 _)]
  exact congrArg₂ (fun a b => val_main_v58 (F := Ideal) x0 x1 x2 x3 x4 (ix2 a b)) (Fin.ext (show ((h.val * 8192 + x.val) * 1 + 0) / 8192 = h.val by omega)) (Fin.ext (show ((h.val * 8192 + x.val) * 1 + 0) % 8192 = x.val by omega))
theorem ds_at : val_main_v67 (F := Ideal) x0 x1 x2 x3 x4 (ix3 h x s) = ((I.ds h x s : ℝ) : EReal) := by
  have e : val_main_v67 (F := Ideal) x0 x1 x2 x3 x4 (ix3 h x s) = Scalar.select (val_main_v19_1 (F := Ideal) (ix3 h x s))
      ((Ideal.div (val_main_v52 (F := Ideal) x2 x4 (ix3 h x s)) (val_main_v42 (F := Ideal) x0 x1 x3 (ix3 h x 0)) + val_main_v63 (F := Ideal) x0 x1 x2 x3 x4 (ix2 h x)) * val_main_v40 (F := Ideal) x0 x1 x3 (ix3 h x s)) 0 := by
    unfold val_main_v67 val_main_v66 val_main_v65 val_main_v64 val_main_v62 val_main_v61
    generalize val_main_v52 (F := Ideal) x2 x4 = y
    generalize val_main_v42 (F := Ideal) x0 x1 x3 = z
    generalize val_main_v40 (F := Ideal) x0 x1 x3 = w
    generalize val_main_v63 (F := Ideal) x0 x1 x2 x3 x4 = u
    generalize val_main_v19_1 (F := Ideal) = b
    pointwise [val_main_call1_v0, val_main_call1_cst]
  refine e.trans ?_
  rw [back63_at H, dp_at H, den_at H, exp_at H, back_at H, div_coe _ (I.Zm_pos h x _).ne', ← EReal.coe_neg, ← EReal.coe_add, ← EReal.coe_mul, I.ds_ml, mask_at, select_mask]
  split
  · rfl
  · next hn =>
    have : I.ds h x s = 0 := by unfold Inp.ds Inp.pr Inp.e; rw [if_neg hn, zero_div, zero_mul]
    rw [this]; rfl

theorem scaled_at : val_main_v77 (F := Ideal) x0 x1 x2 x3 x4 (ix3 h x s) = ((I.ds h x s * (1 / 8) : ℝ) : EReal) := by
  refine (val_main_v77_apply (F := Ideal) x0 x1 x2 x3 x4 (ix3 h x s)).trans ?_
  rw [EReal.coe_mul, ← eighth]
  exact congrArg₂ (fun a b : EReal => a * b) (ds_at H h x s) (val_main_v76_apply (F := Ideal) (ix3 h x s))
theorem dk_at (d : Fin 64) : val_main_v78 (F := Ideal) x0 x1 x2 x3 x4 (ix3 h s d) = ((∑ x : Fin 8192, I.ds h x s * (1 / 8) * I.q x (el h d) : ℝ) : EReal) := by
  refine (val_main_v78_apply x0 x1 x2 x3 x4 (ix3 h s d)).trans (Eq.trans ?_ (coe_sum Finset.univ _))
  refine Finset.sum_congr rfl fun x _ => ?_
  rw [eq_ix3 (lidx_main_v78 (ix3 h s d) x), eq_ix3 (ridx_main_v78 (ix3 h s d) x), EReal.coe_mul]
  exact congrArg₂ (· * ·) (scaled_at H h x s) ((heads x0 x h d).trans (H.q x (el h d)))
theorem dq_at (d : Fin 64) : val_main_v80 (F := Ideal) x0 x1 x2 x3 x4 (ix3 h x d) = ((∑ s : Fin 8192, I.ds h x s * (1 / 8) * I.k s (el h d) : ℝ) : EReal) := by
  refine (val_main_v80_apply x0 x1 x2 x3 x4 (ix3 h x d)).trans (Eq.trans ?_ (coe_sum Finset.univ _))
  refine Finset.sum_congr rfl fun s _ => ?_
  rw [eq_ix3 (lidx_main_v80 (ix3 h x d) s), eq_ix3 (ridx_main_v80 (ix3 h x d) s), EReal.coe_mul]
  exact congrArg₂ (· * ·) (scaled_at H h x s) ((heads x1 s h d).trans (H.k s (el h d)))
theorem dv_at (d : Fin 64) : val_main_v53 (F := Ideal) x0 x1 x3 x4 (ix3 h d s) = ((∑ x : Fin 8192, I.pr h x s * I.g x (el h d) : ℝ) : EReal) := by
  refine (val_main_v53_apply x0 x1 x3 x4 (ix3 h d s)).trans (Eq.trans ?_ (coe_sum Finset.univ _))
  refine Finset.sum_congr rfl fun x _ => ?_
  rw [eq_ix3 (lidx_main_v53 (ix3 h d s) x), eq_ix3 (ridx_main_v53 (ix3 h d s) x), EReal.coe_mul, mul_comm]
  exact congrArg₂ (· * ·) (weight_at H h x s) (do_at H h x d)
theorem cols_at : val_main_v71 (F := Ideal) x0 x1 x2 x3 x4 (ix2 h s) = ((-∑ x : Fin 8192, I.ds h x s : ℝ) : EReal) := by
  have e : val_main_v69 (F := Ideal) x0 x1 x2 x3 x4 (ix2 h s) = ((-∑ x : Fin 8192, I.ds h x s : ℝ) : EReal) := by
    refine (val_main_v69_apply x0 x1 x2 x3 x4 (ix2 h s)).trans ?_
    rw [show val_main_cst_13 (F := Ideal) (Shape.Idx.first h_S_) = 0 from Ideal.ofBits_zero_f32, zero_add, ← Finset.sum_neg_distrib]
    refine Eq.trans (Finset.sum_congr rfl fun x _ => ?_) (coe_sum Finset.univ fun x => -I.ds h x s)
    rw [eq_ix3 (idx_main_v69 (ix2 h s) x), EReal.coe_neg]
    exact congrArg (fun y : EReal => -y) (ds_at H h x s)
  refine (val_main_v71_apply x0 x1 x2 x3 x4 (ix2 h s)).trans ?_
  rw [show val_main_cst_14 (F := Ideal) (Shape.Idx.first h_S_) = 0 from Ideal.ofBits_zero_f32, zero_add, Fin.sum_univ_one]
  refine (val_main_v70_apply (F := Ideal) x0 x1 x2 x3 x4 _).trans (Eq.trans ?_ e)
  have h1 := h.isLt
  have h0 := s.isLt
  rw [eq_ix2 (idx_main_v70 _)]
  exact congrArg₂ (fun a b => val_main_v69 (F := Ideal) x0 x1 x2 x3 x4 (ix2 a b)) (Fin.ext (show ((h.val * 1 + 0) * 8192 + s.val) / 8192 = h.val by omega)) (Fin.ext (show ((h.val * 1 + 0) * 8192 + s.val) % 8192 = s.val by omega))
theorem rows_at : val_main_v74 (F := Ideal) x0 x1 x2 x3 x4 (ix2 h x) = ((∑ s : Fin 8192, I.ds h x s : ℝ) : EReal) := by
  have e : val_main_v72 (F := Ideal) x0 x1 x2 x3 x4 (ix2 h x) = ((∑ s : Fin 8192, I.ds h x s : ℝ) : EReal) := by
    refine (val_main_v72_apply x0 x1 x2 x3 x4 (ix2 h x)).trans ?_
    rw [show val_main_cst_15 (F := Ideal) (Shape.Idx.first h_S_) = 0 from Ideal.ofBits_zero_f32, zero_add]
    refine Eq.trans (Finset.sum_congr rfl fun s _ => ?_) (coe_sum Finset.univ fun s => I.ds h x s)
    rw [eq_ix3 (idx_main_v72 (ix2 h x) s)]
    exact ds_at H h x s
  refine (val_main_v74_apply x0 x1 x2 x3 x4 (ix2 h x)).trans ?_
  rw [show val_main_cst_16 (F := Ideal) (Shape.Idx.first h_S_) = 0 from Ideal.ofBits_zero_f32, zero_add, Fin.sum_univ_one]
  refine (val_main_v73_apply (F := Ideal) x0 x1 x2 x3 x4 _).trans (Eq.trans ?_ e)
  have h1 := h.isLt
  have h0 := x.isLt
  rw [eq_ix2 (idx_main_v73 _)]
  exact congrArg₂ (fun a b => val_main_v72 (F := Ideal) x0 x1 x2 x3 x4 (ix2 a b)) (Fin.ext (show ((h.val * 8192 + x.val) * 1 + 0) / 8192 = h.val by omega)) (Fin.ext (show ((h.val * 8192 + x.val) * 1 + 0) % 8192 = x.val by omega))

omit H in
theorem unheads (y : FVec Ideal S8192x16x64 .f32) (d : Fin 64) :
    shapeCast S8192x1024 y shapeCasts_S8192x16x64_S8192x1024 (ix2 x (el h d)) = y (ix3 x h d) := by
  refine shapeCast_apply y shapeCasts_S8192x16x64_S8192x1024 (ix2 x (el h d)) (ix3 x h d) ?_
  rewrite [Shape.rowMajor_val_two, Shape.rowMajor_val_three]
  show (x.val * 16 + h.val) * 64 + d.val = x.val * 1024 + (64 * h.val + d.val)
  omega

/-- The gradient of the queries. -/
theorem refDq (d : Fin 64) : val_main_v83 (F := Ideal) x0 x1 x2 x3 x4 (ix2 x (el h d)) = ((∑ s : Fin 8192, I.ds h x s * (1 / 8) * I.k s (el h d) : ℝ) : EReal) := by
  refine (unheads h x _ d).trans ((val_main_v81_apply (F := Ideal) x0 x1 x2 x3 x4 _).trans ?_)
  rw [eq_ix3 (idx_main_v81 _)]
  exact dq_at H h x d
/-- The gradient of the keys. -/
theorem refDk (d : Fin 64) : val_main_v84 (F := Ideal) x0 x1 x2 x3 x4 (ix2 s (el h d)) = ((∑ x : Fin 8192, I.ds h x s * (1 / 8) * I.q x (el h d) : ℝ) : EReal) := by
  refine (unheads h s _ d).trans ((val_main_v79_apply (F := Ideal) x0 x1 x2 x3 x4 _).trans ?_)
  rw [eq_ix3 (idx_main_v79 _)]
  exact dk_at H h s d
/-- The gradient of the values. -/
theorem refDv (d : Fin 64) : val_main_v86 (F := Ideal) x0 x1 x3 x4 (ix2 s (el h d)) = ((∑ x : Fin 8192, I.pr h x s * I.g x (el h d) : ℝ) : EReal) := by
  refine (val_main_v86_apply (F := Ideal) x0 x1 x3 x4 (ix2 s (el h d))).trans ?_
  refine (unheads h s _ d).trans ((val_main_v54_apply (F := Ideal) x0 x1 x3 x4 _).trans ?_)
  rw [eq_ix3 (idx_main_v54 _)]
  exact dv_at H h s d
/-- The gradient of the cumulated logarithms. -/
theorem refDc : val_main_v82 (F := Ideal) x0 x1 x2 x3 x4 (ix2 x h) = ((-(∑ y : Fin 8192, I.ds h y x) + ∑ s : Fin 8192, I.ds h x s : ℝ) : EReal) := by
  refine (val_main_v82_apply (F := Ideal) x0 x1 x2 x3 x4 (ix2 x h)).trans ?_
  rw [eq_ix2 (idx_main_v82 _), EReal.coe_add]
  exact congrArg₂ (fun a b : EReal => a + b) (cols_at H h x) (rows_at H h x)
end Cert.Spec
end
-- ==== Proof.KerA.lean ====
/- What the region reads, over real numbers. -/
module

public import proofs.«01_k».proof.Proof.Host
public import proofs.«01_k».proof.Proof.RefB

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Cert.ReferenceIdeal.Read Cert.Spec

theorem cat_at (x : FVec Ideal S16x8192x64 .f32) (y0 y1 y2 y3 y4 y5 : FVec Ideal S16x8192x1 .f32) (z : FVec Ideal S16x8192x58 .f32) (h : Fin 16) (a : Fin 8192) (d : Fin 128) :
    cat x y0 y1 y2 y3 y4 y5 z (ix3 h a d) = if h1 : d.val < 64 then x (ix3 h a ⟨d.val, h1⟩) else if d.val = 64 then y0 (ix3 h a 0) else if d.val = 65 then y1 (ix3 h a 0)
      else if d.val = 66 then y2 (ix3 h a 0) else if d.val = 67 then y3 (ix3 h a 0) else if d.val = 68 then y4 (ix3 h a 0) else if h7 : d.val < 70 then y5 (ix3 h a 0)
      else z (ix3 h a ⟨d.val - 70, by have := d.isLt; omega⟩) := by
  have one : ∀ u : Fin 1, u = 0 := fun u => Subsingleton.elim _ _
  pointwise [cat]
  simp only [one ⟨_, _⟩]
  have hd := d.isLt
  repeat' split
  all_goals first | rfl | omega

theorem exK_at (y : FVec Ideal S16x8192x8192 .f32) (h : Fin 16) (x s : Fin 8192) : ex y (ix3 h x s) = Ideal.exp (y (ix3 h x s) - rowMax y (ix2 h x)) := by
  unfold ex
  generalize rowMax y = z
  pointwise []
theorem sumKeys (y : FVec Ideal S16x8192x8192 .f32) (h : Fin 16) (x : Fin 8192) :
    Host.reduceAdd y (constant S_ .f32 0x00000000#32) reducesTo_S16x8192x8192_S16x8192_d2 h_S_ (ix2 h x) = ∑ s : Fin 8192, y (ix3 h x s) := by
  simp only [Host.reduceAdd, Ideal.hostReduceAdd_def]
  rw [Ideal.hostReduceAdd_single reducesTo_S16x8192x8192_S16x8192_d2 (by decide)]
  refine (congrArg (· + _) Ideal.ofBits_zero_f32).trans ((zero_add _).trans (Finset.sum_congr rfl fun k _ => ?_))
  exact congrArg y (funext fun a => Fin.ext (by match a with | ⟨0, _⟩ => rfl | ⟨1, _⟩ => rfl | ⟨2, _⟩ => rfl))
theorem sumLanes (y : FVec Ideal S8192x16x64 .f32) (x : Fin 8192) (h : Fin 16) :
    Host.reduceAdd y (constant S_ .f32 0x00000000#32) reducesTo_S8192x16x64_S8192x16_d2 h_S_ (ix2 x h) = ∑ d : Fin 64, y (ix3 x h d) := by
  simp only [Host.reduceAdd, Ideal.hostReduceAdd_def]
  rw [Ideal.hostReduceAdd_single reducesTo_S8192x16x64_S8192x16_d2 (by decide)]
  refine (congrArg (· + _) Ideal.ofBits_zero_f32).trans ((zero_add _).trans (Finset.sum_congr rfl fun k _ => ?_))
  exact congrArg y (funext fun a => Fin.ext (by match a with | ⟨0, _⟩ => rfl | ⟨1, _⟩ => rfl | ⟨2, _⟩ => rfl))
theorem denK_at (y : FVec Ideal S16x8192x8192 .f32) (h : Fin 16) (x : Fin 8192) (u : Fin 1) : den y (ix3 h x u) = ∑ s : Fin 8192, ex y (ix3 h x s) := by
  refine Eq.trans ?_ (sumKeys (ex y) h x)
  unfold den
  generalize Host.reduceAdd (ex y) (constant S_ .f32 0x00000000#32) reducesTo_S16x8192x8192_S16x8192_d2 h_S_ = z
  pointwise []
theorem drop1 (y : FVec Ideal S16x8192x1 .f32) (h : Fin 16) (x : Fin 8192) : shapeCast S16x8192 y shapeCasts_S16x8192x1_S16x8192 (ix2 h x) = y (ix3 h x 0) := by
  refine shapeCast_apply y shapeCasts_S16x8192x1_S16x8192 (ix2 h x) (ix3 h x 0) ?_
  rewrite [Shape.rowMajor_val_two, Shape.rowMajor_val_three]
  show (h.val * 8192 + x.val) * 1 + 0 = h.val * 8192 + x.val
  omega
theorem put1 (y : FVec Ideal S16x8192 .f32) (h : Fin 16) (x : Fin 8192) (u : Fin 1) : broadcastInDim S16x1x8192 ![0, 2] bcast_S16x8192_S16x1x8192_0_2 y (ix3 h u x) = y (ix2 h x) := by
  pointwise []
theorem lse1 (z : FVec Ideal S16x8192 .f32) (w : FVec Ideal S16x8192x1 .f32) (h : Fin 16) (x : Fin 8192) :
    (addf (broadcastInDim S16x8192x1 ![0, 1] bcast_S16x8192_S16x8192x1_0_1 z) (Host.log w) : FVec Ideal S16x8192x1 .f32) (ix3 h x 0) = z (ix2 h x) + Ideal.log (w (ix3 h x 0)) := by
  pointwise []
theorem lseK_at (y : FVec Ideal S16x8192x8192 .f32) (h : Fin 16) (x : Fin 8192) (u : Fin 1) : lse y (ix3 h u x) = rowMax y (ix2 h x) + Ideal.log (den y (ix3 h x 0)) :=
  (put1 _ h x u).trans ((drop1 _ h x).trans (lse1 (rowMax y) (den y) h x))
theorem attK_at (y : FVec Ideal S16x8192x8192 .f32) (v : FVec Ideal S8192x1024 .f32) (h : Fin 16) (d : Fin 64) (x : Fin 8192) :
    att y v (ix3 h d x) = ∑ s : Fin 8192, v (ix2 s (el h d)) * Ideal.div (ex y (ix3 h x s)) (den y (ix3 h x 0)) := by
  have e (p : FVec Ideal S16x8192x8192 .f32) (w : FVec Ideal S8192x16x64 .f32) :
      Host.dotGeneral dot_S8192x16x64_S16x8192x8192_S16x64x8192_0_2_2_1_1_0 none w p (ix3 h d x) = ∑ s : Fin 8192, w (ix3 s h d) * p (ix3 h x s) := by
    simp only [Host.dotGeneral]
    rw [Ideal.dotGeneral_apply, ← Equiv.sum_comp (ValueIdx.contrEquiv1 dot_S8192x16x64_S16x8192x8192_S16x64x8192_0_2_2_1_1_0 8192 rfl rfl).symm]
    refine Finset.sum_congr rfl fun k _ => ?_
    have hk := ValueIdx.contrEquiv1_symm_val dot_S8192x16x64_S16x8192x8192_S16x64x8192_0_2_2_1_1_0 8192 rfl rfl k
    refine congrArg₂ (fun a b => w a * p b) (funext fun a => Fin.ext ?_) (funext fun a => Fin.ext ?_)
    · match a with
      | ⟨0, _⟩ => exact (lhs_main_v48_0 _ _).trans hk
      | ⟨1, _⟩ => exact lhs_main_v48_1 _ _
      | ⟨2, _⟩ => exact lhs_main_v48_2 _ _
    · match a with
      | ⟨0, _⟩ => exact rhs_main_v48_0 _ _
      | ⟨1, _⟩ => exact rhs_main_v48_1 _ _
      | ⟨2, _⟩ => exact (rhs_main_v48_2 _ _).trans hk
  refine (e _ _).trans (Finset.sum_congr rfl fun s _ => congrArg₂ (fun a b : EReal => a * b) (heads v s h d) ?_)
  generalize ex y = z
  generalize den y = w
  pointwise []
theorem deltaK_at (y : FVec Ideal S16x8192x8192 .f32) (v g : FVec Ideal S8192x1024 .f32) (h : Fin 16) (x : Fin 8192) (u : Fin 1) :
    delta y v g (ix3 h u x) = ∑ d : Fin 64, att y v (ix3 h d x) * g (ix2 x (el h d)) := by
  unfold delta
  have e := sumLanes (mulf (transpose S8192x16x64 [2, 0, 1] (att y v) transposes_S16x64x8192_S8192x16x64_2_0_1) (shapeCast S8192x16x64 g shapeCasts_S8192x1024_S8192x16x64)) x h
  refine Eq.trans ?_ (e.trans (Finset.sum_congr rfl fun d _ => ?_))
  · generalize Host.reduceAdd (mulf (transpose S8192x16x64 [2, 0, 1] (att y v) transposes_S16x64x8192_S8192x16x64_2_0_1) (shapeCast S8192x16x64 g shapeCasts_S8192x1024_S8192x16x64)) (constant S_ .f32 0x00000000#32) reducesTo_S8192x16x64_S8192x16_d2 h_S_ = w
    pointwise []
  · refine Eq.trans ?_ (congrArg (att y v (ix3 h d x) * ·) (heads g x h d))
    generalize att y v = w
    show (mulf _ (val_main_v0 (F := Ideal) g) : FVec Ideal S8192x16x64 .f32) _ = _
    generalize val_main_v0 (F := Ideal) g = z
    pointwise []

end Cert.KernelIdeal.Val
end
-- ==== Proof.KerB.lean ====
/- The weights and the logits' gradients that the region computes, over real numbers. -/
module

public import proofs.«01_k».proof.Proof.KerA

@[expose] public section

set_option maxRecDepth 16384

noncomputable section

namespace Cert.Spec.Inp
open Idealize.ShloMosaic

variable (I : Inp) (h : Fin 16) (x s : Fin 8192)

/-- A query with the lanes that carry the cumulated logarithm. -/
def qa (d : Fin 128) : ℝ :=
  if h1 : d.val < 64 then I.q x (el h ⟨d.val, h1⟩) * (1 / 8) else if d.val = 64 then I.c x h else if d.val = 65 then 0 else if d.val = 66 then 0
    else if d.val = 67 then 1 else if d.val = 68 then 1 else if d.val < 70 then 1 else 0
/-- A key with the lanes that carry the cumulated logarithm. -/
def ka (d : Fin 128) : ℝ :=
  if h1 : d.val < 64 then I.k s (el h ⟨d.val, h1⟩) else if d.val = 64 then 1 else if d.val = 65 then 1 else if d.val = 66 then 1
    else if d.val = 67 then -I.c s h else if d.val = 68 then 0 else if d.val < 70 then 0 else 0

theorem logit_lanes : ∑ d : Fin 128, I.ka h s d * I.qa h x d = I.lg h x s := by
  have hi (j : Fin 64) : I.ka h s (Fin.natAdd 64 j) * I.qa h x (Fin.natAdd 64 j) = (if j = 0 then I.c x h else 0) + (if j = 3 then -I.c s h else 0) := by
    have e0 : (Fin.natAdd 64 j : Fin 128).val = 64 + j.val := rfl
    have h0 : j = 0 ↔ j.val = 0 := Fin.ext_iff
    have h3 : j = 3 ↔ j.val = 3 := Fin.ext_iff
    unfold ka qa
    rw [dif_neg (by omega), dif_neg (by omega), e0]
    simp only [h0, h3]
    obtain hj | hj | hj | hj | hj | hj | hj : j.val = 0 ∨ j.val = 1 ∨ j.val = 2 ∨ j.val = 3 ∨ j.val = 4 ∨ j.val = 5 ∨ 6 ≤ j.val := by omega
    all_goals first | (rw [hj]; norm_num) | skip
    rw [if_neg (by omega), if_neg (by omega), if_neg (by omega), if_neg (by omega), if_neg (by omega), if_neg (by omega), if_neg (by omega), if_neg (by omega), zero_mul, if_neg (show ¬ j.val = 0 by omega), if_neg (show ¬ j.val = 3 by omega), add_zero]
  have lo (j : Fin 64) : I.ka h s (Fin.castAdd 64 j) * I.qa h x (Fin.castAdd 64 j) = I.q x (el h j) * I.k s (el h j) * (1 / 8) := by
    have e0 : (Fin.castAdd 64 j : Fin 128).val = j.val := rfl
    unfold ka qa
    rw [dif_pos (by omega), dif_pos (by omega)]
    show I.k s (el h j) * (I.q x (el h j) * (1 / 8)) = _
    ring
  refine (Fin.sum_univ_add (fun d : Fin (64 + 64) => I.ka h s d * I.qa h x d)).trans ?_
  simp only [hi, lo]
  rw [Finset.sum_add_distrib, Finset.sum_ite_eq' Finset.univ (0 : Fin 64), Finset.sum_ite_eq' Finset.univ (3 : Fin 64), if_pos (Finset.mem_univ _), if_pos (Finset.mem_univ _), ← Finset.sum_mul]
  unfold lg
  ring
/-- The row sum as the product of the output and its gradient. -/
theorem dl_out : ∑ d : Fin 64, (∑ s : Fin 8192, I.v s (el h d) * I.pr h x s) * I.g x (el h d) = I.dl h x := by
  unfold dl dp
  simp only [Finset.sum_mul, Finset.mul_sum]
  rw [Finset.sum_comm]
  refine Finset.sum_congr rfl fun s _ => Finset.sum_congr rfl fun d _ => ?_
  ring
end Cert.Spec.Inp

namespace Cert.KernelIdeal.Val

open Cert.KernelIdeal Cert.KernelIdeal.Gen
open Idealize.ShloMosaic Idealize.ShloMosaic.TcCoe Idealize.ShloMosaic.Tactic
open Idealize.SL Idealize.SL.Sem
open Cert.ReferenceIdeal.Read Cert.Spec

section
variable {x0 x1 x2 x4 : FVec Ideal S8192x1024 .f32} {x3 : FVec Ideal S8192x16 .f32} {I : Inp} (H : I.Holds x0 x1 x2 x3 x4)
variable (h : Fin 16) (x s : Fin 8192)
include H

theorem greatestK : rowMax (val_main_v19_0 (F := Ideal) x0 x1 x3) (ix2 h x) = ((top H h x : ℝ) : EReal) := top_eq H h x
theorem expK : ex (val_main_v19_0 (F := Ideal) x0 x1 x3) (ix3 h x s) = ((I.e h x s * Real.exp (-top H h x) : ℝ) : EReal) := by
  refine (exK_at _ h x s).trans ?_
  rw [greatestK H, masked_at H]
  exact I.exp_ml h x s _
theorem denK (u : Fin 1) : den (val_main_v19_0 (F := Ideal) x0 x1 x3) (ix3 h x u) = ((I.Z h x * Real.exp (-top H h x) : ℝ) : EReal) := by
  refine (denK_at _ h x u).trans ?_
  refine Eq.trans (Finset.sum_congr rfl fun s _ => expK H h x s) ((coe_sum Finset.univ fun s => I.e h x s * Real.exp (-top H h x)).trans (congrArg _ (Finset.sum_mul _ _ _).symm))
theorem lseK (u : Fin 1) : lse (val_main_v19_0 (F := Ideal) x0 x1 x3) (ix3 h u x) = ((Real.log (I.Z h x) : ℝ) : EReal) := by
  refine (lseK_at _ h x u).trans ?_
  rw [greatestK H, denK H]
  exact I.lse_ml h x _
theorem attK (d : Fin 64) : att (val_main_v19_0 (F := Ideal) x0 x1 x3) x2 (ix3 h d x) = ((∑ s : Fin 8192, I.v s (el h d) * I.pr h x s : ℝ) : EReal) := by
  refine (attK_at _ x2 h d x).trans (Eq.trans (Finset.sum_congr rfl fun s _ => ?_) (coe_sum Finset.univ _))
  rw [expK H, denK H, div_coe _ (I.Zm_pos h x _).ne', I.pr_ml, EReal.coe_mul, H.v]
theorem deltaK (u : Fin 1) : delta (val_main_v19_0 (F := Ideal) x0 x1 x3) x2 x4 (ix3 h u x) = ((I.dl h x : ℝ) : EReal) := by
  refine (deltaK_at _ x2 x4 h x u).trans (Eq.trans (Finset.sum_congr rfl fun d _ => ?_) ((coe_sum Finset.univ fun d : Fin 64 => (∑ s : Fin 8192, I.v s (el h d) * I.pr h x s) * I.g x (el h d)).trans (congrArg _ (I.dl_out h x))))
  rw [attK H, EReal.coe_mul, H.g]

omit H in
theorem cc_at (g : FVec Ideal S8192x16 .f32) (u : Fin 1) : cc g (ix3 h x u) = g (ix2 x h) := by pointwise [cc]
omit H in
theorem one_at (u : Fin 1) : one1 (ix3 h x u) = 1 := by pointwise [one1]
omit H in
theorem zero_at (d : Fin 58) : zero58 (ix3 h x d) = 0 := by pointwise [zero58]
omit H in
theorem kh_at (g : FVec Ideal S8192x1024 .f32) (d : Fin 64) : kh g (ix3 h x d) = g (ix2 x (el h d)) := by
  refine Eq.trans ?_ (heads g x h d)
  show (transpose S16x8192x64 [1, 0, 2] (val_main_v0 (F := Ideal) g) transposes_S8192x16x64_S16x8192x64_1_0_2) _ = _
  generalize val_main_v0 (F := Ideal) g = z
  pointwise []
omit H in
theorem qh_at (g : FVec Ideal S8192x1024 .f32) (d : Fin 64) : qh g (ix3 h x d) = g (ix2 x (el h d)) * ((1 / 8 : ℝ) : EReal) := by
  refine Eq.trans ?_ (congrArg₂ (fun a b : EReal => a * b) (kh_at h x g d) eighth)
  show (mulf (kh g) (broadcastInDim S16x8192x64 ![] bcast_S_S16x8192x64 (constant S_ .f32 0x3E000000#32)) : FVec Ideal S16x8192x64 .f32) _ = _
  generalize kh g = z
  pointwise []
theorem ccK (u : Fin 1) : cc x3 (ix3 h x u) = ((I.c x h : ℝ) : EReal) := (cc_at h x x3 u).trans (H.c x h)
theorem c2K (u : Fin 1) : c2 x3 (ix3 h x u) = 0 := by
  show cc x3 (ix3 h x u) - cc x3 (ix3 h x u) = (0 : EReal)
  rw [ccK H, ← EReal.coe_sub, sub_self]; rfl
theorem c3K (u : Fin 1) : c3 x3 (ix3 h x u) = 0 := by
  show c2 x3 (ix3 h x u) - c2 x3 (ix3 h x u) = (0 : EReal)
  rw [c2K H]; exact sub_zero 0
theorem qaK (d : Fin 128) : cat (qh x0) (cc x3) (c2 x3) (c3 x3) one1 one1 one1 zero58 (ix3 h x d) = ((I.qa h x d : ℝ) : EReal) := by
  refine (cat_at _ _ _ _ _ _ _ _ h x d).trans ?_
  unfold Inp.qa
  simp only [qh_at, ccK H, c2K H, c3K H, one_at, zero_at, H.q, ← EReal.coe_mul]
  repeat' split
  all_goals rfl
theorem kaK (d : Fin 128) : cat (kh x1) one1 one1 one1 (Host.negf (F := Ideal) (φ := .f32) (cc x3)) (Host.negf (F := Ideal) (φ := .f32) (c2 x3)) (Host.negf (F := Ideal) (φ := .f32) (c3 x3)) zero58 (ix3 h x d) = ((I.ka h x d : ℝ) : EReal) := by
  have n1 : (Host.negf (F := Ideal) (φ := .f32) (cc x3)) (ix3 h x 0) = ((-I.c x h : ℝ) : EReal) := congrArg (fun y : EReal => -y) (ccK H h x 0)
  have n2 : (Host.negf (F := Ideal) (φ := .f32) (c2 x3)) (ix3 h x 0) = 0 := (congrArg (fun y : EReal => -y) (c2K H h x 0)).trans neg_zero
  have n3 : (Host.negf (F := Ideal) (φ := .f32) (c3 x3)) (ix3 h x 0) = 0 := (congrArg (fun y : EReal => -y) (c3K H h x 0)).trans neg_zero
  refine (cat_at _ _ _ _ _ _ _ _ h x d).trans ?_
  unfold Inp.ka
  simp only [kh_at, n1, n2, n3, one_at, zero_at, H.k]
  repeat' split
  all_goals rfl
end

variable (m : (ℓ : Loc nD τ sig) → Buf (Elt Ideal) ℓ) (c : Dev nD) {I : Inp} (H : I.Holds (a0 m c) (a1 m c) (a2 m c) (a3 m c) (a4 m c))
variable (h : Fin 16) (x s : Fin 8192)
include H

theorem arrQ (d : Fin 128) : (arr m c).Q (ix3 h x d) = ((I.qa h x d : ℝ) : EReal) := (congrFun (h61 m c) (ix3 h x d)).trans (qaK H h x d)
theorem arrK (d : Fin 128) : (arr m c).K (ix3 h x d) = ((I.ka h x d : ℝ) : EReal) := (congrFun (h66 m c) (ix3 h x d)).trans (kaK H h x d)
theorem arrL (u : Fin 1) : (arr m c).L (ix3 h u x) = ((Real.log (I.Z h x) : ℝ) : EReal) :=
  (congrFun ((h68 m c).trans (congrArg lse (h18 m c))) (ix3 h u x)).trans (lseK H h x u)
theorem arrD (u : Fin 1) : (arr m c).D (ix3 h u x) = ((I.dl h x : ℝ) : EReal) :=
  (congrFun ((h69 m c).trans (congrArg (fun y => delta y (a2 m c) (a4 m c)) (h18 m c))) (ix3 h u x)).trans (deltaK H h x u)
theorem arrDO (e : Fin 1024) : (arr m c).DO (ix2 x e) = ((I.g x e : ℝ) : EReal) := (congrFun (h67 m c) (ix2 x e)).trans (H.g x e)
theorem arrX (e : Fin 1024) : (arr m c).X (ix2 x (vl e)) = ((I.v x e : ℝ) : EReal) := by
  refine (congrFun (h39 m c) (ix2 x (vl e))).trans (Eq.trans ?_ (H.v x e))
  generalize a0 m c = y0
  generalize a1 m c = y1
  generalize a2 m c = y2
  exact concatenate_apply_piece 1 [⟨S8192x1024, y0⟩, ⟨S8192x1024, y1⟩, ⟨S8192x1024, y2⟩] _ (ix2 x (vl e)) 2 (Nat.lt_succ_self 2) S8192x1024 y2 rfl rfl 2048 rfl (ix2 x e) (fun b hb => by
    match b with
    | ⟨0, _⟩ => rfl
    | ⟨1, _⟩ => exact absurd rfl hb) rfl

theorem pmK {n : ℕ} {r : Fin 2} (hh : hp n r = h) : (arr m c).PM n r s x = ((I.pr h x s : ℝ) : EReal) := by
  subst hh
  unfold Arr.PM
  have e : ∑ d : Fin 128, (arr m c).K (ix3 (hp n r) s d) * (arr m c).Q (ix3 (hp n r) x d) = ((I.lg (hp n r) x s : ℝ) : EReal) := by
    refine Eq.trans (Finset.sum_congr rfl fun d _ => ?_) ((coe_sum Finset.univ fun d : Fin 128 => I.ka (hp n r) s d * I.qa (hp n r) x d).trans (congrArg _ (I.logit_lanes (hp n r) x s)))
    rw [arrK m c H, arrQ m c H, EReal.coe_mul]
  rw [e, arrL m c H]
  exact I.weight (hp n r) x s
theorem dmK {n : ℕ} (hn : n < 8) {r : Fin 2} (hh : hp n r = h) : (arr m c).DM n r s x = ((I.ds h x s : ℝ) : EReal) := by
  unfold Arr.DM
  rw [pmK m c H h x s hh]
  subst hh
  have e : ∑ d : Fin 128, (if hd d = r then (arr m c).X (ix2 s (vl (lp n d))) else 0) * (arr m c).DO (ix2 x (lp n d)) = ((I.dp (hp n r) x s : ℝ) : EReal) := by
    have one (d : Fin 128) : (if hd d = r then (arr m c).X (ix2 s (vl (lp n d))) else 0) * (arr m c).DO (ix2 x (lp n d))
        = (((if hd d = r then I.g x (lp n d) * I.v s (lp n d) else 0 : ℝ)) : EReal) := by
      rw [arrX m c H, arrDO m c H]
      split
      · rw [← EReal.coe_mul, mul_comm]
      · rw [zero_mul]; rfl
    refine (Finset.sum_congr rfl fun d _ => one d).trans ((coe_sum Finset.univ _).trans (congrArg _ ?_))
    refine (Fin.sum_univ_add (fun d : Fin (64 + 64) => if hd d = r then I.g x (lp n d) * I.v s (lp n d) else 0)).trans ?_
    have h0 (j : Fin 64) : hd (Fin.castAdd 64 j) = 0 := if_pos j.isLt
    have h1 (j : Fin 64) : hd (Fin.natAdd 64 j) = 1 := if_neg (by show ¬ (64 + j.val < 64); omega)
    simp only [h0, h1]
    unfold Inp.dp
    have hr2 : r = 0 ∨ r = 1 := by have := r.isLt; rcases r with ⟨r, hr⟩; rcases r with _ | _ | r <;> first | exact .inl rfl | exact .inr rfl | omega
    rcases hr2 with rfl | rfl
    · simp only [if_true, if_neg (show ¬ ((1 : Fin 2) = 0) by decide), Finset.sum_const_zero, add_zero]
      refine Finset.sum_congr rfl fun j _ => ?_
      rw [show lp n (Fin.castAdd 64 j) = el (hp n 0) j from Fin.ext (by rw [lp_val hn]; show _ = 64 * (hp n 0).val + j.val; rw [hp_val hn]; show 128 * n + j.val = 64 * (2 * n + 0) + j.val; omega)]
    · simp only [if_true, if_neg (show ¬ ((0 : Fin 2) = 1) by decide), Finset.sum_const_zero, zero_add]
      refine Finset.sum_congr rfl fun j _ => ?_
      rw [show lp n (Fin.natAdd 64 j) = el (hp n 1) j from Fin.ext (by rw [lp_val hn]; show _ = 64 * (hp n 1).val + j.val; rw [hp_val hn]; show 128 * n + (64 + j.val) = 64 * (2 * n + 1) + j.val; omega)]
  rw [e, arrD m c H, ← EReal.coe_sub, ← EReal.coe_mul]
  rfl

theorem own : hp (h.val / 2) (hr h) = h := Fin.ext (by
  rw [hp_val (by have := h.isLt; omega)]
  show 2 * (h.val / 2) + h.val % 2 = h.val
  omega)
theorem g6 (d : Fin 128) : G6 m c (ix3 h x d) = ((∑ s : Fin 8192, I.ds h x s * I.ka h s d : ℝ) : EReal) := by
  refine Eq.trans (Finset.sum_congr rfl fun s _ => ?_) (coe_sum Finset.univ _)
  rw [EReal.coe_mul]
  exact congrArg₂ (fun a b : EReal => a * b) (dmK m c H h x s (by show h.val / 2 < 8; have := h.isLt; omega) (own m c H h)) (arrK m c H h s d)
theorem g7 (d : Fin 128) : G7 m c (ix3 h s d) = ((∑ x : Fin 8192, I.ds h x s * I.qa h x d : ℝ) : EReal) := by
  refine Eq.trans (Finset.sum_congr rfl fun x _ => ?_) (coe_sum Finset.univ _)
  rw [EReal.coe_mul]
  exact congrArg₂ (fun a b : EReal => a * b) (dmK m c H h x s (by show h.val / 2 < 8; have := h.isLt; omega) (own m c H h)) (arrQ m c H h x d)
theorem g8 (d : Fin 64) : G8 m c (ix2 s (el h d)) = ((∑ x : Fin 8192, I.pr h x s * I.g x (el h d) : ℝ) : EReal) := by
  have e : hp ((el h d).val / 128) (hd ⟨(el h d).val % 128, Nat.mod_lt _ (by decide)⟩) = h := Fin.ext (by
    have h1 := h.isLt
    have h2 := d.isLt
    have e0 : (el h d).val = 64 * h.val + d.val := rfl
    rw [hp_val (by omega), e0]
    unfold hd
    split
    · next hc => simp only at hc; show 2 * ((64 * h.val + d.val) / 128) + 0 = h.val; omega
    · next hc => simp only at hc; show 2 * ((64 * h.val + d.val) / 128) + 1 = h.val; omega)
  show dvAt m c s (el h d) = _
  unfold dvAt
  refine Eq.trans (Finset.sum_congr rfl fun x _ => ?_) (coe_sum Finset.univ _)
  rw [EReal.coe_mul]
  exact congrArg₂ (fun a b : EReal => a * b) (pmK m c H h x s e) (arrDO m c H x (el h d))

end Cert.KernelIdeal.Val
end
-- ==== Proof.Tail.lean ====
/- The host's lines after the region: the gradients read from the arrays it leaves. -/
module

public import proofs.«01_k».proof.Proof.KerB

@[expose] public section

set_option maxRecDepth 16384

noncomputable section
namespace Cert.KernelIdeal.Val

open Cert.KernelIdeal Cert.KernelIdeal.Gen
open Idealize.ShloMosaic Idealize.ShloMosaic.TcCoe Idealize.ShloMosaic.Tactic
open Cert.ReferenceIdeal.Read Cert.Spec

variable (m : (ℓ : Loc nD τ sig) → Buf (Elt Ideal) ℓ) (c : Dev nD)

def outQ (y : FVec Ideal S16x8192x128 .f32) : FVec Ideal S8192x1024 .f32 :=
  shapeCast S8192x1024 (transpose S8192x16x64 [1, 0, 2] (mulf (extractStridedSlice S16x8192x64 ![0, 0, 0] y slices_S16x8192x128_S16x8192x64_0_0_0) (broadcastInDim S16x8192x64 ![] bcast_S_S16x8192x64 (constant S_ .f32 0x3E000000#32))) transposes_S16x8192x64_S8192x16x64_1_0_2) shapeCasts_S8192x16x64_S8192x1024
def outK (y : FVec Ideal S16x8192x128 .f32) : FVec Ideal S8192x1024 .f32 :=
  shapeCast S8192x1024 (transpose S8192x16x64 [1, 0, 2] (extractStridedSlice S16x8192x64 ![0, 0, 0] y slices_S16x8192x128_S16x8192x64_0_0_0) transposes_S16x8192x64_S8192x16x64_1_0_2) shapeCasts_S8192x16x64_S8192x1024
def outC (y z : FVec Ideal S16x8192x128 .f32) : FVec Ideal S8192x16 .f32 :=
  transpose S8192x16 [1, 0] (subf (shapeCast S16x8192 (extractStridedSlice S16x8192x1 ![0, 0, 64] y slices_S16x8192x128_S16x8192x1_0_0_64) shapeCasts_S16x8192x1_S16x8192)
    (shapeCast S16x8192 (extractStridedSlice S16x8192x1 ![0, 0, 67] z slices_S16x8192x128_S16x8192x1_0_0_67) shapeCasts_S16x8192x1_S16x8192)) transposes_S16x8192_S8192x16_1_0

theorem tail75 (U : Valuation τ sig (Elt Ideal)) : StableHlo.after [hostOps1 (F := Ideal)].flatten U (Proc.devRef .tc main_v75) = outQ (U (Proc.devRef .tc main_v70_0)) := by
  after_reads_simp
  rfl
theorem tail78 (U : Valuation τ sig (Elt Ideal)) : StableHlo.after [hostOps1 (F := Ideal)].flatten U (Proc.devRef .tc main_v78) = outK (U (Proc.devRef .tc main_v70_1)) := by
  after_reads_simp
  rfl
theorem tail84 (U : Valuation τ sig (Elt Ideal)) : StableHlo.after [hostOps1 (F := Ideal)].flatten U (Proc.devRef .tc main_v84) = outC (U (Proc.devRef .tc main_v70_0)) (U (Proc.devRef .tc main_v70_1)) := by
  after_reads_simp
  rfl

theorem left70_0 : (Pipeline.withArrays spec0 c (V0 m c) fun w => (dats m 0 c).arrAt w cfg0.N) (Proc.devRef .tc main_v70_0) = G6 m c :=
  (Pipeline.withArrays_arr spec0 launch0.win.arr_inj c (V0 m c) (fun w => (dats m 0 c).arrAt w cfg0.N) 6).trans (final6 m c)
theorem left70_1 : (Pipeline.withArrays spec0 c (V0 m c) fun w => (dats m 0 c).arrAt w cfg0.N) (Proc.devRef .tc main_v70_1) = G7 m c :=
  (Pipeline.withArrays_arr spec0 launch0.win.arr_inj c (V0 m c) (fun w => (dats m 0 c).arrAt w cfg0.N) 7).trans (final7 m c)

theorem w75 : Pipeline.afterTail₀ cfgs (dats m) 0 (V0 m) [hostOps1] c main_v75 = outQ (G6 m c) := (tail75 _).trans (congrArg outQ (left70_0 m c))
theorem w78 : Pipeline.afterTail₀ cfgs (dats m) 0 (V0 m) [hostOps1] c main_v78 = outK (G7 m c) := (tail78 _).trans (congrArg outK (left70_1 m c))
theorem w84 : Pipeline.afterTail₀ cfgs (dats m) 0 (V0 m) [hostOps1] c main_v84 = outC (G6 m c) (G7 m c) := (tail84 _).trans (congrArg₂ outC (left70_0 m c) (left70_1 m c))

section
variable (h : Fin 16) (x : Fin 8192)

theorem outQ_at (y : FVec Ideal S16x8192x128 .f32) (d : Fin 64) : outQ y (ix2 x (el h d)) = y (ix3 h x (Fin.castAdd 64 d)) * Ideal.ofBits .f32 0x3E000000#32 :=
  (unheads h x _ d).trans (by pointwise []; rfl)
theorem outK_at (y : FVec Ideal S16x8192x128 .f32) (d : Fin 64) : outK y (ix2 x (el h d)) = y (ix3 h x (Fin.castAdd 64 d)) :=
  (unheads h x _ d).trans (by pointwise []; rfl)
theorem flip (y : FVec Ideal S16x8192 .f32) : transpose S8192x16 [1, 0] y transposes_S16x8192_S8192x16_1_0 (ix2 x h) = y (ix2 h x) := by pointwise []
theorem lane64 (y : FVec Ideal S16x8192x128 .f32) : extractStridedSlice S16x8192x1 ![0, 0, 64] y slices_S16x8192x128_S16x8192x1_0_0_64 (ix3 h x 0) = y (ix3 h x 64) := by pointwise []
theorem lane67 (y : FVec Ideal S16x8192x128 .f32) : extractStridedSlice S16x8192x1 ![0, 0, 67] y slices_S16x8192x128_S16x8192x1_0_0_67 (ix3 h x 0) = y (ix3 h x 67) := by pointwise []
theorem outC_at (y z : FVec Ideal S16x8192x128 .f32) : outC y z (ix2 x h) = y (ix3 h x 64) - z (ix3 h x 67) :=
  (flip h x _).trans (congrArg₂ (fun a b : EReal => a - b) ((drop1 _ h x).trans (lane64 h x y)) ((drop1 _ h x).trans (lane67 h x z)))

variable {I : Inp} (H : I.Holds (a0 m c) (a1 m c) (a2 m c) (a3 m c) (a4 m c))
include H

theorem kerDq (d : Fin 64) : outQ (G6 m c) (ix2 x (el h d)) = ((∑ s : Fin 8192, I.ds h x s * (1 / 8) * I.k s (el h d) : ℝ) : EReal) := by
  rw [outQ_at, g6 m c H, eighth, ← EReal.coe_mul, Finset.sum_mul]
  refine congrArg _ (Finset.sum_congr rfl fun s _ => ?_)
  have e : I.ka h s (Fin.castAdd 64 d) = I.k s (el h d) := dif_pos d.isLt
  rw [e]; ring
theorem kerDk (d : Fin 64) : outK (G7 m c) (ix2 x (el h d)) = ((∑ y : Fin 8192, I.ds h y x * (1 / 8) * I.q y (el h d) : ℝ) : EReal) := by
  rw [outK_at, g7 m c H]
  refine congrArg _ (Finset.sum_congr rfl fun s _ => ?_)
  have e : I.qa h s (Fin.castAdd 64 d) = I.q s (el h d) * (1 / 8) := dif_pos d.isLt
  rw [e]; ring
theorem kerDc : outC (G6 m c) (G7 m c) (ix2 x h) = ((-(∑ y : Fin 8192, I.ds h y x) + ∑ s : Fin 8192, I.ds h x s : ℝ) : EReal) := by
  have e (s : Fin 8192) : I.ka h s 64 = 1 := by simp [Inp.ka]
  have e' (s : Fin 8192) : I.qa h s 67 = 1 := by simp [Inp.qa]
  rw [outC_at, g6 m c H, g7 m c H, ← EReal.coe_sub]
  simp only [e, e', mul_one]
  exact congrArg _ (by ring)
end

/-- Every lane belongs to a head. -/
theorem lane_of (e : Fin 1024) : ∃ (h : Fin 16) (d : Fin 64), e = el h d :=
  ⟨⟨e.val / 64, by have := e.isLt; omega⟩, ⟨e.val % 64, Nat.mod_lt _ (by decide)⟩, Fin.ext (by show e.val = 64 * (e.val / 64) + e.val % 64; omega)⟩

variable {I : Inp} (H : I.Holds (a0 m c) (a1 m c) (a2 m c) (a3 m c) (a4 m c))
include H

theorem sameDq : outQ (G6 m c) = val_main_v83 (F := Ideal) (a0 m c) (a1 m c) (a2 m c) (a3 m c) (a4 m c) := by
  funext i
  obtain ⟨x, e, rfl⟩ : ∃ x e, i = ix2 x e := ⟨i 0, i 1, eq_ix2 i⟩
  obtain ⟨h, d, rfl⟩ := lane_of e
  exact (kerDq m c h x H d).trans (refDq H h x d).symm
theorem sameDk : outK (G7 m c) = val_main_v84 (F := Ideal) (a0 m c) (a1 m c) (a2 m c) (a3 m c) (a4 m c) := by
  funext i
  obtain ⟨x, e, rfl⟩ : ∃ x e, i = ix2 x e := ⟨i 0, i 1, eq_ix2 i⟩
  obtain ⟨h, d, rfl⟩ := lane_of e
  exact (kerDk m c h x H d).trans (refDk H h x d).symm
theorem sameDv : G8 m c = val_main_v86 (F := Ideal) (a0 m c) (a1 m c) (a3 m c) (a4 m c) := by
  funext i
  obtain ⟨x, e, rfl⟩ : ∃ x e, i = ix2 x e := ⟨i 0, i 1, eq_ix2 i⟩
  obtain ⟨h, d, rfl⟩ := lane_of e
  exact (g8 m c H h x d).trans (refDv H h x d).symm
theorem sameDc : outC (G6 m c) (G7 m c) = val_main_v82 (F := Ideal) (a0 m c) (a1 m c) (a2 m c) (a3 m c) (a4 m c) := by
  funext i
  obtain ⟨x, h, rfl⟩ : ∃ x h, i = ix2 x h := ⟨i 0, i 1, eq_ix2 i⟩
  exact (kerDc m c h x H).trans (refDc H h x).symm

end Cert.KernelIdeal.Val
end
-- ==== Proof.Value.lean ====
/- The kernel's run ends with the reference's gradients. -/
module

public import proofs.«01_k».proof.Proof.Tail

@[expose] public section

set_option maxRecDepth 16384

noncomputable section
namespace Cert.KernelIdeal.Val

open Cert.KernelIdeal Cert.KernelIdeal.Gen
open Idealize.ShloMosaic Idealize.ShloMosaic.TcCoe Idealize.ShloMosaic.Tactic
open Idealize.SL Idealize.SL.Sem
open Cert.ReferenceIdeal.Read Cert.Spec

variable (m : (ℓ : Loc nD τ sig) → Buf (Elt Ideal) ℓ) (ρ : Dev nD → PrngReg)

/-- On real arguments the kernel ends with the reference's four gradients, its arguments unchanged. -/
theorem run_value (H : ∀ c, ∃ I : Inp, I.Holds (a0 m c) (a1 m c) (a2 m c) (a3 m c) (a4 m c)) :
    θ_run (defs (F := Ideal)) (onTc (τ := τ) (main (F := Ideal))) ⟨m, fun _ => 0, ρ⟩ (fun r => ∀ c : Dev nD,
      r.2.mem ((c.tc : Thread nD τ).loc main_v75) = val_main_v83 (F := Ideal) (a0 m c) (a1 m c) (a2 m c) (a3 m c) (a4 m c)
      ∧ r.2.mem ((c.tc : Thread nD τ).loc main_v78) = val_main_v84 (F := Ideal) (a0 m c) (a1 m c) (a2 m c) (a3 m c) (a4 m c)
      ∧ r.2.mem ((c.tc : Thread nD τ).loc main_v70_2) = val_main_v86 (F := Ideal) (a0 m c) (a1 m c) (a3 m c) (a4 m c)
      ∧ r.2.mem ((c.tc : Thread nD τ).loc main_v84) = val_main_v82 (F := Ideal) (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (θ_run_and (run_main (F := Ideal) m ρ) (frame_of m ρ (dats m) (A_eq m) (run_main m ρ)))
  obtain ⟨I, HI⟩ := H c
  exact ⟨((h.1 c).2 main_v75 (Pipeline.mem_restRefs_of main_v75 (by decide) (by decide))).trans ((w75 m c).trans (sameDq m c HI)),
    ((h.1 c).2 main_v78 (Pipeline.mem_restRefs_of main_v78 (by decide) (by decide))).trans ((w78 m c).trans (sameDk m c HI)),
    ((h.1 c).1 8).trans ((final8 m c).trans (sameDv m c HI)),
    ((h.1 c).2 main_v84 (Pipeline.mem_restRefs_of main_v84 (by decide) (by decide))).trans ((w84 m c).trans (sameDc m c HI)), h.2 c⟩

end Cert.KernelIdeal.Val
end
-- ==== Proof.Finite.lean ====
/- What the precondition says: every argument is a real number. -/
module

public import proofs.«01_k».proof.Proof.KerB
public import proofs.«01_k».proof.Pre_finite
public import proofs.«01_k».proof.Proof.Gen.Pre_finite
public import Idealize.ShloMosaic.Lib.ReduceAll

@[expose] public section

set_option maxRecDepth 16384

noncomputable section
namespace Cert.Spec
open Idealize.ShloMosaic

theorem real_of (a : EReal) (h : Ideal.cmp .olt (max a (-a)) (Ideal.ofBits .f32 0x7F800000#32) = 1#1) : a = ((a.toReal : ℝ) : EReal) := by
  have top : Ideal.ofBits .f32 0x7F800000#32 = ⊤ := by simp [Ideal.ofBits, Ideal.ieee]
  rw [top] at h
  have hlt : max a (-a) < ⊤ := by
    by_contra hn
    simp [Ideal.cmp, hn] at h
  refine (EReal.coe_toReal (ne_of_lt (lt_of_le_of_lt (le_max_left _ _) hlt)) fun hb => ?_).symm
  subst hb
  simp at hlt

open Cert.Pre_finite in
theorem holds (x0 x1 x2 : FVec Ideal S8192x1024 .f32) (x3 : FVec Ideal S8192x16 .f32) (x4 : FVec Ideal S8192x1024 .f32)
    (h : Cert.Pre_finite.fn (F := Ideal) x0 x1 x2 x3 x4 = fun _ => 1#1) : ∃ I : Inp, I.Holds x0 x1 x2 x3 x4 := by
  have sub : Subsingleton S_.Idx := ⟨fun a b => funext fun i => i.elim0⟩
  have h' := congrFun h (fun i => i.elim0)
  dsimp only [fn, fn_part1] at h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨⟨fun x d => (x0 (ix2 x d)).toReal, fun x d => (x1 (ix2 x d)).toReal, fun x d => (x2 (ix2 x d)).toReal, fun x d => (x4 (ix2 x d)).toReal, fun x h => (x3 (ix2 x h)).toReal⟩,
    fun x d => real_of _ (Host.reduce_andi_all _ _ _ _ _ e0 (ix2 x d)), fun x d => real_of _ (Host.reduce_andi_all _ _ _ _ _ e1 (ix2 x d)),
    fun x d => real_of _ (Host.reduce_andi_all _ _ _ _ _ e2 (ix2 x d)), fun x d => real_of _ (Host.reduce_andi_all _ _ _ _ _ e3 (ix2 x d)),
    fun x d => real_of _ (Host.reduce_andi_all _ _ _ _ _ e4 (ix2 x d))⟩
end Cert.Spec
end
-- ==== Proof.Products.lean ====
/- Products of two arrays, entry by entry: a product over the rows summed block of rows after block of rows, a
   product over the columns, and the product of rows with columns. -/
module

public import Idealize.ShloMosaic.Lib.ValueIdx
public import Idealize.ShloMosaic.Lib.Pointwise
public import Idealize.ShloMosaic.Lib.StableHlo.ReadAt
public import Idealize.ShloMosaic.Lib.Pipeline.Value

@[expose] public section

noncomputable section

namespace Cert.Products

open Idealize.ShloMosaic

variable {K M N : ℕ} {φ ψ : FTy}

/-- An array's entry at any row and column, zero outside the array. -/
def entry (x : FVec Ideal ⟨2, ![M, N]⟩ φ) (r c : ℕ) : EReal :=
  if h : r < M ∧ c < N then x (ix2 ⟨r, h.1⟩ ⟨c, h.2⟩) else 0

theorem entry_eq (x : FVec Ideal ⟨2, ![M, N]⟩ φ) (r : Fin M) (c : Fin N) : entry x r.val c.val = x (ix2 r c) :=
  dif_pos ⟨r.isLt, c.isLt⟩

theorem entry_of (x : FVec Ideal ⟨2, ![M, N]⟩ φ) (e : (⟨2, ![M, N]⟩ : Shape).Idx) (r c : ℕ)
    (hr : (e 0).val = r) (hc : (e 1).val = c) : x e = entry x r c := by
  subst hr hc
  exact (congrArg x (eq_ix2 e)).trans (entry_eq x (e 0) (e 1)).symm

/-- A function of an index's two coordinates at an entry of block `s`, `q`, in blocks of `b` rows and `d` columns. -/
theorem at_block (f : ℕ → ℕ → EReal) {w : Fin 2 → ℕ} {s q b d : ℕ} (hw : w = ![s, q]) (e : (⟨2, ![M, N]⟩ : Shape).Idx) (r c : ℕ)
    (hr : (e 0).val = w 0 * b + 1 * r) (hc : (e 1).val = w 1 * d + 1 * c) : f (e 0).val (e 1).val = f (b * s + r) (d * q + c) := by
  subst hw
  rw [hr, hc, Nat.one_mul, Nat.one_mul]
  exact congrArg₂ f (congrArg (· + r) (Nat.mul_comm s b)) (congrArg (· + c) (Nat.mul_comm q d))

theorem entry_at (x : FVec Ideal ⟨2, ![M, N]⟩ φ) {w : Fin 2 → ℕ} {s q b d : ℕ} (hw : w = ![s, q]) (e : (⟨2, ![M, N]⟩ : Shape).Idx) (r c : ℕ)
    (hr : (e 0).val = w 0 * b + 1 * r) (hc : (e 1).val = w 1 * d + 1 * c) : x e = entry x (b * s + r) (d * q + c) :=
  (entry_of x e _ _ rfl rfl).trans (at_block (entry x) hw e r c hr hc)

/-- Summing blocks of `b` terms one after the other sums all the terms. -/
theorem sum_blocks (f : ℕ → EReal) (b : ℕ) : ∀ a : ℕ,
    ∑ s ∈ Finset.range a, ∑ k : Fin b, f (b * s + k.val) = ∑ k : Fin (a * b), f k.val
  | 0 => by rw [← Finset.sum_range, Nat.zero_mul]; rfl
  | a + 1 => by
    rw [Finset.sum_range_succ, sum_blocks f b a, ← Finset.sum_range, ← Finset.sum_range,
      ← Finset.sum_range (fun k => f (b * a + k)), Nat.succ_mul, Finset.sum_range_add, Nat.mul_comm b a]

/-- The product of a row of the first array with a row of the second. -/
def rows (x : FVec Ideal ⟨2, ![M, K]⟩ φ) (y : FVec Ideal ⟨2, ![N, K]⟩ ψ) (p q : ℕ) : EReal :=
  ∑ k : Fin K, entry x p k.val * entry y q k.val

theorem rows_eq (x : FVec Ideal ⟨2, ![M, K]⟩ φ) (y : FVec Ideal ⟨2, ![N, K]⟩ ψ) (p : Fin M) (q : Fin N) :
    rows x y p.val q.val = ∑ k : Fin K, (x (ix2 p k) : EReal) * y (ix2 q k) :=
  Finset.sum_congr rfl fun k _ => congrArg₂ _ (entry_eq x p k) (entry_eq y q k)

/-- The product of a row of the first array with a column of the second. -/
def rowcol (x : FVec Ideal ⟨2, ![M, K]⟩ φ) (y : FVec Ideal ⟨2, ![K, N]⟩ ψ) (p q : ℕ) : EReal :=
  ∑ k : Fin K, entry x p k.val * entry y k.val q

theorem rowcol_eq (x : FVec Ideal ⟨2, ![M, K]⟩ φ) (y : FVec Ideal ⟨2, ![K, N]⟩ ψ) (p : Fin M) (q : Fin N) :
    rowcol x y p.val q.val = ∑ k : Fin K, (x (ix2 p k) : EReal) * y (ix2 k q) :=
  Finset.sum_congr rfl fun k _ => congrArg₂ _ (entry_eq x p k) (entry_eq y k q)

/-- All the products of a row of the first array with a column of the second, as one array. -/
def whole {χ : FTy} (x : FVec Ideal ⟨2, ![M, K]⟩ φ) (y : FVec Ideal ⟨2, ![K, N]⟩ ψ) : FVec Ideal ⟨2, ![M, N]⟩ χ := fun i =>
  rowcol x y (i 0).val (i 1).val

/-- The products over 8192 rows, in blocks of 512 rows and 1024 columns, `n` blocks of columns: the block of an index is a point. -/
theorem point_lt {n r c : ℕ} (hr : r < 8192) (hc : c < n * 1024) : 16 * (c / 1024) + r / 512 < n * 16 := by omega

theorem in_point {r c : ℕ} {w z i : Fin 2 → ℕ} (hr : r < 8192) (hi : i = ![r, c])
    (hw : w = ![(16 * (c / 1024) + r / 512) % 16, (16 * (c / 1024) + r / 512) / 16]) (hz : z = ![512, 1024]) :
    ∀ a : Fin 2, w a * z a ≤ i a ∧ i a < w a * z a + z a := by
  subst hw hz hi
  refine Fin.forall_fin_two.mpr ⟨?_, ?_⟩
  · show (16 * (c / 1024) + r / 512) % 16 * 512 ≤ r ∧ r < (16 * (c / 1024) + r / 512) % 16 * 512 + 512
    omega
  · show (16 * (c / 1024) + r / 512) / 16 * 1024 ≤ c ∧ c < (16 * (c / 1024) + r / 512) / 16 * 1024 + 1024
    omega

theorem zeros : (![0, 0] : Fin 2 → Nat) = fun _ => 0 := funext fun a => by fin_cases a <;> rfl

/-- A sum over a block of whole rows of the first array and a block of whole columns of the second is the product
    at the blocks' place. -/
theorem block_rowcol (x : FVec Ideal ⟨2, ![M, K]⟩ φ) (y : FVec Ideal ⟨2, ![K, N]⟩ ψ) {b d s q r c : ℕ} (u v : Fin K → EReal)
    (hu : ∀ k : Fin K, u k = entry x (b * s + r) (K * 0 + k.val)) (hv : ∀ k : Fin K, v k = entry y (K * 0 + k.val) (d * q + c)) :
    ∑ k : Fin K, u k * v k = rowcol x y (b * s + r) (d * q + c) :=
  Finset.sum_congr rfl fun k _ => congrArg₂ _ ((hu k).trans (by rw [Nat.mul_zero, Nat.zero_add])) ((hv k).trans (by rw [Nat.mul_zero, Nat.zero_add]))

/-- The product of a column of the first array with a column of the second. -/
def cols (x : FVec Ideal ⟨2, ![K, M]⟩ φ) (y : FVec Ideal ⟨2, ![K, N]⟩ ψ) (p q : ℕ) : EReal :=
  ∑ k : Fin K, entry x k.val p * entry y k.val q

/-- The part of it in rows `512 * s` to `512 * s + 511`. -/
def part (x : FVec Ideal ⟨2, ![K, M]⟩ φ) (y : FVec Ideal ⟨2, ![K, N]⟩ ψ) (s p q : ℕ) : EReal :=
  ∑ k : Fin 512, entry x (512 * s + k.val) p * entry y (512 * s + k.val) q

theorem sum_parts (x : FVec Ideal ⟨2, ![8192, M]⟩ φ) (y : FVec Ideal ⟨2, ![8192, N]⟩ ψ) (p q : ℕ) :
    ∑ s ∈ Finset.range 16, part x y s p q = cols x y p q :=
  sum_blocks (fun k => entry x k p * entry y k q) 512 16

/-- Sixteen steps, the first from zero, each adding the product of its block of rows, leave the whole product. -/
theorem fold_cols {n₀ : ℕ} {ι : Type*} (x : FVec Ideal ⟨2, ![8192, M]⟩ φ) (y : FVec Ideal ⟨2, ![8192, N]⟩ ψ)
    (a : (n : ℕ) → n < n₀ → ι → EReal) (g : (n : ℕ) → n < n₀ → (ι → EReal) → ι → EReal) (p q : ℕ → ι → ℕ) (z : ι → EReal)
    (hz : ∀ j, z j = 0) (ha : ∀ n h j, a n h j = g n h z j)
    (hg : ∀ n h acc j, g n h acc j = acc j + part x y (n % 16) (p (n / 16) j) (q (n / 16) j))
    (r : ℕ) (h : 16 * r + 15 < n₀) (j : ι) :
    Pipeline.accAt a g (16 * r) 15 h j = cols x y (p r j) (q r j) := by
  refine (Pipeline.accAt_add_apply a g z (fun n j => part x y (n % 16) (p (n / 16) j) (q (n / 16) j)) (16 * r) 15
    (fun h j => (ha _ h j).trans (hg _ h z j)) (fun n h acc j _ _ => hg n h acc j) 15 (le_refl _) h j).trans ?_
  rw [hz, zero_add]
  refine (Finset.sum_congr rfl fun s hs => ?_).trans (sum_parts x y (p r j) (q r j))
  have hs' : s < 16 := Finset.mem_range.mp hs
  rw [show (16 * r + s) % 16 = s by omega, show (16 * r + s) / 16 = r by omega]

end Cert.Products

end
-- ==== Proof.Du1.lean ====
/- The input gradient of the attention layer's input projection: every entry the kernel leaves is the sum over the
   projection's 6144 columns of the output gradient's entry times the weight's entry. -/
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Products

@[expose] public section

set_option maxRecDepth 16384

noncomputable section

namespace Cert.Kernel2Ideal.Val

open Cert.Kernel2Ideal Cert.Kernel2Ideal.Gen Idealize.ShloMosaic Idealize.ShloMosaic.TcCoe Idealize.SL.Sem Cert.Products

/-- A tile's entry: the product of a row of the first block with a row of the second. -/
theorem tile_at (x0 x1 : FVec Ideal S512x6144 .bf16) (j : S512x512.Idx) :
    out0_2 (F := Ideal) x0 x1 j = ∑ k : Fin 6144, (x0 (ix2 (j 0) k) : EReal) * x1 (ix2 (j 1) k) := by
  have hz : (![0, 0] : Fin 2 → Nat) = fun _ => 0 := funext fun a => by fin_cases a <;> rfl
  unfold out0_2
  rw [View.canon_unit_zero hz]
  simp only [View.ld_unit_zero (S := S512x6144) hz]
  pointwise [k0_pay1]

variable (m : (ℓ : Loc nD τ sig) → Buf (Elt Ideal) ℓ)

/-- The two arguments. -/
abbrev a0 (c : Dev nD) : FVec Ideal S8192x6144 .f32 := m ((c : Thread nD τ).loc main_arg0)
abbrev a1 (c : Dev nD) : FVec Ideal S1024x6144 .f32 := m ((c : Thread nD τ).loc main_arg1)

/-- The input gradient as one function of the two arguments. -/
def grad (x0 : FVec Ideal S8192x6144 .f32) (x1 : FVec Ideal S1024x6144 .f32) : FVec Ideal S8192x1024 .f32 := fun i =>
  rows x0 x1 (i 0).val (i 1).val

theorem entry0 (c : Dev nD) : V m c main_v0 = a0 m c := by after_reads_simp; rfl
theorem entry1 (c : Dev nD) : V m c main_v1 = a1 m c := by after_reads_simp; rfl

/-- The blocks a point reads: the first window follows the output's row tile, the second its column tile. -/
theorem moves : ∀ t : Fin cfg0.N, win0_0.index t = ![t.val % 16, 0] ∧ win0_1.index t = ![t.val / 16, 0] ∧ win0_2.index t = ![t.val % 16, t.val / 16] :=
  (by decide +kernel : ∀ t : Fin grid0.N, win0_0.index t = ![t.val % 16, 0] ∧ win0_1.index t = ![t.val / 16, 0] ∧ win0_2.index t = ![t.val % 16, t.val / 16])

theorem block0 (c : Dev nD) (t : Fin cfg0.N) (a : Fin 512) (k : Fin 6144) :
    iblk m c 0 t (ix2 a k) = entry (a0 m c) (512 * (t.val % 16) + a.val) (6144 * 0 + k.val) :=
  (congrFun (entry0 m c) _).trans (entry_at (a0 m c) (moves t).1 (((cfg0.win 0).blk t).view.emb (ix2 a k)) _ _ rfl rfl)

theorem block1 (c : Dev nD) (t : Fin cfg0.N) (a : Fin 512) (k : Fin 6144) :
    iblk m c 1 t (ix2 a k) = entry (a1 m c) (512 * (t.val / 16) + a.val) (6144 * 0 + k.val) :=
  (congrFun (entry1 m c) _).trans (entry_at (a1 m c) (moves t).2.1 (((cfg0.win 1).blk t).view.emb (ix2 a k)) _ _ rfl rfl)

/-- What a point writes back is its tile of the gradient. -/
theorem tile (c : Dev nD) (t : Fin cfg0.N) :
    (dats m 0 c).flushed 2 t = ((cfg0.win 2).blk t).view.read (Elt Ideal) (grad (a0 m c) (a1 m c)) := by
  rw [Value.flushed2]
  funext y
  show out0_2 (F := Ideal) (iblk m c 0 t) (iblk m c 1 t) ((cfg0.win 2).xinj (grid0.coords t) y)
    = grad (a0 m c) (a1 m c) (((cfg0.win 2).blk t).view.emb y)
  refine (tile_at (iblk m c 0 t) (iblk m c 1 t) ((cfg0.win 2).xinj (grid0.coords t) y)).trans ?_
  refine Eq.trans (Finset.sum_congr rfl fun k _ => congrArg₂ _ (block0 m c t _ k) (block1 m c t _ k)) ?_
  simp only [Nat.mul_zero, Nat.zero_add]
  exact (at_block (rows (a0 m c) (a1 m c)) (moves t).2.2 (((cfg0.win 2).blk t).view.emb y) _ _ rfl rfl).symm

/-- The tiles make up the whole output. -/
theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have ht : 16 * ((i 1).val / 512) + (i 0).val / 512 < cfg0.N := by
    rw [show cfg0.N = 32 from N_0]; omega
  refine ⟨⟨_, ht⟩, (by decide +kernel : ∀ t : Fin grid0.N, win0_2.flush t = true) ⟨_, ht⟩, ?_⟩
  show i ∈ ((View.whole main_v2).slice (win0_2.rect ⟨_, ht⟩)).set
  rw [View.set_slice_whole, Rect.mem_set_unit]
  have q := (moves ⟨_, ht⟩).2.2
  intro a
  match a with
  | ⟨0, _⟩ =>
    show win0_2.index ⟨_, ht⟩ (0 : Fin 2) * 512 ≤ (i 0).val ∧ (i 0).val < win0_2.index ⟨_, ht⟩ (0 : Fin 2) * 512 + 512
    rw [show win0_2.index ⟨_, ht⟩ (0 : Fin 2) = (16 * ((i 1).val / 512) + (i 0).val / 512) % 16 from congrFun q 0]; omega
  | ⟨1, _⟩ =>
    show win0_2.index ⟨_, ht⟩ (1 : Fin 2) * 512 ≤ (i 1).val ∧ (i 1).val < win0_2.index ⟨_, ht⟩ (1 : Fin 2) * 512 + 512
    rw [show win0_2.index ⟨_, ht⟩ (1 : Fin 2) = (16 * ((i 1).val / 512) + (i 0).val / 512) / 16 from congrFun q 1]; omega

/-- The kernel and the reference end with the same gradient. -/
theorem same : Cert.algebraic_Kernel2Ideal_Reference2Ideal (hKernel2Ideal := facts) (hReference2Ideal := Cert.Reference2Ideal.Gen.facts) := by
  intro m g m' g' _ same
  refine ⟨fun c => grad (a0 m c) (a1 m c),
    (θ_run _ _ _).mono (fun r h c => ⟨(h c).1.trans ((dats m 0 c).arrAt_eq_of_cover 2 _ (fun t _ => tile m c t) covered), (h c).2⟩)
      (Value.run_blocks m g),
    (θ_run _ _ _).mono (fun r h c => ⟨(h c).1.trans ?_, (h c).2⟩) (Cert.Reference2Ideal.Value.run m' g')⟩
  obtain ⟨s0, s1⟩ := same c
  rw [s0, s1]
  funext i
  refine Eq.trans ?_ (rows_eq (a0 m c) (a1 m c) (i 0) (i 1)).symm
  pointwise []

end Cert.Kernel2Ideal.Val

end
-- ==== Proof.DwIn1.lean ====
/- The weight gradient of the attention layer's input projection: the kernel adds, for every tile of columns, the
   products of sixteen blocks of 512 rows; together they are the product over all 8192 rows. -/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Products

@[expose] public section

set_option maxRecDepth 16384

noncomputable section

namespace Cert.Kernel3Ideal.Val

open Cert.Kernel3Ideal Cert.Kernel3Ideal.Gen Idealize.ShloMosaic Idealize.ShloMosaic.TcCoe Idealize.SL.Sem Cert.Products

/-- One step adds, at every entry of the tile, the product of the two blocks' columns. -/
theorem step_at (x0 : FVec Ideal S512x1024 .bf16) (x1 : FVec Ideal S512x768 .bf16) (y : FVec Ideal S1x1024x768 .f32) (i : S1x1024x768.Idx) :
    k0_pay2 (F := Ideal) x0 x1 y i = (y i : EReal) + ∑ k : Fin 512, (x0 (ix2 k (i 1)) : EReal) * x1 (ix2 k (i 2)) := by
  pointwise [k0_pay2]

theorem zero_at (i : S1x1024x768.Idx) : (k0_pay1 (F := Ideal) i : EReal) = 0 := by
  pointwise [k0_pay1]

variable (m : (ℓ : Loc nD τ sig) → Buf (Elt Ideal) ℓ) (ρ : Dev nD → PrngReg)

/-- The two arguments. -/
abbrev a0 (c : Dev nD) : FVec Ideal S8192x1024 .f32 := m ((c : Thread nD τ).loc main_arg0)
abbrev a1 (c : Dev nD) : FVec Ideal S8192x6144 .f32 := m ((c : Thread nD τ).loc main_arg1)

theorem entry0 (c : Dev nD) : V m c main_v0 = a0 m c := by after_reads_simp; rfl
theorem entry1 (c : Dev nD) : V m c main_v1 = a1 m c := by after_reads_simp; rfl

/-- The blocks a point reads: both follow the row block, the second the column tile. -/
theorem moves : ∀ t : Fin cfg0.N, win0_0.index t = ![t.val % 16, 0] ∧ win0_1.index t = ![t.val % 16, t.val / 16] :=
  (by decide +kernel : ∀ t : Fin grid0.N, win0_0.index t = ![t.val % 16, 0] ∧ win0_1.index t = ![t.val % 16, t.val / 16])

theorem block0 (c : Dev nD) (t : Fin cfg0.N) (k : Fin 512) (a : Fin 1024) :
    iblk m c 0 t (ix2 k a) = entry (a0 m c) (512 * (t.val % 16) + k.val) (1024 * 0 + a.val) :=
  (congrFun (entry0 m c) _).trans (entry_at (a0 m c) (moves t).1 (((cfg0.win 0).blk t).view.emb (ix2 k a)) _ _ rfl rfl)

theorem block1 (c : Dev nD) (t : Fin cfg0.N) (k : Fin 512) (a : Fin 768) :
    iblk m c 1 t (ix2 k a) = entry (a1 m c) (512 * (t.val % 16) + k.val) (768 * (t.val / 16) + a.val) :=
  (congrFun (entry1 m c) _).trans (entry_at (a1 m c) (moves t).2 (((cfg0.win 1).blk t).view.emb (ix2 k a)) _ _ rfl rfl)

/-- What a point's step adds, of the two arguments. -/
theorem adds (c : Dev nD) (n : ℕ) (h : n < cfg0.N) (y : FVec Ideal S1x1024x768 .f32) (i : S1x1024x768.Idx) :
    Value.step2 m c n h y i = (y i : EReal) + part (a0 m c) (a1 m c) (n % 16) (1024 * 0 + (i 1).val) (768 * (n / 16) + (i 2).val) :=
  (step_at (iblk m c 0 ⟨n, h⟩) (iblk m c 1 ⟨n, h⟩) y i).trans
    (congrArg (fun s : EReal => (y i : EReal) + s) (Finset.sum_congr rfl fun k _ => congrArg₂ _ (block0 m c ⟨n, h⟩ k (i 1)) (block1 m c ⟨n, h⟩ k (i 2))))

/-- The whole array after the run. -/
theorem total (c : Dev nD) (i : S8x1024x768.Idx) : (Value.G2 m c i : EReal) = cols (a0 m c) (a1 m c) (i 1).val (768 * (i 0).val + (i 2).val) := by
  have h0 : (i 0).val < 8 := (i 0).isLt
  have h1 : (i 1).val < 1024 := (i 1).isLt
  have h2 : (i 2).val < 768 := (i 2).isLt
  have hr : Value.run2Of i = (i 0).val := by
    show 1 * ((i 0).val / 1 - 0) + 1 * ((i 1).val / 1024 - 0) + 1 * ((i 2).val / 768 - 0) = _
    omega
  have hN : 16 * Value.run2Of i + 15 < cfg0.N := by
    rw [hr, show cfg0.N = 128 from N_0]; omega
  unfold Value.G2
  rw [dif_pos hN]
  refine (fold_cols (a0 m c) (a1 m c) (Value.reset2 m c) (Value.step2 m c) (fun _ j => 1024 * 0 + (j 1).val) (fun r j => 768 * r + (j 2).val)
    _ zero_at (fun n h j => rfl) (adds m c) _ hN (Value.loc2Of i)).trans ?_
  show cols _ _ (1024 * 0 + (i 1).val % 1024) (768 * Value.run2Of i + (i 2).val % 768) = _
  rw [hr, show 1024 * 0 + (i 1).val % 1024 = (i 1).val by omega, show (i 2).val % 768 = (i 2).val by omega]

/-- The reference's array: the gradient's columns in eight groups. -/
theorem plain (x : FVec Ideal S8192x1024 .f32) (y : FVec Ideal S8192x6144 .f32) (i : S8x1024x768.Idx) :
    (transpose S8x1024x768 [1, 0, 2] (shapeCast Cert.Reference3Ideal.S1024x8x768 (transpose Cert.Reference3Ideal.S1024x6144 [1, 0] (Host.dotGeneral (F := Ideal)
      Cert.Reference3Ideal.dot_S8192x6144_S8192x1024_S6144x1024_0_0_1_1_n_n none y x) Cert.Reference3Ideal.Gen.facts.transposes_S6144x1024_S1024x6144_1_0)
      Cert.Reference3Ideal.Gen.facts.shapeCasts_S1024x6144_S1024x8x768) Cert.Reference3Ideal.Gen.facts.transposes_S1024x8x768_S8x1024x768_1_0_2 i : EReal)
      = cols x y (i 1).val (768 * (i 0).val + (i 2).val) := by
  have h0 : (i 0).val < 8 := (i 0).isLt
  have h2 : (i 2).val < 768 := (i 2).isLt
  have hc : 768 * (i 0).val + (i 2).val < 6144 := by omega
  refine (transpose_apply _ _ _ i (ix3 (i 1) (i 0) (i 2)) ?_).trans ?_
  · intro b
    fin_cases b <;> rfl
  refine (shapeCast_apply _ _ (ix3 (i 1) (i 0) (i 2)) (ix2 (i 1) ⟨768 * (i 0).val + (i 2).val, hc⟩) ?_).trans ?_
  · rewrite [Shape.rowMajor_val_two, Shape.rowMajor_val_three]
    show (i 1).val * 6144 + (768 * (i 0).val + (i 2).val) = ((i 1).val * 8 + (i 0).val) * 768 + (i 2).val
    omega
  refine Eq.trans (b := ∑ k : Fin 8192, (y (ix2 k ⟨768 * (i 0).val + (i 2).val, hc⟩) : EReal) * x (ix2 k (i 1))) ?_ ?_
  · pointwise []
  · exact Finset.sum_congr rfl fun k _ => (mul_comm _ _).trans
      (congrArg₂ _ (entry_eq x k (i 1)).symm (entry_eq y k ⟨768 * (i 0).val + (i 2).val, hc⟩).symm)

/-- The kernel and the reference end with the same gradient. -/
theorem same : Cert.algebraic_Kernel3Ideal_Reference3Ideal (hKernel3Ideal := facts) (hReference3Ideal := Cert.Reference3Ideal.Gen.facts) := by
  intro m g m' g' _ same
  refine ⟨fun c => Value.G2 m c, Value.run m g,
    (θ_run _ _ _).mono (fun r h c => ⟨(h c).1.trans ?_, (h c).2⟩) (Cert.Reference3Ideal.Value.run m' g')⟩
  obtain ⟨s0, s1⟩ := same c
  rw [s0, s1]
  funext i
  exact (plain _ _ i).trans (total m c i).symm

end Cert.Kernel3Ideal.Val

end
-- ==== Proof.Du0.lean ====
/- The input gradient of the first layer's input projection. The kernel adds six products, over the columns of each part
   of the projection; the last part holds two groups of 16 columns and 96 columns of zeros. Together they are the sum
   over the projection's 7200 columns. -/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Products

@[expose] public section

set_option maxRecDepth 16384

noncomputable section

namespace Cert.Kernel4Ideal.Val

open Cert.Kernel4Ideal Cert.Kernel4Ideal.Gen Idealize.ShloMosaic Idealize.ShloMosaic.TcCoe Idealize.SL.Sem Cert.Products

/-- The product of row `p` of one block with row `q` of another. -/
abbrev dot {K : ℕ} {φ ψ : FTy} (x : FVec Ideal ⟨2, ![512, K]⟩ φ) (y : FVec Ideal ⟨2, ![512, K]⟩ ψ) (p q : Fin 512) : EReal :=
  ∑ k : Fin K, (x (ix2 p k) : EReal) * y (ix2 q k)

/-- A tile's entry: the six products of a row of one block with a row of another. -/
theorem tile_at (x0 x1 x2 x3 : FVec Ideal S512x2048 .bf16) (x4 x5 x6 x7 x8 x9 : FVec Ideal S512x1024 .bf16) (x10 : FVec Ideal S512x128 .f32)
    (x11 : FVec Ideal S512x128 .bf16) (j : S512x512.Idx) :
    out0_12 (F := Ideal) x0 x1 x2 x3 x4 x5 x6 x7 x8 x9 x10 x11 j = dot x0 x1 (j 0) (j 1) + dot x2 x3 (j 0) (j 1) + dot x4 x5 (j 0) (j 1)
      + dot x6 x7 (j 0) (j 1) + dot x8 x9 (j 0) (j 1) + dot x10 x11 (j 0) (j 1) := by
  have hz : (![0, 0] : Fin 2 → Nat) = fun _ => 0 := funext fun a => by fin_cases a <;> rfl
  unfold out0_12
  rw [View.canon_unit_zero hz]
  simp only [View.ld_unit_zero (S := S512x2048) hz, View.ld_unit_zero (S := S512x1024) hz, View.ld_unit_zero (S := S512x128) hz]
  pointwise [k0_pay1, k0_pay2, k0_pay3]

/-- The last part's column `k`: the sixteen columns from 4096, the sixteen from 7184, then zeros. -/
def tail (f : ℕ → EReal) (k : ℕ) : EReal := if k < 16 then f (4096 + k) else if k < 32 then f (7184 + (k - 16)) else 0

theorem tail_mul (f g : ℕ → EReal) (k : ℕ) : tail f k * tail g k = tail (fun n => f n * g n) k := by
  unfold tail
  split_ifs
  · rfl
  · rfl
  · exact zero_mul _

/-- The six parts make up the 7200 columns. -/
theorem parts (h : ℕ → EReal) :
    ∑ k : Fin 2048, h (0 + k.val) + ∑ k : Fin 2048, h (2048 + k.val) + ∑ k : Fin 1024, h (4112 + k.val) + ∑ k : Fin 1024, h (5136 + k.val)
      + ∑ k : Fin 1024, h (6160 + k.val) + ∑ k : Fin 128, tail h k.val = ∑ k : Fin 7200, h k.val := by
  rw [← Finset.sum_range fun k => h (0 + k), ← Finset.sum_range fun k => h (2048 + k), ← Finset.sum_range fun k => h (4112 + k),
    ← Finset.sum_range fun k => h (5136 + k), ← Finset.sum_range fun k => h (6160 + k), ← Finset.sum_range fun k => tail h k, ← Finset.sum_range h]
  have e : ∑ k ∈ Finset.range 128, tail h k = ∑ k ∈ Finset.range 16, h (4096 + k) + ∑ k ∈ Finset.range 16, h (7184 + k) := by
    rw [show 128 = 16 + 16 + 96 from rfl, Finset.sum_range_add, Finset.sum_range_add]
    refine (congrArg₂ _ (congrArg₂ _ (Finset.sum_congr rfl fun k hk => if_pos (Finset.mem_range.mp hk)) (Finset.sum_congr rfl fun k hk => ?_))
      (Finset.sum_eq_zero fun k _ => ?_)).trans (add_zero _)
    · have := Finset.mem_range.mp hk
      unfold tail
      rw [if_neg (by omega), if_pos (by omega), Nat.add_sub_cancel_left]
    · unfold tail
      rw [if_neg (by omega), if_neg (by omega)]
  have cuts : ∀ n0 n1 n2 n3 n4 n5 n6 : ℕ, ∑ k ∈ Finset.range (n0 + n1 + n2 + n3 + n4 + n5 + n6), h k = ∑ k ∈ Finset.range n0, h k
      + ∑ k ∈ Finset.range n1, h (n0 + k) + ∑ k ∈ Finset.range n2, h (n0 + n1 + k) + ∑ k ∈ Finset.range n3, h (n0 + n1 + n2 + k)
      + ∑ k ∈ Finset.range n4, h (n0 + n1 + n2 + n3 + k) + ∑ k ∈ Finset.range n5, h (n0 + n1 + n2 + n3 + n4 + k)
      + ∑ k ∈ Finset.range n6, h (n0 + n1 + n2 + n3 + n4 + n5 + k) := fun n0 n1 n2 n3 n4 n5 n6 => by simp only [Finset.sum_range_add]
  have order : ∀ s0 s1 s2 s3 s4 s5 s6 : EReal, s0 + s1 + s3 + s4 + s5 + (s2 + s6) = s0 + s1 + s2 + s3 + s4 + s5 + s6 := fun s0 s1 s2 s3 s4 s5 s6 => by abel
  rw [e]
  simp only [Nat.zero_add]
  exact (order _ _ _ _ _ _ _).trans (cuts 2048 2048 16 1024 1024 1024 16).symm

section Cuts
variable {M N : ℕ} {φ : FTy}

/-- A cut of an array's columns from column `o` on. -/
theorem cut (x : FVec Ideal ⟨2, ![M, N]⟩ φ) {N' o : ℕ} (h : Shape.Slices (s := ⟨2, ![M, N]⟩) ![0, o] ⟨2, ![M, N']⟩) (e : (⟨2, ![M, N']⟩ : Shape).Idx) :
    extractStridedSlice ⟨2, ![M, N']⟩ ![0, o] x h e = entry x (e 0).val (o + (e 1).val) :=
  entry_of x _ _ _ (Nat.zero_add _) rfl

/-- Two cuts of sixteen columns and zeros, side by side. -/
theorem joined (x : FVec Ideal ⟨2, ![M, 7200]⟩ φ) (x1 x2 : FVec Ideal ⟨2, ![M, 16]⟩ φ) (x3 : FVec Ideal ⟨2, ![M, 96]⟩ φ)
    (h1 : ∀ e, x1 e = entry x (e 0).val (4096 + (e 1).val)) (h2 : ∀ e, x2 e = entry x (e 0).val (7184 + (e 1).val)) (h3 : ∀ e, (x3 e : EReal) = 0)
    (h : Shape.Concatenates [⟨2, ![M, 16]⟩, ⟨2, ![M, 16]⟩, ⟨2, ![M, 96]⟩] ⟨2, ![M, 128]⟩ 1) (e : (⟨2, ![M, 128]⟩ : Shape).Idx) :
    (concatenate ⟨2, ![M, 128]⟩ 1 [⟨⟨2, ![M, 16]⟩, x1⟩, ⟨⟨2, ![M, 16]⟩, x2⟩, ⟨⟨2, ![M, 96]⟩, x3⟩] h e : EReal) = tail (entry x (e 0).val) (e 1).val := by
  have he : (e 1).val < 128 := (e 1).isLt
  unfold tail
  split_ifs with c1 c2
  · refine (concatenate_apply_piece _ [⟨⟨2, ![M, 16]⟩, x1⟩, ⟨⟨2, ![M, 16]⟩, x2⟩, ⟨⟨2, ![M, 96]⟩, x3⟩] h e 0 (by simp) _ x1 rfl rfl 0 rfl (ix2 (e 0) ⟨(e 1).val, c1⟩) ?_ (Nat.zero_add _)).trans (h1 _)
    intro b hb
    match b with
    | ⟨0, _⟩ => rfl
    | ⟨1, _⟩ => exact absurd rfl hb
  · refine (concatenate_apply_piece _ [⟨⟨2, ![M, 16]⟩, x1⟩, ⟨⟨2, ![M, 16]⟩, x2⟩, ⟨⟨2, ![M, 96]⟩, x3⟩] h e 1 (by simp) _ x2 rfl rfl 16 rfl (ix2 (e 0) ⟨(e 1).val - 16, by omega⟩) ?_ ?_).trans (h2 _)
    · intro b hb
      match b with
      | ⟨0, _⟩ => rfl
      | ⟨1, _⟩ => exact absurd rfl hb
    · show 16 + ((e 1).val - 16) = (e 1).val; omega
  · refine (concatenate_apply_piece _ [⟨⟨2, ![M, 16]⟩, x1⟩, ⟨⟨2, ![M, 16]⟩, x2⟩, ⟨⟨2, ![M, 96]⟩, x3⟩] h e 2 (by simp) _ x3 rfl rfl 32 rfl (ix2 (e 0) ⟨(e 1).val - 32, by omega⟩) ?_ ?_).trans (h3 _)
    · intro b hb
      match b with
      | ⟨0, _⟩ => rfl
      | ⟨1, _⟩ => exact absurd rfl hb
    · show 32 + ((e 1).val - 32) = (e 1).val; omega

/-- An entry of a block of such a cut, in blocks of `b` rows and `d` columns. -/
theorem block_at (x : FVec Ideal ⟨2, ![M, N]⟩ φ) {N' o : ℕ} (v : (⟨2, ![M, N']⟩ : Shape).Idx → EReal) (hv : ∀ e, v e = entry x (e 0).val (o + (e 1).val))
    {w : Fin 2 → ℕ} {s q b d o' : ℕ} (hw : w = ![s, q]) (e : (⟨2, ![M, N']⟩ : Shape).Idx) (r k : ℕ) (hr : (e 0).val = w 0 * b + 1 * r)
    (hc : (e 1).val = w 1 * d + 1 * k) (ho : o + q * d = o') : v e = entry x (b * s + r) (o' + k) := by
  subst hw ho
  rw [hv, hr, hc, Nat.one_mul, Nat.one_mul, Nat.add_assoc]
  exact congrArg (fun n => entry x (n + r) (o + (q * d + k))) (Nat.mul_comm s b)

end Cuts

variable (m : (ℓ : Loc nD τ sig) → Buf (Elt Ideal) ℓ)

/-- The two arguments. -/
abbrev a0 (c : Dev nD) : FVec Ideal S8192x7200 .f32 := m ((c : Thread nD τ).loc main_arg0)
abbrev a1 (c : Dev nD) : FVec Ideal S1024x7200 .f32 := m ((c : Thread nD τ).loc main_arg1)

/-- The gradient's parts. -/
theorem cuts0 (c : Dev nD) :
    (∀ e : S8192x2048.Idx, V m c main_v13 e = entry (a0 m c) (e 0).val (0 + (e 1).val)) ∧
    (∀ e : S8192x2048.Idx, V m c main_v14 e = entry (a0 m c) (e 0).val (2048 + (e 1).val)) ∧
    (∀ e : S8192x1024.Idx, V m c main_v15 e = entry (a0 m c) (e 0).val (4112 + (e 1).val)) ∧
    (∀ e : S8192x1024.Idx, V m c main_v16 e = entry (a0 m c) (e 0).val (5136 + (e 1).val)) ∧
    (∀ e : S8192x1024.Idx, V m c main_v17 e = entry (a0 m c) (e 0).val (6160 + (e 1).val)) := by
  refine ⟨fun e => Eq.trans ?_ (cut (a0 m c) slices_S8192x7200_S8192x2048_0_0 e), fun e => Eq.trans ?_ (cut (a0 m c) slices_S8192x7200_S8192x2048_0_2048 e),
    fun e => Eq.trans ?_ (cut (a0 m c) slices_S8192x7200_S8192x1024_0_4112 e), fun e => Eq.trans ?_ (cut (a0 m c) slices_S8192x7200_S8192x1024_0_5136 e),
    fun e => Eq.trans ?_ (cut (a0 m c) slices_S8192x7200_S8192x1024_0_6160 e)⟩ <;> after_reads_simp <;> rfl

/-- The weight's parts. -/
theorem cuts1 (c : Dev nD) :
    (∀ e : S1024x2048.Idx, V m c main_v2 e = entry (a1 m c) (e 0).val (0 + (e 1).val)) ∧
    (∀ e : S1024x2048.Idx, V m c main_v3 e = entry (a1 m c) (e 0).val (2048 + (e 1).val)) ∧
    (∀ e : S1024x3072.Idx, V m c main_v4 e = entry (a1 m c) (e 0).val (4112 + (e 1).val)) := by
  refine ⟨fun e => Eq.trans ?_ (cut (a1 m c) slices_S1024x7200_S1024x2048_0_0 e), fun e => Eq.trans ?_ (cut (a1 m c) slices_S1024x7200_S1024x2048_0_2048 e),
    fun e => Eq.trans ?_ (cut (a1 m c) slices_S1024x7200_S1024x3072_0_4112 e)⟩ <;> after_reads_simp <;> rfl

/-- The gradient's last part, -/
theorem last0 (c : Dev nD) (e : S8192x128.Idx) : V m c main_v11 e = tail (entry (a0 m c) (e 0).val) (e 1).val := by
  after_reads_simp
  exact joined (a0 m c) _ _ _ (fun e => cut (a0 m c) slices_S8192x7200_S8192x16_0_4096 e) (fun e => cut (a0 m c) slices_S8192x7200_S8192x16_0_7184 e)
    (fun e => show (broadcastInDim S8192x96 ![] bcast_S_S8192x96 (constant (F := Ideal) S_ .f32 0x00000000#32) e : EReal) = 0 by pointwise []) concatenates_S8192x16_S8192x16_S8192x96_S8192x128_d1 e

/-- and the weight's. -/
theorem last1 (c : Dev nD) (e : S1024x128.Idx) : V m c main_v7 e = tail (entry (a1 m c) (e 0).val) (e 1).val := by
  after_reads_simp
  exact joined (a1 m c) _ _ _ (fun e => cut (a1 m c) slices_S1024x7200_S1024x16_0_4096 e) (fun e => cut (a1 m c) slices_S1024x7200_S1024x16_0_7184 e)
    (fun e => show (broadcastInDim S1024x96 ![] bcast_S_S1024x96 (constant (F := Ideal) S_ .bf16 0x0000#16) e : EReal) = 0 by pointwise []) concatenates_S1024x16_S1024x16_S1024x96_S1024x128_d1 e

/-- The blocks a point reads: the gradient's follow the output's row tile, the weight's its column tile. -/
def moved (n : ℕ) (w : Fin 13 → Fin 2 → ℕ) : Prop :=
  (w 0 = ![n % 16, 0] ∧ w 2 = ![n % 16, 0] ∧ w 4 = ![n % 16, 0] ∧ w 6 = ![n % 16, 0] ∧ w 8 = ![n % 16, 0] ∧ w 10 = ![n % 16, 0])
    ∧ (w 1 = ![n / 16, 0] ∧ w 3 = ![n / 16, 0] ∧ w 5 = ![n / 16, 0] ∧ w 7 = ![n / 16, 1] ∧ w 9 = ![n / 16, 2] ∧ w 11 = ![n / 16, 0])
    ∧ w 12 = ![n % 16, n / 16]

instance (n : ℕ) (w : Fin 13 → Fin 2 → ℕ) : Decidable (moved n w) := by unfold moved; infer_instance

theorem moves : ∀ t : Fin cfg0.N, moved t.val fun w => match w with
    | 0 => win0_0.index t | 1 => win0_1.index t | 2 => win0_2.index t | 3 => win0_3.index t | 4 => win0_4.index t | 5 => win0_5.index t | 6 => win0_6.index t
    | 7 => win0_7.index t | 8 => win0_8.index t | 9 => win0_9.index t | 10 => win0_10.index t | 11 => win0_11.index t | 12 => win0_12.index t :=
  (by decide +kernel : ∀ t : Fin grid0.N, moved t.val fun w => match w with
    | 0 => win0_0.index t | 1 => win0_1.index t | 2 => win0_2.index t | 3 => win0_3.index t | 4 => win0_4.index t | 5 => win0_5.index t | 6 => win0_6.index t
    | 7 => win0_7.index t | 8 => win0_8.index t | 9 => win0_9.index t | 10 => win0_10.index t | 11 => win0_11.index t | 12 => win0_12.index t)

/-- The term of column `n` of an output entry's sum, the entry at row `p` and column `q` of a point's tile. -/
abbrev term (c : Dev nD) (t : Fin cfg0.N) (p q : Fin 512) (n : ℕ) : EReal :=
  entry (a0 m c) (512 * (t.val % 16) + p.val) n * entry (a1 m c) (512 * (t.val / 16) + q.val) n

theorem pair0 (c : Dev nD) (t : Fin cfg0.N) (p q : Fin 512) :
    dot (φ := .bf16) (ψ := .bf16) (iblk m c 0 t) (iblk m c 1 t) p q = ∑ k : Fin 2048, term m c t p q (0 + k.val) :=
  Finset.sum_congr rfl fun k _ => congrArg₂ _
    (block_at (a0 m c) (V m c main_v13) (cuts0 m c).1 (moves t).1.1 (((cfg0.win 0).blk t).view.emb (ix2 p k)) p.val k.val rfl rfl rfl)
    (block_at (a1 m c) (V m c main_v2) (cuts1 m c).1 (moves t).2.1.1 (((cfg0.win 1).blk t).view.emb (ix2 q k)) q.val k.val rfl rfl rfl)

theorem pair1 (c : Dev nD) (t : Fin cfg0.N) (p q : Fin 512) :
    dot (φ := .bf16) (ψ := .bf16) (iblk m c 2 t) (iblk m c 3 t) p q = ∑ k : Fin 2048, term m c t p q (2048 + k.val) :=
  Finset.sum_congr rfl fun k _ => congrArg₂ _
    (block_at (a0 m c) (V m c main_v14) (cuts0 m c).2.1 (moves t).1.2.1 (((cfg0.win 2).blk t).view.emb (ix2 p k)) p.val k.val rfl rfl rfl)
    (block_at (a1 m c) (V m c main_v3) (cuts1 m c).2.1 (moves t).2.1.2.1 (((cfg0.win 3).blk t).view.emb (ix2 q k)) q.val k.val rfl rfl rfl)

theorem pair2 (c : Dev nD) (t : Fin cfg0.N) (p q : Fin 512) :
    dot (φ := .bf16) (ψ := .bf16) (iblk m c 4 t) (iblk m c 5 t) p q = ∑ k : Fin 1024, term m c t p q (4112 + k.val) :=
  Finset.sum_congr rfl fun k _ => congrArg₂ _
    (block_at (a0 m c) (V m c main_v15) (cuts0 m c).2.2.1 (moves t).1.2.2.1 (((cfg0.win 4).blk t).view.emb (ix2 p k)) p.val k.val rfl rfl rfl)
    (block_at (a1 m c) (V m c main_v4) (cuts1 m c).2.2 (moves t).2.1.2.2.1 (((cfg0.win 5).blk t).view.emb (ix2 q k)) q.val k.val rfl rfl rfl)

theorem pair3 (c : Dev nD) (t : Fin cfg0.N) (p q : Fin 512) :
    dot (φ := .bf16) (ψ := .bf16) (iblk m c 6 t) (iblk m c 7 t) p q = ∑ k : Fin 1024, term m c t p q (5136 + k.val) :=
  Finset.sum_congr rfl fun k _ => congrArg₂ _
    (block_at (a0 m c) (V m c main_v16) (cuts0 m c).2.2.2.1 (moves t).1.2.2.2.1 (((cfg0.win 6).blk t).view.emb (ix2 p k)) p.val k.val rfl rfl rfl)
    (block_at (a1 m c) (V m c main_v4) (cuts1 m c).2.2 (moves t).2.1.2.2.2.1 (((cfg0.win 7).blk t).view.emb (ix2 q k)) q.val k.val rfl rfl rfl)

theorem pair4 (c : Dev nD) (t : Fin cfg0.N) (p q : Fin 512) :
    dot (φ := .bf16) (ψ := .bf16) (iblk m c 8 t) (iblk m c 9 t) p q = ∑ k : Fin 1024, term m c t p q (6160 + k.val) :=
  Finset.sum_congr rfl fun k _ => congrArg₂ _
    (block_at (a0 m c) (V m c main_v17) (cuts0 m c).2.2.2.2 (moves t).1.2.2.2.2.1 (((cfg0.win 8).blk t).view.emb (ix2 p k)) p.val k.val rfl rfl rfl)
    (block_at (a1 m c) (V m c main_v4) (cuts1 m c).2.2 (moves t).2.1.2.2.2.2.1 (((cfg0.win 9).blk t).view.emb (ix2 q k)) q.val k.val rfl rfl rfl)

theorem pair5 (c : Dev nD) (t : Fin cfg0.N) (p q : Fin 512) :
    dot (φ := .f32) (ψ := .bf16) (iblk m c 10 t) (iblk m c 11 t) p q = ∑ k : Fin 128, tail (term m c t p q) k.val := by
  have e0 : ∀ k : Fin 128, iblk m c 10 t (ix2 p k) = tail (entry (a0 m c) (512 * (t.val % 16) + p.val)) (128 * 0 + k.val) := fun k =>
    (last0 m c (((cfg0.win 10).blk t).view.emb (ix2 p k))).trans
      (at_block (fun r n => tail (entry (a0 m c) r) n) (moves t).1.2.2.2.2.2 (((cfg0.win 10).blk t).view.emb (ix2 p k)) _ _ rfl rfl)
  have e1 : ∀ k : Fin 128, iblk m c 11 t (ix2 q k) = tail (entry (a1 m c) (512 * (t.val / 16) + q.val)) (128 * 0 + k.val) := fun k =>
    (last1 m c (((cfg0.win 11).blk t).view.emb (ix2 q k))).trans
      (at_block (fun r n => tail (entry (a1 m c) r) n) (moves t).2.1.2.2.2.2.2 (((cfg0.win 11).blk t).view.emb (ix2 q k)) _ _ rfl rfl)
  refine Finset.sum_congr rfl fun k _ => ((congrArg₂ _ (e0 k) (e1 k)).trans (tail_mul _ _ _)).trans ?_
  rw [Nat.mul_zero, Nat.zero_add]

/-- The input gradient as one function of the two arguments. -/
def grad (x0 : FVec Ideal S8192x7200 .f32) (x1 : FVec Ideal S1024x7200 .f32) : FVec Ideal S8192x1024 .f32 := fun i =>
  rows x0 x1 (i 0).val (i 1).val

/-- What a point writes back is its tile of the gradient. -/
theorem tile (c : Dev nD) (t : Fin cfg0.N) :
    (dats m 0 c).flushed 12 t = ((cfg0.win 12).blk t).view.read (Elt Ideal) (grad (a0 m c) (a1 m c)) := by
  rw [Value.flushed12]
  funext y
  show out0_12 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) ((cfg0.win 12).xinj (grid0.coords t) y)
    = grad (a0 m c) (a1 m c) (((cfg0.win 12).blk t).view.emb y)
  refine (tile_at (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) ((cfg0.win 12).xinj (grid0.coords t) y)).trans ?_
  have all : ∀ p q : Fin 512, _ = ∑ k : Fin 7200, term m c t p q k.val := fun p q =>
    (congrArg₂ (· + ·) (congrArg₂ (· + ·) (congrArg₂ (· + ·) (congrArg₂ (· + ·) (congrArg₂ (· + ·) (pair0 m c t p q) (pair1 m c t p q))
      (pair2 m c t p q)) (pair3 m c t p q)) (pair4 m c t p q)) (pair5 m c t p q)).trans (parts (term m c t p q))
  exact (all _ _).trans (at_block (rows (a0 m c) (a1 m c)) (moves t).2.2 (((cfg0.win 12).blk t).view.emb y) _ _ rfl rfl).symm

/-- The tiles make up the whole output. -/
theorem covered (i : S8192x1024.Idx) : ∃ t : Fin cfg0.N, (cfg0.win 12).flush t = true ∧ i ∈ ((cfg0.win 12).blk t).view.set := by
  have h0 : (i 0).val < 8192 := (i 0).isLt
  have h1 : (i 1).val < 1024 := (i 1).isLt
  have ht : 16 * ((i 1).val / 512) + (i 0).val / 512 < cfg0.N := by
    rw [show cfg0.N = 32 from N_0]; omega
  refine ⟨⟨_, ht⟩, (by decide +kernel : ∀ t : Fin grid0.N, win0_12.flush t = true) ⟨_, ht⟩, ?_⟩
  show i ∈ ((View.whole main_v18).slice (win0_12.rect ⟨_, ht⟩)).set
  rw [View.set_slice_whole, Rect.mem_set_unit]
  have q := (moves ⟨_, ht⟩).2.2
  intro a
  match a with
  | ⟨0, _⟩ =>
    show win0_12.index ⟨_, ht⟩ (0 : Fin 2) * 512 ≤ (i 0).val ∧ (i 0).val < win0_12.index ⟨_, ht⟩ (0 : Fin 2) * 512 + 512
    rw [show win0_12.index ⟨_, ht⟩ (0 : Fin 2) = (16 * ((i 1).val / 512) + (i 0).val / 512) % 16 from congrFun q 0]; omega
  | ⟨1, _⟩ =>
    show win0_12.index ⟨_, ht⟩ (1 : Fin 2) * 512 ≤ (i 1).val ∧ (i 1).val < win0_12.index ⟨_, ht⟩ (1 : Fin 2) * 512 + 512
    rw [show win0_12.index ⟨_, ht⟩ (1 : Fin 2) = (16 * ((i 1).val / 512) + (i 0).val / 512) / 16 from congrFun q 1]; omega

/-- The kernel and the reference end with the same gradient. -/
theorem same : Cert.algebraic_Kernel4Ideal_Reference4Ideal (hKernel4Ideal := facts) (hReference4Ideal := Cert.Reference4Ideal.Gen.facts) := by
  intro m g m' g' _ same
  refine ⟨fun c => grad (a0 m c) (a1 m c),
    (θ_run _ _ _).mono (fun r h c => ⟨(h c).1.trans ((dats m 0 c).arrAt_eq_of_cover 12 _ (fun t _ => tile m c t) covered), (h c).2⟩)
      (Value.run_blocks m g),
    (θ_run _ _ _).mono (fun r h c => ⟨(h c).1.trans ?_, (h c).2⟩) (Cert.Reference4Ideal.Value.run m' g')⟩
  obtain ⟨s0, s1⟩ := same c
  rw [s0, s1]
  funext i
  refine Eq.trans ?_ (rows_eq (a0 m c) (a1 m c) (i 0) (i 1)).symm
  pointwise []

end Cert.Kernel4Ideal.Val

end
-- ==== Proof.Dw.lean ====
/- The weight gradients of the remaining projections. In each call sixteen steps add, for a tile of 1024 rows and 1024
   columns, the products of sixteen blocks of 512 rows; together they are the product over all 8192 rows. -/
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Products

@[expose] public section

set_option maxRecDepth 16384

noncomputable section

namespace Cert.Dw

open Cert.Kernel5Ideal Cert.Kernel5Ideal.Gen Idealize.ShloMosaic Cert.Products

/-- One step adds, at every entry of the tile, the product of the two blocks' columns. -/
theorem step_at (x0 x1 : FVec Ideal S512x1024 .bf16) (y : FVec Ideal S1024x1024 .f32) (i : S1024x1024.Idx) :
    k0_pay2 (F := Ideal) x0 x1 y i = (y i : EReal) + ∑ k : Fin 512, (x0 (ix2 k (i 0)) : EReal) * x1 (ix2 k (i 1)) := by
  pointwise [k0_pay2]

theorem zero_at (i : S1024x1024.Idx) : (k0_pay1 (F := Ideal) i : EReal) = 0 := by
  pointwise [k0_pay1]

/-- Such a step of two blocks of the arguments adds that part of their product. -/
theorem adds {M N : ℕ} (x : FVec Ideal ⟨2, ![8192, M]⟩ .f32) (y : FVec Ideal ⟨2, ![8192, N]⟩ .f32) (x0 x1 : FVec Ideal S512x1024 .bf16)
    (s p q : ℕ) (h0 : ∀ k a, x0 (ix2 k a) = entry x (512 * s + k.val) (p + a.val)) (h1 : ∀ k a, x1 (ix2 k a) = entry y (512 * s + k.val) (q + a.val))
    (acc : FVec Ideal S1024x1024 .f32) (i : S1024x1024.Idx) :
    k0_pay2 (F := Ideal) x0 x1 acc i = (acc i : EReal) + part x y s (p + (i 0).val) (q + (i 1).val) :=
  (step_at x0 x1 acc i).trans
    (congrArg (fun s : EReal => (acc i : EReal) + s) (Finset.sum_congr rfl fun k _ => congrArg₂ _ (h0 k (i 0)) (h1 k (i 1))))

end Cert.Dw

namespace Cert.Kernel5Ideal.Val

open Cert.Kernel5Ideal Cert.Kernel5Ideal.Gen Idealize.ShloMosaic Idealize.ShloMosaic.TcCoe Idealize.SL.Sem Cert.Products

variable (m : (ℓ : Loc nD τ sig) → Buf (Elt Ideal) ℓ)

abbrev a0 (c : Dev nD) : FVec Ideal S8192x1024 .f32 := m ((c : Thread nD τ).loc main_arg0)
abbrev a1 (c : Dev nD) : FVec Ideal S8192x2048 .f32 := m ((c : Thread nD τ).loc main_arg1)

theorem entry0 (c : Dev nD) : V m c main_v0 = a0 m c := by after_reads_simp; rfl
theorem entry1 (c : Dev nD) : V m c main_v1 = a1 m c := by after_reads_simp; rfl

theorem moves : ∀ t : Fin cfg0.N, win0_0.index t = ![t.val % 16, 0] ∧ win0_1.index t = ![t.val % 16, t.val / 16] :=
  (by decide +kernel : ∀ t : Fin grid0.N, win0_0.index t = ![t.val % 16, 0] ∧ win0_1.index t = ![t.val % 16, t.val / 16])

theorem block0 (c : Dev nD) (t : Fin cfg0.N) (k : Fin 512) (a : Fin 1024) :
    iblk m c 0 t (ix2 k a) = entry (a0 m c) (512 * (t.val % 16) + k.val) (1024 * 0 + a.val) :=
  (congrFun (entry0 m c) _).trans (entry_at (a0 m c) (moves t).1 (((cfg0.win 0).blk t).view.emb (ix2 k a)) _ _ rfl rfl)

theorem block1 (c : Dev nD) (t : Fin cfg0.N) (k : Fin 512) (a : Fin 1024) :
    iblk m c 1 t (ix2 k a) = entry (a1 m c) (512 * (t.val % 16) + k.val) (1024 * (t.val / 16) + a.val) :=
  (congrFun (entry1 m c) _).trans (entry_at (a1 m c) (moves t).2 (((cfg0.win 1).blk t).view.emb (ix2 k a)) _ _ rfl rfl)

theorem adds (c : Dev nD) (n : ℕ) (h : n < cfg0.N) (acc : FVec Ideal S1024x1024 .f32) (j : S1024x1024.Idx) :
    Value.step2 m c n h acc j = (acc j : EReal) + part (a0 m c) (a1 m c) (n % 16) (1024 * 0 + (j 0).val) (1024 * (n / 16) + (j 1).val) :=
  Cert.Dw.adds (a0 m c) (a1 m c) (iblk m c 0 ⟨n, h⟩) (iblk m c 1 ⟨n, h⟩) (n % 16) (1024 * 0) (1024 * (n / 16)) (block0 m c ⟨n, h⟩) (block1 m c ⟨n, h⟩) acc j

theorem total (c : Dev nD) (i : S1024x2048.Idx) : (Value.G2 m c i : EReal) = cols (a0 m c) (a1 m c) (i 0).val (i 1).val := by
  have h0 : (i 0).val < 1024 := (i 0).isLt
  have h1 : (i 1).val < 2048 := (i 1).isLt
  have hr : Value.run2Of i = (i 1).val / 1024 := by
    show 2 * ((i 0).val / 1024 - 0) + 1 * ((i 1).val / 1024 - 0) = _
    omega
  have hN : 16 * Value.run2Of i + 15 < cfg0.N := by
    rw [hr, show cfg0.N = 32 from N_0]; omega
  unfold Value.G2
  rw [dif_pos hN]
  refine (fold_cols (a0 m c) (a1 m c) (Value.reset2 m c) (Value.step2 m c) (fun _ j => 1024 * 0 + (j 0).val) (fun r j => 1024 * r + (j 1).val)
    _ Cert.Dw.zero_at (fun n h j => rfl) (adds m c) _ hN (Value.loc2Of i)).trans ?_
  show cols _ _ (1024 * 0 + (i 0).val % 1024) (1024 * Value.run2Of i + (i 1).val % 1024) = _
  rw [hr, show 1024 * 0 + (i 0).val % 1024 = (i 0).val by omega, show 1024 * ((i 1).val / 1024) + (i 1).val % 1024 = (i 1).val by omega]

theorem plain (x : FVec Ideal S8192x1024 .f32) (y : FVec Ideal S8192x2048 .f32) (i : S1024x2048.Idx) :
    (transpose Cert.Reference5Ideal.S1024x2048 [1, 0] (Host.dotGeneral (F := Ideal) Cert.Reference5Ideal.dot_S8192x2048_S8192x1024_S2048x1024_0_0_1_1_n_n none y x)
      Cert.Reference5Ideal.Gen.facts.transposes_S2048x1024_S1024x2048_1_0 i : EReal) = cols x y (i 0).val (i 1).val := by
  refine Eq.trans (b := ∑ k : Fin 8192, (y (ix2 k (i 1)) : EReal) * x (ix2 k (i 0))) ?_ ?_
  · pointwise []
  · exact Finset.sum_congr rfl fun k _ => (mul_comm _ _).trans (congrArg₂ _ (entry_eq x k (i 0)).symm (entry_eq y k (i 1)).symm)

/-- The kernel and the reference end with the same gradient. -/
theorem same : Cert.algebraic_Kernel5Ideal_Reference5Ideal (hKernel5Ideal := facts) (hReference5Ideal := Cert.Reference5Ideal.Gen.facts) := by
  intro m g m' g' _ same
  refine ⟨fun c => Value.G2 m c, Value.run m g,
    (θ_run _ _ _).mono (fun r h c => ⟨(h c).1.trans ?_, (h c).2⟩) (Cert.Reference5Ideal.Value.run m' g')⟩
  obtain ⟨s0, s1⟩ := same c
  rw [s0, s1]
  funext i
  exact (plain _ _ i).trans (total m c i).symm

end Cert.Kernel5Ideal.Val

namespace Cert.Kernel6Ideal.Val

open Cert.Kernel6Ideal Cert.Kernel6Ideal.Gen Idealize.ShloMosaic Idealize.ShloMosaic.TcCoe Idealize.SL.Sem Cert.Products

variable (m : (ℓ : Loc nD τ sig) → Buf (Elt Ideal) ℓ)

abbrev a0 (c : Dev nD) : FVec Ideal S8192x1024 .f32 := m ((c : Thread nD τ).loc main_arg0)
abbrev a1 (c : Dev nD) : FVec Ideal S8192x1024 .f32 := m ((c : Thread nD τ).loc main_arg1)

theorem entry0 (c : Dev nD) : V m c main_v0 = a0 m c := by after_reads_simp; rfl
theorem entry1 (c : Dev nD) : V m c main_v1 = a1 m c := by after_reads_simp; rfl

theorem moves : ∀ t : Fin cfg0.N, win0_0.index t = ![t.val % 16, 0] ∧ win0_1.index t = ![t.val % 16, t.val / 16] :=
  (by decide +kernel : ∀ t : Fin grid0.N, win0_0.index t = ![t.val % 16, 0] ∧ win0_1.index t = ![t.val % 16, t.val / 16])

theorem block0 (c : Dev nD) (t : Fin cfg0.N) (k : Fin 512) (a : Fin 1024) :
    iblk m c 0 t (ix2 k a) = entry (a0 m c) (512 * (t.val % 16) + k.val) (1024 * 0 + a.val) :=
  (congrFun (entry0 m c) _).trans (entry_at (a0 m c) (moves t).1 (((cfg0.win 0).blk t).view.emb (ix2 k a)) _ _ rfl rfl)

theorem block1 (c : Dev nD) (t : Fin cfg0.N) (k : Fin 512) (a : Fin 1024) :
    iblk m c 1 t (ix2 k a) = entry (a1 m c) (512 * (t.val % 16) + k.val) (1024 * (t.val / 16) + a.val) :=
  (congrFun (entry1 m c) _).trans (entry_at (a1 m c) (moves t).2 (((cfg0.win 1).blk t).view.emb (ix2 k a)) _ _ rfl rfl)

theorem adds (c : Dev nD) (n : ℕ) (h : n < cfg0.N) (acc : FVec Ideal S1024x1024 .f32) (j : S1024x1024.Idx) :
    Value.step2 m c n h acc j = (acc j : EReal) + part (a0 m c) (a1 m c) (n % 16) (1024 * 0 + (j 0).val) (1024 * (n / 16) + (j 1).val) :=
  Cert.Dw.adds (a0 m c) (a1 m c) (iblk m c 0 ⟨n, h⟩) (iblk m c 1 ⟨n, h⟩) (n % 16) (1024 * 0) (1024 * (n / 16)) (block0 m c ⟨n, h⟩) (block1 m c ⟨n, h⟩) acc j

theorem total (c : Dev nD) (i : S1024x1024.Idx) : (Value.G2 m c i : EReal) = cols (a0 m c) (a1 m c) (i 0).val (i 1).val := by
  have h0 : (i 0).val < 1024 := (i 0).isLt
  have h1 : (i 1).val < 1024 := (i 1).isLt
  have hr : Value.run2Of i = (i 1).val / 1024 := by
    show 1 * ((i 0).val / 1024 - 0) + 1 * ((i 1).val / 1024 - 0) = _
    omega
  have hN : 16 * Value.run2Of i + 15 < cfg0.N := by
    rw [hr, show cfg0.N = 16 from N_0]; omega
  unfold Value.G2
  rw [dif_pos hN]
  refine (fold_cols (a0 m c) (a1 m c) (Value.reset2 m c) (Value.step2 m c) (fun _ j => 1024 * 0 + (j 0).val) (fun r j => 1024 * r + (j 1).val)
    _ Cert.Dw.zero_at (fun n h j => rfl) (adds m c) _ hN (Value.loc2Of i)).trans ?_
  show cols _ _ (1024 * 0 + (i 0).val % 1024) (1024 * Value.run2Of i + (i 1).val % 1024) = _
  rw [hr, show 1024 * 0 + (i 0).val % 1024 = (i 0).val by omega, show 1024 * ((i 1).val / 1024) + (i 1).val % 1024 = (i 1).val by omega]

theorem plain (x : FVec Ideal S8192x1024 .f32) (y : FVec Ideal S8192x1024 .f32) (i : S1024x1024.Idx) :
    (transpose Cert.Reference6Ideal.S1024x1024 [1, 0] (Host.dotGeneral (F := Ideal) Cert.Reference6Ideal.dot_S8192x1024_S8192x1024_S1024x1024_0_0_1_1_n_n none y x)
      Cert.Reference6Ideal.Gen.facts.transposes_S1024x1024_S1024x1024_1_0 i : EReal) = cols x y (i 0).val (i 1).val := by
  refine Eq.trans (b := ∑ k : Fin 8192, (y (ix2 k (i 1)) : EReal) * x (ix2 k (i 0))) ?_ ?_
  · pointwise []
  · exact Finset.sum_congr rfl fun k _ => (mul_comm _ _).trans (congrArg₂ _ (entry_eq x k (i 0)).symm (entry_eq y k (i 1)).symm)

/-- The kernel and the reference end with the same gradient. -/
theorem same : Cert.algebraic_Kernel6Ideal_Reference6Ideal (hKernel6Ideal := facts) (hReference6Ideal := Cert.Reference6Ideal.Gen.facts) := by
  intro m g m' g' _ same
  refine ⟨fun c => Value.G2 m c, Value.run m g,
    (θ_run _ _ _).mono (fun r h c => ⟨(h c).1.trans ?_, (h c).2⟩) (Cert.Reference6Ideal.Value.run m' g')⟩
  obtain ⟨s0, s1⟩ := same c
  rw [s0, s1]
  funext i
  exact (plain _ _ i).trans (total m c i).symm

end Cert.Kernel6Ideal.Val

namespace Cert.Kernel7Ideal.Val

open Cert.Kernel7Ideal Cert.Kernel7Ideal.Gen Idealize.ShloMosaic Idealize.ShloMosaic.TcCoe Idealize.SL.Sem Cert.Products

variable (m : (ℓ : Loc nD τ sig) → Buf (Elt Ideal) ℓ)

abbrev a0 (c : Dev nD) : FVec Ideal S8192x2048 .f32 := m ((c : Thread nD τ).loc main_arg0)
abbrev a1 (c : Dev nD) : FVec Ideal S8192x1024 .f32 := m ((c : Thread nD τ).loc main_arg1)

theorem entry0 (c : Dev nD) : V m c main_v0 = a0 m c := by after_reads_simp; rfl
theorem entry1 (c : Dev nD) : V m c main_v1 = a1 m c := by after_reads_simp; rfl

theorem moves : ∀ t : Fin cfg0.N, win0_0.index t = ![t.val % 16, t.val / 16] ∧ win0_1.index t = ![t.val % 16, 0] :=
  (by decide +kernel : ∀ t : Fin grid0.N, win0_0.index t = ![t.val % 16, t.val / 16] ∧ win0_1.index t = ![t.val % 16, 0])

theorem block0 (c : Dev nD) (t : Fin cfg0.N) (k : Fin 512) (a : Fin 1024) :
    iblk m c 0 t (ix2 k a) = entry (a0 m c) (512 * (t.val % 16) + k.val) (1024 * (t.val / 16) + a.val) :=
  (congrFun (entry0 m c) _).trans (entry_at (a0 m c) (moves t).1 (((cfg0.win 0).blk t).view.emb (ix2 k a)) _ _ rfl rfl)

theorem block1 (c : Dev nD) (t : Fin cfg0.N) (k : Fin 512) (a : Fin 1024) :
    iblk m c 1 t (ix2 k a) = entry (a1 m c) (512 * (t.val % 16) + k.val) (1024 * 0 + a.val) :=
  (congrFun (entry1 m c) _).trans (entry_at (a1 m c) (moves t).2 (((cfg0.win 1).blk t).view.emb (ix2 k a)) _ _ rfl rfl)

theorem adds (c : Dev nD) (n : ℕ) (h : n < cfg0.N) (acc : FVec Ideal S1024x1024 .f32) (j : S1024x1024.Idx) :
    Value.step2 m c n h acc j = (acc j : EReal) + part (a0 m c) (a1 m c) (n % 16) (1024 * (n / 16) + (j 0).val) (1024 * 0 + (j 1).val) :=
  Cert.Dw.adds (a0 m c) (a1 m c) (iblk m c 0 ⟨n, h⟩) (iblk m c 1 ⟨n, h⟩) (n % 16) (1024 * (n / 16)) (1024 * 0) (block0 m c ⟨n, h⟩) (block1 m c ⟨n, h⟩) acc j

theorem total (c : Dev nD) (i : S2048x1024.Idx) : (Value.G2 m c i : EReal) = cols (a0 m c) (a1 m c) (i 0).val (i 1).val := by
  have h0 : (i 0).val < 2048 := (i 0).isLt
  have h1 : (i 1).val < 1024 := (i 1).isLt
  have hr : Value.run2Of i = (i 0).val / 1024 := by
    show 1 * ((i 0).val / 1024 - 0) + 1 * ((i 1).val / 1024 - 0) = _
    omega
  have hN : 16 * Value.run2Of i + 15 < cfg0.N := by
    rw [hr, show cfg0.N = 32 from N_0]; omega
  unfold Value.G2
  rw [dif_pos hN]
  refine (fold_cols (a0 m c) (a1 m c) (Value.reset2 m c) (Value.step2 m c) (fun r j => 1024 * r + (j 0).val) (fun _ j => 1024 * 0 + (j 1).val)
    _ Cert.Dw.zero_at (fun n h j => rfl) (adds m c) _ hN (Value.loc2Of i)).trans ?_
  show cols _ _ (1024 * Value.run2Of i + (i 0).val % 1024) (1024 * 0 + (i 1).val % 1024) = _
  rw [hr, show 1024 * ((i 0).val / 1024) + (i 0).val % 1024 = (i 0).val by omega, show 1024 * 0 + (i 1).val % 1024 = (i 1).val by omega]

theorem plain (x : FVec Ideal S8192x2048 .f32) (y : FVec Ideal S8192x1024 .f32) (i : S2048x1024.Idx) :
    (transpose Cert.Reference7Ideal.S2048x1024 [1, 0] (Host.dotGeneral (F := Ideal) Cert.Reference7Ideal.dot_S8192x1024_S8192x2048_S1024x2048_0_0_1_1_n_n none y x)
      Cert.Reference7Ideal.Gen.facts.transposes_S1024x2048_S2048x1024_1_0 i : EReal) = cols x y (i 0).val (i 1).val := by
  refine Eq.trans (b := ∑ k : Fin 8192, (y (ix2 k (i 1)) : EReal) * x (ix2 k (i 0))) ?_ ?_
  · pointwise []
  · exact Finset.sum_congr rfl fun k _ => (mul_comm _ _).trans (congrArg₂ _ (entry_eq x k (i 0)).symm (entry_eq y k (i 1)).symm)

/-- The kernel and the reference end with the same gradient. -/
theorem same : Cert.algebraic_Kernel7Ideal_Reference7Ideal (hKernel7Ideal := facts) (hReference7Ideal := Cert.Reference7Ideal.Gen.facts) := by
  intro m g m' g' _ same
  refine ⟨fun c => Value.G2 m c, Value.run m g,
    (θ_run _ _ _).mono (fun r h c => ⟨(h c).1.trans ?_, (h c).2⟩) (Cert.Reference7Ideal.Value.run m' g')⟩
  obtain ⟨s0, s1⟩ := same c
  rw [s0, s1]
  funext i
  exact (plain _ _ i).trans (total m c i).symm

end Cert.Kernel7Ideal.Val

end
-- ==== Proof.Dh3.lean ====
/- The input gradient of the output projections: every entry the kernel leaves is the sum over the projection's 1024
   columns of the output gradient's entry times the weight's entry. -/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Products

@[expose] public section

set_option maxRecDepth 16384

noncomputable section

namespace Cert.Kernel8Ideal.Val

open Cert.Kernel8Ideal Cert.Kernel8Ideal.Gen Idealize.ShloMosaic Idealize.ShloMosaic.TcCoe Idealize.SL.Sem Cert.Products

/-- A tile's entry: the product of a row of the first block with a row of the second. -/
theorem tile_at (x0 x1 : FVec Ideal S512x1024 .bf16) (j : S512x512.Idx) :
    out0_2 (F := Ideal) x0 x1 j = ∑ k : Fin 1024, (x0 (ix2 (j 0) k) : EReal) * x1 (ix2 (j 1) k) := by
  have hz : (![0, 0] : Fin 2 → Nat) = fun _ => 0 := funext fun a => by fin_cases a <;> rfl
  unfold out0_2
  rw [View.canon_unit_zero hz]
  simp only [View.ld_unit_zero (S := S512x1024) hz]
  pointwise [k0_pay1]

variable (m : (ℓ : Loc nD τ sig) → Buf (Elt Ideal) ℓ)

/-- The two arguments. -/
abbrev a0 (c : Dev nD) : FVec Ideal S8192x1024 .f32 := m ((c : Thread nD τ).loc main_arg0)
abbrev a1 (c : Dev nD) : FVec Ideal S2048x1024 .f32 := m ((c : Thread nD τ).loc main_arg1)

/-- The input gradient as one function of the two arguments. -/
def grad (x0 : FVec Ideal S8192x1024 .f32) (x1 : FVec Ideal S2048x1024 .f32) : FVec Ideal S8192x2048 .bf16 := fun i =>
  rows x0 x1 (i 0).val (i 1).val

theorem entry0 (c : Dev nD) : V m c main_v0 = a0 m c := by after_reads_simp; rfl
theorem entry1 (c : Dev nD) : V m c main_v1 = a1 m c := by after_reads_simp; rfl

/-- The blocks a point reads: the first window follows the output's row tile, the second its column tile. -/
theorem moves : ∀ t : Fin cfg0.N, win0_0.index t = ![t.val % 16, 0] ∧ win0_1.index t = ![t.val / 16, 0] ∧ win0_2.index t = ![t.val % 16, t.val / 16] :=
  (by decide +kernel : ∀ t : Fin grid0.N, win0_0.index t = ![t.val % 16, 0] ∧ win0_1.index t = ![t.val / 16, 0] ∧ win0_2.index t = ![t.val % 16, t.val / 16])

theorem block0 (c : Dev nD) (t : Fin cfg0.N) (a : Fin 512) (k : Fin 1024) :
    iblk m c 0 t (ix2 a k) = entry (a0 m c) (512 * (t.val % 16) + a.val) (1024 * 0 + k.val) :=
  (congrFun (entry0 m c) _).trans (entry_at (a0 m c) (moves t).1 (((cfg0.win 0).blk t).view.emb (ix2 a k)) _ _ rfl rfl)

theorem block1 (c : Dev nD) (t : Fin cfg0.N) (a : Fin 512) (k : Fin 1024) :
    iblk m c 1 t (ix2 a k) = entry (a1 m c) (512 * (t.val / 16) + a.val) (1024 * 0 + k.val) :=
  (congrFun (entry1 m c) _).trans (entry_at (a1 m c) (moves t).2.1 (((cfg0.win 1).blk t).view.emb (ix2 a k)) _ _ rfl rfl)

/-- What a point writes back is its tile of the gradient. -/
theorem tile (c : Dev nD) (t : Fin cfg0.N) :
    (dats m 0 c).flushed 2 t = ((cfg0.win 2).blk t).view.read (Elt Ideal) (grad (a0 m c) (a1 m c)) := by
  rw [Value.flushed2]
  funext y
  show out0_2 (F := Ideal) (iblk m c 0 t) (iblk m c 1 t) ((cfg0.win 2).xinj (grid0.coords t) y)
    = grad (a0 m c) (a1 m c) (((cfg0.win 2).blk t).view.emb y)
  refine (tile_at (iblk m c 0 t) (iblk m c 1 t) ((cfg0.win 2).xinj (grid0.coords t) y)).trans ?_
  refine Eq.trans (Finset.sum_congr rfl fun k _ => congrArg₂ _ (block0 m c t _ k) (block1 m c t _ k)) ?_
  simp only [Nat.mul_zero, Nat.zero_add]
  exact (at_block (rows (a0 m c) (a1 m c)) (moves t).2.2 (((cfg0.win 2).blk t).view.emb y) _ _ rfl rfl).symm

/-- The tiles make up the whole output. -/
theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have ht : 16 * ((i 1).val / 512) + (i 0).val / 512 < cfg0.N := by
    rw [show cfg0.N = 64 from N_0]; omega
  refine ⟨⟨_, ht⟩, (by decide +kernel : ∀ t : Fin grid0.N, win0_2.flush t = true) ⟨_, ht⟩, ?_⟩
  show i ∈ ((View.whole main_v2).slice (win0_2.rect ⟨_, ht⟩)).set
  rw [View.set_slice_whole, Rect.mem_set_unit]
  have q := (moves ⟨_, ht⟩).2.2
  intro a
  match a with
  | ⟨0, _⟩ =>
    show win0_2.index ⟨_, ht⟩ (0 : Fin 2) * 512 ≤ (i 0).val ∧ (i 0).val < win0_2.index ⟨_, ht⟩ (0 : Fin 2) * 512 + 512
    rw [show win0_2.index ⟨_, ht⟩ (0 : Fin 2) = (16 * ((i 1).val / 512) + (i 0).val / 512) % 16 from congrFun q 0]; omega
  | ⟨1, _⟩ =>
    show win0_2.index ⟨_, ht⟩ (1 : Fin 2) * 512 ≤ (i 1).val ∧ (i 1).val < win0_2.index ⟨_, ht⟩ (1 : Fin 2) * 512 + 512
    rw [show win0_2.index ⟨_, ht⟩ (1 : Fin 2) = (16 * ((i 1).val / 512) + (i 0).val / 512) / 16 from congrFun q 1]; omega

/-- The kernel and the reference end with the same gradient. -/
theorem same : Cert.algebraic_Kernel8Ideal_Reference8Ideal (hKernel8Ideal := facts) (hReference8Ideal := Cert.Reference8Ideal.Gen.facts) := by
  intro m g m' g' _ same
  refine ⟨fun c => grad (a0 m c) (a1 m c),
    (θ_run _ _ _).mono (fun r h c => ⟨(h c).1.trans ((dats m 0 c).arrAt_eq_of_cover 2 _ (fun t _ => tile m c t) covered), (h c).2⟩)
      (Value.run_blocks m g),
    (θ_run _ _ _).mono (fun r h c => ⟨(h c).1.trans ?_, (h c).2⟩) (Cert.Reference8Ideal.Value.run m' g')⟩
  obtain ⟨s0, s1⟩ := same c
  rw [s0, s1]
  funext i
  refine Eq.trans ?_ (rows_eq (a0 m c) (a1 m c) (i 0) (i 1)).symm
  pointwise []

end Cert.Kernel8Ideal.Val

end
-- ==== Proof.Norm.lean ====
/- The backward pass of the normalisation by the root mean square, along one row: a kernel subtracts the normalised row
   times its mean product with the gradient, before scaling; the derivative adds the scaled gradient to the derivative
   of the scale, twice by half of it. They agree for all rows, infinite ones too: such a row has scale zero. -/
module

public import Idealize.ShloMosaic.Lib.ValueIdx
public import Idealize.ShloMosaic.Lib.Pointwise
public import proofs.«01_k».proof.Proof.Spec
public import proofs.«01_k».proof.Proof.Products

@[expose] public section

noncomputable section

namespace Cert.Norm

open Idealize.ShloMosaic

variable {n : ℕ}

/-- The length of a row, the small number added to the mean, and minus a half, as the programs write them. -/
abbrev len : EReal := Ideal.ofBits .f32 0x44800000#32
abbrev eps : EReal := Ideal.ofBits .f32 0x358637BD#32
abbrev half : EReal := Ideal.ofBits .f32 0xBF000000#32

theorem len_eq : len = ((1024 : ℝ) : EReal) := by
  simp [len, Ideal.ofBits, Ideal.ieee, -EReal.coe_mul]; norm_num

theorem half_eq : half = ((-(1 / 2) : ℝ) : EReal) := by
  simp [half, Ideal.ofBits, Ideal.ieee, -EReal.coe_mul, -EReal.coe_neg]; norm_num

theorem eps_pos : ∃ e : ℝ, 0 < e ∧ eps = (e : EReal) := by
  refine ⟨(8796093 : ℝ) * 2 ^ (-43 : ℤ), by positivity, ?_⟩
  simp [eps, Ideal.ofBits, Ideal.ieee, -EReal.coe_mul]

/-- The mean square of a row with the small number added, and the scale. -/
def mean (x : Fin n → EReal) : EReal := Ideal.div (∑ k, x k * x k) len + eps
def scale (x : Fin n → EReal) : EReal := Ideal.rsqrt (mean x)

/-- The row's gradient as a kernel takes it. -/
def back (x g y : Fin n → EReal) (c : Fin n) : EReal :=
  scale x * (y c * g c - x c * scale x * Ideal.div (∑ k, y k * g k * (x k * scale x)) len)

/-- The factor of the derivative of the scale. -/
def slope (x g y : Fin n → EReal) : EReal :=
  Ideal.div ((∑ k, x k * (y k * g k)) * (half * Ideal.div (scale x) (mean x))) len

theorem div_len (a : EReal) : Ideal.div a len = a * ((1 / 1024 : ℝ) : EReal) := by
  rw [len_eq, Ideal.div, if_neg (by exact_mod_cast (by norm_num : (1024 : ℝ) ≠ 0)), ← EReal.coe_inv]
  norm_num

/-- A nonnegative real factor leaves a sum. -/
theorem sum_mul_real {ι : Type*} (s : Finset ι) (f : ι → EReal) {q : ℝ} (hq : 0 ≤ q) : ∑ k ∈ s, f k * (q : EReal) = (∑ k ∈ s, f k) * (q : EReal) := by
  classical
  induction s using Finset.induction_on with
  | empty => simp
  | insert a s ha ih =>
    rw [Finset.sum_insert ha, Finset.sum_insert ha, ih, EReal.right_distrib_of_nonneg_of_ne_top (by exact_mod_cast hq) (EReal.coe_ne_top q)]

theorem add_self (a : EReal) : a + a = ((2 : ℝ) : EReal) * a := by
  have h := EReal.right_distrib_of_nonneg (a := 1) (b := 1) (c := a) zero_le_one zero_le_one
  rw [one_mul] at h
  rw [← h]
  congr 1
  rw [← EReal.coe_one, ← EReal.coe_add]
  norm_num

theorem sq_nonneg' (a : EReal) : 0 ≤ a * a := by
  induction a with
  | bot => simp
  | top => simp
  | coe r => exact_mod_cast mul_self_nonneg r

/-- A row is all finite or its mean square is infinite. -/
theorem cases (x : Fin n → EReal) : mean x = ⊤ ∨ ∃ (f : Fin n → ℝ) (v : ℝ), (∀ k, x k = (f k : EReal)) ∧ 0 < v ∧ mean x = (v : EReal) := by
  obtain ⟨e, he, h⟩ := eps_pos
  by_cases hx : ∀ k, x k ≠ ⊤ ∧ x k ≠ ⊥
  · right
    have hf : ∀ k, x k = ((x k).toReal : EReal) := fun k => (EReal.coe_toReal (hx k).1 (hx k).2).symm
    refine ⟨fun k => (x k).toReal, (∑ k, (x k).toReal * (x k).toReal) * (1 / 1024) + e, hf,
      add_pos_of_nonneg_of_pos (mul_nonneg (Finset.sum_nonneg fun k _ => mul_self_nonneg _) (by norm_num)) he, ?_⟩
    have hs : (∑ k, x k * x k) = ((∑ k, (x k).toReal * (x k).toReal : ℝ) : EReal) := by
      rw [← Cert.Spec.coe_sum]
      exact Finset.sum_congr rfl fun k _ => by rw [EReal.coe_mul, ← hf k]
    rw [mean, div_len, hs, h, ← EReal.coe_mul, ← EReal.coe_add]
  · left
    push Not at hx
    obtain ⟨k, hk⟩ := hx
    have hkk : x k * x k = ⊤ := by
      by_cases ht : x k = ⊤
      · rw [ht]; rfl
      · rw [hk ht]; rfl
    have hs : (∑ k, x k * x k) = ⊤ :=
      top_le_iff.mp (hkk ▸ Finset.single_le_sum (f := fun k => x k * x k) (fun j _ => sq_nonneg' (x j)) (Finset.mem_univ k))
    rw [mean, div_len, hs, h, EReal.top_mul_coe_of_pos (by norm_num), EReal.top_add_coe]

/-- The two gradients agree. -/
theorem back_eq (x g y : Fin n → EReal) (c : Fin n) (d : EReal) :
    d + y c * g c * scale x + x c * slope x g y + slope x g y * x c = d + back x g y c := by
  rcases cases x with ht | ⟨f, v, hf, hv, hm⟩
  · have hs : scale x = 0 := by rw [scale, ht]; rfl
    have hl : slope x g y = 0 := by
      rw [slope, hs, ht, div_len, Ideal.div, if_neg (by simp), zero_mul, mul_zero, mul_zero, zero_mul]
    rw [back, hl, hs, zero_mul, mul_zero, mul_zero, zero_mul, add_zero, add_zero]
  · obtain ⟨s, hs0, hs, hss⟩ : ∃ s : ℝ, 0 ≤ s ∧ scale x = (s : EReal) ∧ s * s = v⁻¹ := by
      refine ⟨(Real.sqrt v)⁻¹, inv_nonneg.mpr (Real.sqrt_nonneg v), ?_, ?_⟩
      · rw [scale, hm]
        show (if v < 0 then (⊥ : EReal) else if v = 0 then ⊤ else ((Real.sqrt v)⁻¹ : ℝ)) = _
        rw [if_neg hv.le.not_gt, if_neg hv.ne']
      · rw [← mul_inv, Real.mul_self_sqrt hv.le]
    have hS : (∑ k, y k * g k * (x k * scale x)) = (∑ k, x k * (y k * g k)) * (s : EReal) := by
      rw [← sum_mul_real _ _ hs0]
      exact Finset.sum_congr rfl fun k _ => by rw [hs, ← mul_assoc, mul_comm (y k * g k) (x k)]
    have hq : slope x g y = (∑ k, x k * (y k * g k)) * ((-(1 / 2) * (s * v⁻¹) * (1 / 1024) : ℝ) : EReal) := by
      rw [slope, hs, hm, half_eq, div_len, Ideal.div, if_neg (by exact_mod_cast hv.ne'), ← EReal.coe_inv, ← EReal.coe_mul, ← EReal.coe_mul,
        mul_assoc, ← EReal.coe_mul]
    rw [back, hS, hq, div_len, hs, hf c]
    generalize (∑ k, x k * (y k * g k)) = S
    generalize y c * g c = a
    have e1 : (f c : EReal) * (s : EReal) * (S * (s : EReal) * ((1 / 1024 : ℝ) : EReal)) = S * ((f c * s * s * (1 / 1024) : ℝ) : EReal) := by
      simp only [EReal.coe_mul]
      ac_rfl
    have e2 : ∀ q : ℝ, d + a * s + f c * (S * (q : EReal)) + S * (q : EReal) * f c = d + (a * s + S * ((2 * (q * f c) : ℝ) : EReal)) := by
      intro q
      rw [mul_comm (f c : EReal), add_assoc, add_self, add_assoc, mul_assoc, ← EReal.coe_mul, mul_left_comm, ← EReal.coe_mul]
    have e3 : (s : EReal) * (S * ((-(f c * s * s * (1 / 1024)) : ℝ) : EReal)) = S * ((s * -(f c * s * s * (1 / 1024)) : ℝ) : EReal) := by
      rw [mul_left_comm, ← EReal.coe_mul]
    rw [e1, e2, sub_eq_add_neg, EReal.left_distrib_of_nonneg_of_ne_top (by exact_mod_cast hs0) (EReal.coe_ne_top s), mul_comm (s : EReal) a,
      ← mul_neg, ← EReal.coe_neg, e3, ← hss]
    congr 4
    ring

/-! ## Rows of arrays -/

open Cert.Products

variable {M : ℕ} {φ ψ : FTy}

/-- Row `r` of an array. -/
def line (x : FVec Ideal ⟨2, ![M, n]⟩ φ) (r : ℕ) : Fin n → EReal := fun k => entry x r k.val

theorem line_eq (x : FVec Ideal ⟨2, ![M, n]⟩ φ) (r : Fin M) : line x r.val = fun k => (x (ix2 r k) : EReal) :=
  funext fun k => entry_eq x r k

theorem line_at (x : FVec Ideal ⟨2, ![M, n]⟩ φ) {w : Fin 2 → ℕ} {s b : ℕ} (hw : w = ![s, 0]) (e : (⟨2, ![M, n]⟩ : Shape).Idx) (r : ℕ) (k : Fin n)
    (hr : (e 0).val = w 0 * b + 1 * r) (hc : (e 1).val = w 1 * n + 1 * k.val) : (x e : EReal) = line x (b * s + r) k :=
  (entry_at x hw e r k.val hr hc).trans (by rw [line, Nat.mul_zero, Nat.zero_add])

/-- The gradient to the normalised array, and what row `r` adds to the gradient of the weight of column `c`. -/
def grad (x g y : ℕ → Fin n → EReal) (r : ℕ) (c : Fin n) : EReal := back (x r) (g 0) (y r) c
def gain (x y : ℕ → Fin n → EReal) (r : ℕ) (c : Fin n) : EReal := y r c * (x r c * scale (x r))

/-- A block of `q` whole rows: entry `r`, `c` of block `s` lies in row `q * s + r`, column `c`. -/
theorem place {w : Fin 2 → ℕ} {s : ℕ} (hw : w = ![s, 0]) {e r c d b q : ℕ} (hr : e = w 0 * q + 1 * r) (hc : d = w 1 * b + 1 * c) :
    e = q * s + r ∧ d = c := by
  subst hw hr hc
  refine ⟨?_, ?_⟩
  · show s * q + 1 * r = _
    rw [Nat.one_mul, Nat.mul_comm]
  · show 0 * b + 1 * c = _
    omega

theorem in_line {r c : ℕ} {w z i : Fin 2 → ℕ} (hi : i = ![r, c]) (hc : c < 1024) (hw : w = ![r / 512, 0]) (hz : z = ![512, 1024]) :
    ∀ a : Fin 2, w a * z a ≤ i a ∧ i a < w a * z a + z a := by
  subst hw hz hi
  refine Fin.forall_fin_two.mpr ⟨?_, ?_⟩
  · show r / 512 * 512 ≤ r ∧ r < r / 512 * 512 + 512
    omega
  · show 0 * 1024 ≤ c ∧ c < 0 * 1024 + 1024
    omega

theorem in_only {w z i : Fin 2 → ℕ} (h0 : i 0 < 1) (h1 : i 1 < 1024) (hw : w = ![0, 0]) (hz : z = ![1, 1024]) :
    ∀ a : Fin 2, w a * z a ≤ i a ∧ i a < w a * z a + z a := by
  subst hw hz
  refine Fin.forall_fin_two.mpr ⟨?_, ?_⟩
  · show 0 * 1 ≤ i 0 ∧ i 0 < 0 * 1 + 1
    omega
  · show 0 * 1024 ≤ i 1 ∧ i 1 < 0 * 1024 + 1024
    omega

/-- The gradient to the normalised array, the same with the gradient that comes past the norm, and the gradient to the weight. -/
def inner (x y : FVec Ideal ⟨2, ![M, n]⟩ φ) (g : FVec Ideal ⟨2, ![1, n]⟩ φ) : FVec Ideal ⟨2, ![M, n]⟩ ψ := fun i =>
  grad (line x) (line g) (line y) (i 0).val (i 1)
def through (x y d : FVec Ideal ⟨2, ![M, n]⟩ φ) (g : FVec Ideal ⟨2, ![1, n]⟩ φ) : FVec Ideal ⟨2, ![M, n]⟩ φ := fun i =>
  line d (i 0).val (i 1) + grad (line x) (line g) (line y) (i 0).val (i 1)
def weight (x y : FVec Ideal ⟨2, ![M, n]⟩ φ) : FVec Ideal ⟨2, ![1, n]⟩ φ := fun i =>
  ∑ r : Fin M, gain (line x) (line y) r.val (i 1)

section
variable (x y d : FVec Ideal ⟨2, ![M, n]⟩ φ) (g : FVec Ideal ⟨2, ![1, n]⟩ φ)

/-- The gradient at an entry, as the derivative of the norm gives it. -/
theorem through_eq (j : (⟨2, ![M, n]⟩ : Shape).Idx) :
    (d j + y j * g (ix2 0 (j 1)) * scale (fun k => (x (ix2 (j 0) k) : EReal))
        + x j * slope (fun k => (x (ix2 (j 0) k) : EReal)) (fun k => (g (ix2 0 k) : EReal)) (fun k => (y (ix2 (j 0) k) : EReal))
        + slope (fun k => (x (ix2 (j 0) k) : EReal)) (fun k => (g (ix2 0 k) : EReal)) (fun k => (y (ix2 (j 0) k) : EReal)) * x j : EReal)
      = through x y d g j := by
  have hg : line g 0 = fun k => (g (ix2 0 k) : EReal) := line_eq g 0
  have hl : ∀ z : FVec Ideal ⟨2, ![M, n]⟩ φ, line z (j 0).val = fun k => (z (ix2 (j 0) k) : EReal) := fun z => line_eq z (j 0)
  have hj : ∀ z : FVec Ideal ⟨2, ![M, n]⟩ φ, (z j : EReal) = z (ix2 (j 0) (j 1)) := fun z => congrArg z (eq_ix2 j)
  show _ = line d (j 0).val (j 1) + back (line x (j 0).val) (line g 0) (line y (j 0).val) (j 1)
  rw [hg, hl, hl, hl, hj d, hj y, hj x]
  exact back_eq (fun k => (x (ix2 (j 0) k) : EReal)) (fun k => (g (ix2 0 k) : EReal)) (fun k => (y (ix2 (j 0) k) : EReal)) (j 1) _

theorem inner_eq (j : (⟨2, ![M, n]⟩ : Shape).Idx) :
    (y j * g (ix2 0 (j 1)) * scale (fun k => (x (ix2 (j 0) k) : EReal))
        + x j * slope (fun k => (x (ix2 (j 0) k) : EReal)) (fun k => (g (ix2 0 k) : EReal)) (fun k => (y (ix2 (j 0) k) : EReal))
        + slope (fun k => (x (ix2 (j 0) k) : EReal)) (fun k => (g (ix2 0 k) : EReal)) (fun k => (y (ix2 (j 0) k) : EReal)) * x j : EReal)
      = inner (ψ := ψ) x y g j := by
  have h := through_eq (φ := φ) x y (fun _ => (0 : EReal)) g j
  have h0 : line (φ := φ) (fun _ => (0 : EReal)) (j 0).val (j 1) = 0 := congrFun (line_eq (φ := φ) (fun _ => (0 : EReal)) (j 0)) _
  have e : through (φ := φ) x y (fun _ => (0 : EReal)) g j = inner (ψ := ψ) x y g j :=
    (congrArg (fun s : EReal => s + grad (line x) (line g) (line y) (j 0).val (j 1)) h0).trans (zero_add _)
  refine Eq.trans ?_ (h.trans e)
  rw [zero_add]

theorem weight_eq (j : (⟨2, ![1, n]⟩ : Shape).Idx) :
    (∑ r : Fin M, (x (ix2 r (j 1)) * scale (fun k => (x (ix2 r k) : EReal)) * y (ix2 r (j 1)) : EReal)) = weight x y j :=
  Finset.sum_congr rfl fun r _ => by
    show _ = line y r.val (j 1) * (line x r.val (j 1) * scale (line x r.val))
    rw [line_eq x r, line_eq y r]
    exact mul_comm _ _

variable {b s : ℕ} {bx bd : FVec Ideal ⟨2, ![b, n]⟩ φ} {bg : FVec Ideal ⟨2, ![1, n]⟩ φ} {bo : FVec Ideal ⟨2, ![b, n]⟩ φ}

/-- The same of a block of whole rows. -/
theorem inner_block (hx : ∀ a k, (bx (ix2 a k) : EReal) = line x (b * s + a.val) k) (hy : ∀ a k, (bo (ix2 a k) : EReal) = line y (b * s + a.val) k)
    (hg : ∀ k, (bg (ix2 0 k) : EReal) = line g 0 k) {i : (⟨2, ![M, n]⟩ : Shape).Idx} {j : (⟨2, ![b, n]⟩ : Shape).Idx}
    (hi : (i 0).val = b * s + (j 0).val ∧ (i 1).val = (j 1).val) :
    back (fun k => (bx (ix2 (j 0) k) : EReal)) (fun k => (bg (ix2 0 k) : EReal)) (fun k => (bo (ix2 (j 0) k) : EReal)) (j 1) = inner (ψ := ψ) x y g i :=
  (congrFun (congr (congrArg₂ back (funext fun k => hx _ k) (funext hg)) (funext fun k => hy _ k)) _).trans
    (congrArg₂ (grad (line x) (line g) (line y)) hi.1 (Fin.ext hi.2)).symm

theorem through_block (hx : ∀ a k, (bx (ix2 a k) : EReal) = line x (b * s + a.val) k) (hy : ∀ a k, (bo (ix2 a k) : EReal) = line y (b * s + a.val) k)
    (hd : ∀ a k, (bd (ix2 a k) : EReal) = line d (b * s + a.val) k) (hg : ∀ k, (bg (ix2 0 k) : EReal) = line g 0 k)
    {i : (⟨2, ![M, n]⟩ : Shape).Idx} {j : (⟨2, ![b, n]⟩ : Shape).Idx} (hi : (i 0).val = b * s + (j 0).val ∧ (i 1).val = (j 1).val) :
    (bd j : EReal) + back (fun k => (bx (ix2 (j 0) k) : EReal)) (fun k => (bg (ix2 0 k) : EReal)) (fun k => (bo (ix2 (j 0) k) : EReal)) (j 1) = through x y d g i :=
  congrArg₂ (· + ·) ((congrArg bd (eq_ix2 j)).trans ((hd _ _).trans (congrArg₂ (line d) hi.1 (Fin.ext hi.2)).symm)) (inner_block (ψ := φ) x y g hx hy hg hi)

theorem weight_block (hx : ∀ a k, (bx (ix2 a k) : EReal) = line x (b * s + a.val) k) (hy : ∀ a k, (bo (ix2 a k) : EReal) = line y (b * s + a.val) k) (c : Fin n) :
    (∑ k : Fin b, (bo (ix2 k c) : EReal) * (bx (ix2 k c) * scale (fun i => (bx (ix2 k i) : EReal)))) = ∑ k : Fin b, gain (line x) (line y) (b * s + k.val) c :=
  Finset.sum_congr rfl fun k _ => congrArg₂ (· * ·) (hy k _) (congrArg₂ (· * ·) (hx k _) (congrArg scale (funext fun i => hx k i)))

end

/-- Sixteen steps, the first from zero, each adding its block of 512 rows, leave the sum over all rows. -/
theorem fold_lines {n₀ : ℕ} {ι : Type*} (a : (n : ℕ) → n < n₀ → ι → EReal) (g : (n : ℕ) → n < n₀ → (ι → EReal) → ι → EReal) (f : ℕ → ι → EReal)
    (z : ι → EReal) (hz : ∀ j, z j = 0) (ha : ∀ n h j, a n h j = g n h z j)
    (hg : ∀ n h acc j, g n h acc j = acc j + ∑ k : Fin 512, f (512 * n + k.val) j) {b t : ℕ} (hb : b = 0) (ht : t = 15) (h : b + t < n₀) (j : ι) :
    Pipeline.accAt a g b t h j = ∑ k : Fin 8192, f k.val j := by
  subst hb ht
  refine (Pipeline.accAt_add_apply a g z (fun n j => ∑ k : Fin 512, f (512 * n + k.val) j) 0 15
    (fun h j => (ha _ h j).trans (hg _ h z j)) (fun n h acc j _ _ => hg n h acc j) 15 (le_refl _) h j).trans ?_
  rw [hz, zero_add]
  simp only [Nat.zero_add]
  exact sum_blocks (fun k => f k j) 512 16

/-- The gradient to the weight, summed over sixteen blocks of 512 rows. -/
theorem weight_sum {n₀ : ℕ} (x y : FVec Ideal ⟨2, ![8192, n]⟩ φ) (a : (k : ℕ) → k < n₀ → FVec Ideal ⟨2, ![1, n]⟩ φ)
    (g : (k : ℕ) → k < n₀ → FVec Ideal ⟨2, ![1, n]⟩ φ → FVec Ideal ⟨2, ![1, n]⟩ φ) (z : FVec Ideal ⟨2, ![1, n]⟩ φ) (hz : ∀ j, (z j : EReal) = 0)
    (h0 : ∀ k h, k % 16 = 0 → a k h = g k h z) (hs : ∀ k (h : k + 1 < n₀), ¬(k + 1) % 16 = 0 → a (k + 1) h = g (k + 1) h (a k (Nat.lt_of_succ_lt h)))
    (hg : ∀ k h acc j, (g k h acc j : EReal) = acc j + ∑ r : Fin 512, gain (line x) (line y) (512 * k + r.val) (j 1))
    {t : ℕ} (ht : t = 15) (h : t < n₀) (j : (⟨2, ![1, n]⟩ : Shape).Idx) : (a t h j : EReal) = weight x y j := by
  subst ht
  exact (congrFun (Pipeline.eq_accAt_of_mod a 16 (fun k h => g k h z) g h0 hs (by decide) 15 h h) j).trans
    (fold_lines (fun k h => g k h z) g (fun r j => gain (line x) (line y) r (j 1)) z hz (fun _ _ _ => rfl) hg rfl rfl _ j)

end Cert.Norm

end
-- ==== Proof.FirstBwd.lean ====
/- The backward call of the first norm: the gradient it adds to the residual's, row by row, and the gradient of the
   weight, which it sums over blocks of rows in its output window. -/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Norm

@[expose] public section

set_option maxRecDepth 16384

noncomputable section

namespace Cert.Kernel9Ideal.Val

open Cert.Kernel9Ideal Cert.Kernel9Ideal.Gen Idealize.ShloMosaic Idealize.ShloMosaic.TcCoe Idealize.SL.Sem Cert.Products Cert.Norm

/-- A tile's entry. -/
theorem out_at (x3 : FVec Ideal S512x1024 .f32) (x4 : FVec Ideal S1x1024 .f32) (x5 x31 : FVec Ideal S512x1024 .f32) (j : S512x1024.Idx) :
    (k0_pay4 (F := Ideal) x3 x4 x5 x31 j : EReal)
      = x31 j + back (fun k => (x3 (ix2 (j 0) k) : EReal)) (fun k => (x4 (ix2 0 k) : EReal)) (fun k => (x5 (ix2 (j 0) k) : EReal)) (j 1) := by
  pointwise [k0_pay4, k0_pay3, k0_pay2, back, scale, mean]

/-- What a tile adds to the weight's gradient. -/
theorem sum_at (x3 x5 : FVec Ideal S512x1024 .f32) (x34 : FVec Ideal S1x1024 .f32) (j : S1x1024.Idx) :
    (k0_pay5 (F := Ideal) x3 x5 x34 j : EReal)
      = x34 j + ∑ k : Fin 512, (x5 (ix2 k (j 1)) : EReal) * ((x3 (ix2 k (j 1)) : EReal) * scale (fun i => (x3 (ix2 k i) : EReal))) := by
  pointwise [k0_pay5, k0_pay3, k0_pay2, scale, mean]

theorem zero_at (j : S1x1024.Idx) : (k0_pay1 (F := Ideal) j : EReal) = 0 := by
  pointwise [k0_pay1]

section
variable (c : Dev nD) (i : grid0.Coords) (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole)
  (arg6 : Memref sig .tc .vmem S1x1024 .f32) (harg6 : arg6.IsWhole) (x0 x1 x2 : FVec Ideal S512x1024 .f32) (x3 xo : FVec Ideal S1x1024 .f32)

/-- What a point leaves in the two output windows, at the first point and at a later one. -/
theorem at_first (hc : cond0_0 i) :
    (out0_A_4 (F := Ideal) c i arg1 harg1 arg2 harg2 arg3 harg3 arg4 harg4 arg5 harg5 arg6 harg6 hc x0 x1 x2 x3, out0_A_5 (F := Ideal) c i arg1 harg1 arg2 harg2 arg3 harg3 arg4 harg4 arg5 harg5 arg6 harg6 hc x0 x1 x2 x3)
      = (k0_pay4 (F := Ideal) x0 x3 x1 x2, k0_pay5 (F := Ideal) x0 x1 (k0_pay1 (F := Ideal))) := by
  unfold out0_A_4 out0_A_5
  rw [View.read_writes_junk_eq_canon, View.read_writes_junk_eq_canon]
  unfold kernelRun0_A
  dsimp only
  sl_unfold_words
  simp only [View.canon_cons_unit_zero (S := S1x1024) zeros, View.canon_cons_unit_zero (S := S512x1024) zeros, View.readCov_unit_zero (S := S1x1024) _ zeros, View.readAt_eq_ld,
    harg1.read_unread, harg2.read_unread, harg3.read_unread, harg4.read_unread, harg6.read_unread, View.ld_unit_zero (S := S1x1024) zeros, View.ld_unit_zero (S := S512x1024) zeros, shapeCast_self]

theorem at_later (hc : ¬cond0_0 i) :
    (out0_B_4 (F := Ideal) c i arg1 harg1 arg2 harg2 arg3 harg3 arg4 harg4 arg5 harg5 arg6 harg6 hc x0 x1 x2 x3 xo, out0_B_5 (F := Ideal) c i arg1 harg1 arg2 harg2 arg3 harg3 arg4 harg4 arg5 harg5 arg6 harg6 hc x0 x1 x2 x3 xo)
      = (k0_pay4 (F := Ideal) x0 x3 x1 x2, k0_pay5 (F := Ideal) x0 x1 xo) := by
  unfold out0_B_4 out0_B_5
  rw [View.read_writes_junk_eq_canon, View.read_writes_junk_eq_canon]
  unfold kernelRun0_B
  dsimp only
  sl_unfold_words
  simp only [View.canon_cons_unit_zero (S := S1x1024) zeros, View.canon_cons_unit_zero (S := S512x1024) zeros, View.readCov_unit_zero (S := S1x1024) _ zeros, View.readAt_eq_ld,
    harg1.read_unread, harg2.read_unread, harg3.read_unread, harg4.read_unread, harg6.read_unread, View.ld_unit_zero (S := S1x1024) zeros, View.ld_unit_zero (S := S512x1024) zeros, shapeCast_self]

end

variable (m : (ℓ : Loc nD τ sig) → Buf (Elt Ideal) ℓ)

/-- The four arguments: the array, the gradient of its norm, the gradient of the residual, the norm's weight. -/
abbrev a0 (c : Dev nD) : FVec Ideal S8192x1024 .f32 := m ((c : Thread nD τ).loc main_arg0)
abbrev a1 (c : Dev nD) : FVec Ideal S8192x1024 .f32 := m ((c : Thread nD τ).loc main_arg1)
abbrev a2 (c : Dev nD) : FVec Ideal S8192x1024 .f32 := m ((c : Thread nD τ).loc main_arg2)
abbrev a3 (c : Dev nD) : FVec Ideal S1x1024 .f32 := m ((c : Thread nD τ).loc main_arg3)

theorem moves : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![0, 0])

theorem line0 (c : Dev nD) (t : Fin cfg0.N) (a : Fin 512) (k : Fin 1024) : (iblk m c 0 t (ix2 a k) : EReal) = line (a0 m c) (512 * t.val + a.val) k :=
  (congrFun (V_main_arg0 m c) _).trans (line_at (a0 m c) (moves t).1 (((cfg0.win 0).blk t).view.emb (ix2 a k)) _ k rfl rfl)
theorem line1 (c : Dev nD) (t : Fin cfg0.N) (a : Fin 512) (k : Fin 1024) : (iblk m c 1 t (ix2 a k) : EReal) = line (a1 m c) (512 * t.val + a.val) k :=
  (congrFun (V_main_arg1 m c) _).trans (line_at (a1 m c) (moves t).2.1 (((cfg0.win 1).blk t).view.emb (ix2 a k)) _ k rfl rfl)
theorem line2 (c : Dev nD) (t : Fin cfg0.N) (a : Fin 512) (k : Fin 1024) : (iblk m c 2 t (ix2 a k) : EReal) = line (a2 m c) (512 * t.val + a.val) k :=
  (congrFun (V_main_arg2 m c) _).trans (line_at (a2 m c) (moves t).2.2.1 (((cfg0.win 2).blk t).view.emb (ix2 a k)) _ k rfl rfl)
theorem line3 (c : Dev nD) (t : Fin cfg0.N) (k : Fin 1024) : (iblk m c 3 t (ix2 0 k) : EReal) = line (a3 m c) 0 k :=
  (congrFun (V_main_arg3 m c) _).trans (line_at (a3 m c) (b := 1) (moves t).2.2.2.1 (((cfg0.win 3).blk t).view.emb (ix2 0 k)) 0 k rfl rfl)

/-- What a point leaves, whichever case it is. -/
theorem left4 (c : Dev nD) (t : Fin cfg0.N) : (outsAt0 m c t.val t.isLt).1 = k0_pay4 (iblk m c 0 t) (iblk m c 3 t) (iblk m c 1 t) (iblk m c 2 t) := by
  by_cases h : t.val % 16 = 0
  · rw [outsAt0_A m c t h]; exact congrArg Prod.fst (at_first ..)
  · rw [outsAt0_B m c t h]; exact congrArg Prod.fst (at_later ..)

/-- The sum's step. -/
def step (c : Dev nD) (n : ℕ) (h : n < cfg0.N) (acc : FVec Ideal S1x1024 .f32) : FVec Ideal S1x1024 .f32 := k0_pay5 (iblk m c 0 ⟨n, h⟩) (iblk m c 1 ⟨n, h⟩) acc

theorem adds (c : Dev nD) (n : ℕ) (h : n < cfg0.N) (acc : FVec Ideal S1x1024 .f32) (j : S1x1024.Idx) :
    (step m c n h acc j : EReal) = acc j + ∑ k : Fin 512, gain (line (a0 m c)) (line (a1 m c)) (512 * n + k.val) (j 1) :=
  (sum_at _ _ _ j).trans (congrArg (fun s : EReal => (acc j : EReal) + s) (weight_block (a0 m c) (a1 m c) (line0 m c ⟨n, h⟩) (line1 m c ⟨n, h⟩) (j 1)))

theorem total (c : Dev nD) (t : Fin cfg0.N) (h : t.val = 15) (j : S1x1024.Idx) : ((outsAt0 m c t.val t.isLt).2 j : EReal) = weight (a0 m c) (a1 m c) j :=
  weight_sum (a0 m c) (a1 m c) (fun n h => (outsAt0 m c n h).2) (step m c) (k0_pay1 (F := Ideal)) zero_at
    (fun n h hn => congrArg Prod.snd ((outsAt0_A m c ⟨n, h⟩ hn).trans (at_first ..)))
    (fun n h hn => congrArg Prod.snd ((outsAt0_B m c ⟨n + 1, h⟩ hn).trans (at_later ..))) (adds m c) h t.isLt j

theorem tile4 (c : Dev nD) (t : Fin cfg0.N) :
    (dats m 0 c).flushed 4 t = ((cfg0.win 4).blk t).view.read (Elt Ideal) (through (a0 m c) (a1 m c) (a2 m c) (a3 m c)) := by
  rw [Value.flushed4, left4]
  funext y
  exact (out_at (iblk m c 0 t) (iblk m c 3 t) (iblk m c 1 t) (iblk m c 2 t) ((cfg0.win 4).xinj (grid0.coords t) y)).trans
    (through_block (a0 m c) (a1 m c) (a2 m c) (a3 m c) (line0 m c t) (line1 m c t) (line2 m c t) (line3 m c t) (place (moves t).2.2.2.2.1 rfl rfl))

theorem tile5 (c : Dev nD) (t : Fin cfg0.N) (hf : (cfg0.win 5).flush t = true) :
    (dats m 0 c).flushed 5 t = ((cfg0.win 5).blk t).view.read (Elt Ideal) (weight (a0 m c) (a1 m c)) := by
  have ht : t.val = 15 := (by decide +kernel : ∀ t : Fin grid0.N, win0_5.flush t = true → t.val = 15) t hf
  rw [Value.flushed5]
  funext y
  exact (total m c t ht ((cfg0.win 5).xinj (grid0.coords t) y)).trans (congrArg (fun k => ∑ r : Fin 8192, gain (line (a0 m c)) (line (a1 m c)) r.val k)
    (Fin.ext (place (q := 1) (r := 0) (moves t).2.2.2.2.2 rfl rfl).2)).symm

theorem covered4 (i : S8192x1024.Idx) : ∃ t : Fin cfg0.N, (cfg0.win 4).flush t = true ∧ i ∈ ((cfg0.win 4).blk t).view.set := by
  have h0 : (i 0).val < 8192 := (i 0).isLt
  have ht : (i 0).val / 512 < cfg0.N := by rw [show cfg0.N = 16 from N_0]; omega
  refine ⟨⟨_, ht⟩, (by decide +kernel : ∀ t : Fin grid0.N, win0_4.flush t = true) ⟨_, ht⟩, ?_⟩
  show i ∈ ((View.whole main_v0_0).slice (win0_4.rect ⟨_, ht⟩)).set
  rw [View.set_slice_whole, Rect.mem_set_unit]
  exact in_line (i := fun a => (i a).val) (funext (Fin.forall_fin_two.mpr ⟨rfl, rfl⟩)) (i 1).isLt (moves ⟨_, ht⟩).2.2.2.2.1 rfl

theorem covered5 (i : S1x1024.Idx) : ∃ t : Fin cfg0.N, (cfg0.win 5).flush t = true ∧ i ∈ ((cfg0.win 5).blk t).view.set := by
  have h0 : (i 0).val < 1 := (i 0).isLt
  have h1 : (i 1).val < 1024 := (i 1).isLt
  have ht : 15 < cfg0.N := by rw [show cfg0.N = 16 from N_0]; omega
  refine ⟨⟨_, ht⟩, (by decide +kernel : ∀ t : Fin grid0.N, t.val = 15 → win0_5.flush t = true) ⟨_, ht⟩ rfl, ?_⟩
  show i ∈ ((View.whole main_v0_1).slice (win0_5.rect ⟨_, ht⟩)).set
  rw [View.set_slice_whole, Rect.mem_set_unit]
  exact in_only (i := fun a => (i a).val) h0 h1 (moves ⟨_, ht⟩).2.2.2.2.2 rfl

theorem same : Cert.algebraic_Kernel9Ideal_Reference9Ideal (hKernel9Ideal := facts) (hReference9Ideal := Cert.Reference9Ideal.Gen.facts) := by
  intro m g m' g' _ same
  refine ⟨fun c => through (a0 m c) (a1 m c) (a2 m c) (a3 m c), fun c => weight (a0 m c) (a1 m c),
    (θ_run _ _ _).mono (fun r h c => ⟨(h c).1.trans ((dats m 0 c).arrAt_eq_of_cover 4 _ (fun t _ => tile4 m c t) covered4),
      (h c).2.1.trans ((dats m 0 c).arrAt_eq_of_cover 5 _ (tile5 m c) covered5), (h c).2.2⟩)
      (Value.run_blocks m g),
    (θ_run _ _ _).mono (fun r h c => ⟨(h c).1.trans ?_, (h c).2.1.trans ?_, (h c).2.2⟩) (Cert.Reference9Ideal.Value.run m' g')⟩
  · obtain ⟨s0, s1, s2, s3⟩ := same c
    refine Eq.trans ?_ (congr (congr (congrArg₂ through s0 s1) s2) s3)
    funext j
    refine Eq.trans ?_ (through_eq _ _ _ _ j)
    clear h
    pointwise [Norm.slope, scale, mean, half, len, eps]
    simp only [Fin.sum_univ_one]
  · obtain ⟨s0, s1, -⟩ := same c
    refine Eq.trans ?_ (congrArg₂ weight s0 s1)
    funext j
    refine Eq.trans ?_ (weight_eq _ _ j)
    pointwise [scale, mean, len, eps]

end Cert.Kernel9Ideal.Val

end
-- ==== Proof.MidBwd.lean ====
/- The backward call of the first norm: the gradient it adds to the residual's, row by row, and the gradient of the
   weight, which it sums over blocks of rows in its output window. -/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Norm

@[expose] public section

set_option maxRecDepth 16384

noncomputable section

namespace Cert.Kernel10Ideal.Val

open Cert.Kernel10Ideal Cert.Kernel10Ideal.Gen Idealize.ShloMosaic Idealize.ShloMosaic.TcCoe Idealize.SL.Sem Cert.Products Cert.Norm

/-- A tile's entries: the gradient past the first norm, the gradient past the second, and what they add to the two weights' gradients. -/
theorem mid_at (v3 : FVec Ideal S512x1024 .f32) (v4 : FVec Ideal S1x1024 .f32) (v5 v31 : FVec Ideal S512x1024 .f32) (j : S512x1024.Idx) :
    (k0_pay9 (F := Ideal) v3 v4 v5 v31 j : EReal)
      = v31 j + back (fun k => (v3 (ix2 (j 0) k) : EReal)) (fun k => (v4 (ix2 0 k) : EReal)) (fun k => (v5 (ix2 (j 0) k) : EReal)) (j 1) := by
  pointwise [k0_pay9, k0_pay8, k0_pay7, back, scale, mean]

theorem out_at (v32 v38 : FVec Ideal S512x1024 .f32) (v39 : FVec Ideal S1x1024 .f32) (j : S512x1024.Idx) :
    (k0_pay3 (F := Ideal) v32 v38 v39 j : EReal)
      = back (fun k => (v38 (ix2 (j 0) k) : EReal)) (fun k => (v39 (ix2 0 k) : EReal)) (fun k => (v32 (ix2 (j 0) k) : EReal)) (j 1) := by
  pointwise [k0_pay3, k0_pay2, k0_pay1, back, scale, mean]

theorem first_at (v3 v5 : FVec Ideal S512x1024 .f32) (v34 : FVec Ideal S1x1024 .f32) (j : S1x1024.Idx) :
    (k0_pay10 (F := Ideal) v3 v5 v34 j : EReal)
      = v34 j + ∑ k : Fin 512, (v5 (ix2 k (j 1)) : EReal) * ((v3 (ix2 k (j 1)) : EReal) * scale (fun i => (v3 (ix2 k i) : EReal))) := by
  pointwise [k0_pay10, k0_pay8, k0_pay7, scale, mean]

theorem second_at (v32 v38 : FVec Ideal S512x1024 .f32) (v67 : FVec Ideal S1x1024 .f32) (j : S1x1024.Idx) :
    (k0_pay4 (F := Ideal) v32 v38 v67 j : EReal)
      = v67 j + ∑ k : Fin 512, (v32 (ix2 k (j 1)) : EReal) * ((v38 (ix2 k (j 1)) : EReal) * scale (fun i => (v38 (ix2 k i) : EReal))) := by
  pointwise [k0_pay4, k0_pay2, k0_pay1, scale, mean]

theorem zero5 (j : S1x1024.Idx) : (k0_pay5 (F := Ideal) j : EReal) = 0 := by
  pointwise [k0_pay5]
theorem zero6 (j : S1x1024.Idx) : (k0_pay6 (F := Ideal) j : EReal) = 0 := by
  pointwise [k0_pay6]

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole)
  (arg10 : Memref sig .tc .vmem S1x1024 .f32) (harg10 : arg10.IsWhole) (x0 x1 x2 x3 : FVec Ideal S512x1024 .f32) (x4 x5 xo8 xo9 : FVec Ideal S1x1024 .f32)

set_option maxHeartbeats 1600000 in
/-- What a point leaves in the four output windows, at the first point and at a later one. -/
theorem at_first (hc : cond0_0 i) :
    (out0_A_6 (F := Ideal) c i arg1 harg1 arg2 harg2 arg3 harg3 arg4 harg4 arg5 harg5 arg6 harg6 arg7 harg7 arg8 harg8 arg9 harg9 arg10 harg10 hc x0 x1 x2 x3 x4 x5,
      out0_A_7 (F := Ideal) c i arg1 harg1 arg2 harg2 arg3 harg3 arg4 harg4 arg5 harg5 arg6 harg6 arg7 harg7 arg8 harg8 arg9 harg9 arg10 harg10 hc x0 x1 x2 x3 x4 x5,
      out0_A_8 (F := Ideal) c i arg1 harg1 arg2 harg2 arg3 harg3 arg4 harg4 arg5 harg5 arg6 harg6 arg7 harg7 arg8 harg8 arg9 harg9 arg10 harg10 hc x0 x1 x2 x3 x4 x5,
      out0_A_9 (F := Ideal) c i arg1 harg1 arg2 harg2 arg3 harg3 arg4 harg4 arg5 harg5 arg6 harg6 arg7 harg7 arg8 harg8 arg9 harg9 arg10 harg10 hc x0 x1 x2 x3 x4 x5)
      = (k0_pay9 (F := Ideal) x0 x4 x1 x2, k0_pay3 (F := Ideal) (k0_pay9 (F := Ideal) x0 x4 x1 x2) x3 x5, k0_pay10 (F := Ideal) x0 x1 (k0_pay5 (F := Ideal)), k0_pay4 (F := Ideal) (k0_pay9 (F := Ideal) x0 x4 x1 x2) x3 (k0_pay6 (F := Ideal))) := by
  unfold out0_A_6 out0_A_7 out0_A_8 out0_A_9
  iterate 4 rw [View.read_writes_junk_eq_canon]
  unfold kernelRun0_A
  dsimp only
  sl_unfold_words
  simp only [View.canon_cons_unit_zero (S := S1x1024) zeros, View.canon_cons_unit_zero (S := S512x1024) zeros, View.readCov_unit_zero (S := S1x1024) _ zeros, View.readAt_eq_ld,
    harg1.read_unread, harg2.read_unread, harg3.read_unread, harg4.read_unread, harg5.read_unread, harg6.read_unread, harg9.read_unread, harg10.read_unread,
    View.ld_unit_zero (S := S1x1024) zeros, View.ld_unit_zero (S := S512x1024) zeros, shapeCast_self]

set_option maxHeartbeats 1600000 in
theorem at_later (hc : ¬cond0_0 i) :
    (out0_B_6 (F := Ideal) c i arg1 harg1 arg2 harg2 arg3 harg3 arg4 harg4 arg5 harg5 arg6 harg6 arg7 harg7 arg8 harg8 arg9 harg9 arg10 harg10 hc x0 x1 x2 x3 x4 x5 xo8 xo9,
      out0_B_7 (F := Ideal) c i arg1 harg1 arg2 harg2 arg3 harg3 arg4 harg4 arg5 harg5 arg6 harg6 arg7 harg7 arg8 harg8 arg9 harg9 arg10 harg10 hc x0 x1 x2 x3 x4 x5 xo8 xo9,
      out0_B_8 (F := Ideal) c i arg1 harg1 arg2 harg2 arg3 harg3 arg4 harg4 arg5 harg5 arg6 harg6 arg7 harg7 arg8 harg8 arg9 harg9 arg10 harg10 hc x0 x1 x2 x3 x4 x5 xo8 xo9,
      out0_B_9 (F := Ideal) c i arg1 harg1 arg2 harg2 arg3 harg3 arg4 harg4 arg5 harg5 arg6 harg6 arg7 harg7 arg8 harg8 arg9 harg9 arg10 harg10 hc x0 x1 x2 x3 x4 x5 xo8 xo9)
      = (k0_pay9 (F := Ideal) x0 x4 x1 x2, k0_pay3 (F := Ideal) (k0_pay9 (F := Ideal) x0 x4 x1 x2) x3 x5, k0_pay10 (F := Ideal) x0 x1 xo8, k0_pay4 (F := Ideal) (k0_pay9 (F := Ideal) x0 x4 x1 x2) x3 xo9) := by
  unfold out0_B_6 out0_B_7 out0_B_8 out0_B_9
  iterate 4 rw [View.read_writes_junk_eq_canon]
  unfold kernelRun0_B
  dsimp only
  sl_unfold_words
  simp only [View.canon_cons_unit_zero (S := S1x1024) zeros, View.canon_cons_unit_zero (S := S512x1024) zeros, View.readCov_unit_zero (S := S1x1024) _ zeros, View.readAt_eq_ld,
    harg1.read_unread, harg2.read_unread, harg3.read_unread, harg4.read_unread, harg5.read_unread, harg6.read_unread, harg9.read_unread, harg10.read_unread,
    View.ld_unit_zero (S := S1x1024) zeros, View.ld_unit_zero (S := S512x1024) zeros, shapeCast_self]

end

variable (m : (ℓ : Loc nD τ sig) → Buf (Elt Ideal) ℓ)

/-- The six arguments: the second norm's array, the gradient of its norm, the gradient of the residual, the first norm's array, and the two weights. -/
abbrev a0 (c : Dev nD) : FVec Ideal S8192x1024 .f32 := m ((c : Thread nD τ).loc main_arg0)
abbrev a1 (c : Dev nD) : FVec Ideal S8192x1024 .f32 := m ((c : Thread nD τ).loc main_arg1)
abbrev a2 (c : Dev nD) : FVec Ideal S8192x1024 .f32 := m ((c : Thread nD τ).loc main_arg2)
abbrev a3 (c : Dev nD) : FVec Ideal S8192x1024 .f32 := m ((c : Thread nD τ).loc main_arg3)
abbrev a4 (c : Dev nD) : FVec Ideal S1x1024 .f32 := m ((c : Thread nD τ).loc main_arg4)
abbrev a5 (c : Dev nD) : FVec Ideal S1x1024 .f32 := m ((c : Thread nD τ).loc main_arg5)

/-- The gradient between the two norms. -/
abbrev mid (c : Dev nD) : FVec Ideal S8192x1024 .f32 := through (a0 m c) (a1 m c) (a2 m c) (a4 m c)

theorem moves : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0])

theorem line0 (c : Dev nD) (t : Fin cfg0.N) (a : Fin 512) (k : Fin 1024) : (iblk m c 0 t (ix2 a k) : EReal) = line (a0 m c) (512 * t.val + a.val) k :=
  (congrFun (V_main_arg0 m c) _).trans (line_at (a0 m c) (moves t).1 (((cfg0.win 0).blk t).view.emb (ix2 a k)) _ k rfl rfl)
theorem line1 (c : Dev nD) (t : Fin cfg0.N) (a : Fin 512) (k : Fin 1024) : (iblk m c 1 t (ix2 a k) : EReal) = line (a1 m c) (512 * t.val + a.val) k :=
  (congrFun (V_main_arg1 m c) _).trans (line_at (a1 m c) (moves t).2.1 (((cfg0.win 1).blk t).view.emb (ix2 a k)) _ k rfl rfl)
theorem line2 (c : Dev nD) (t : Fin cfg0.N) (a : Fin 512) (k : Fin 1024) : (iblk m c 2 t (ix2 a k) : EReal) = line (a2 m c) (512 * t.val + a.val) k :=
  (congrFun (V_main_arg2 m c) _).trans (line_at (a2 m c) (moves t).2.2.1 (((cfg0.win 2).blk t).view.emb (ix2 a k)) _ k rfl rfl)
theorem line3 (c : Dev nD) (t : Fin cfg0.N) (a : Fin 512) (k : Fin 1024) : (iblk m c 3 t (ix2 a k) : EReal) = line (a3 m c) (512 * t.val + a.val) k :=
  (congrFun (V_main_arg3 m c) _).trans (line_at (a3 m c) (moves t).2.2.2.1 (((cfg0.win 3).blk t).view.emb (ix2 a k)) _ k rfl rfl)
theorem line4 (c : Dev nD) (t : Fin cfg0.N) (k : Fin 1024) : (iblk m c 4 t (ix2 0 k) : EReal) = line (a4 m c) 0 k :=
  (congrFun (V_main_arg4 m c) _).trans (line_at (a4 m c) (b := 1) (moves t).2.2.2.2.1 (((cfg0.win 4).blk t).view.emb (ix2 0 k)) 0 k rfl rfl)
theorem line5 (c : Dev nD) (t : Fin cfg0.N) (k : Fin 1024) : (iblk m c 5 t (ix2 0 k) : EReal) = line (a5 m c) 0 k :=
  (congrFun (V_main_arg5 m c) _).trans (line_at (a5 m c) (b := 1) (moves t).2.2.2.2.2.1 (((cfg0.win 5).blk t).view.emb (ix2 0 k)) 0 k rfl rfl)

/-- The tile of the gradient between the norms. -/
abbrev tile (c : Dev nD) (t : Fin cfg0.N) : FVec Ideal S512x1024 .f32 := k0_pay9 (iblk m c 0 t) (iblk m c 4 t) (iblk m c 1 t) (iblk m c 2 t)

theorem tile_eq (c : Dev nD) (t : Fin cfg0.N) {i : S8192x1024.Idx} {j : S512x1024.Idx} (hi : (i 0).val = 512 * t.val + (j 0).val ∧ (i 1).val = (j 1).val) :
    (tile m c t j : EReal) = mid m c i :=
  (mid_at (iblk m c 0 t) (iblk m c 4 t) (iblk m c 1 t) (iblk m c 2 t) j).trans
    (through_block (a0 m c) (a1 m c) (a2 m c) (a4 m c) (line0 m c t) (line1 m c t) (line2 m c t) (line4 m c t) hi)

theorem lineM (c : Dev nD) (t : Fin cfg0.N) (a : Fin 512) (k : Fin 1024) : (tile m c t (ix2 a k) : EReal) = line (mid m c) (512 * t.val + a.val) k := by
  have h : 512 * t.val + a.val < 8192 := by have := lt_of_lt_of_eq t.isLt (show cfg0.N = 16 from N_0); omega
  exact (tile_eq m c t (i := ix2 ⟨_, h⟩ k) ⟨rfl, rfl⟩).trans (congrFun (line_eq (mid m c) ⟨_, h⟩) k).symm

/-- What a point leaves, whichever case it is. -/
theorem left6 (c : Dev nD) (t : Fin cfg0.N) : (outsAt0 m c t.val t.isLt).1 = tile m c t
    ∧ (outsAt0 m c t.val t.isLt).2.1 = k0_pay3 (tile m c t) (iblk m c 3 t) (iblk m c 5 t) := by
  by_cases h : t.val % 16 = 0
  · rw [(outsAt0_A m c t h).trans (at_first ..)]; exact ⟨rfl, rfl⟩
  · rw [(outsAt0_B m c t h).trans (at_later ..)]; exact ⟨rfl, rfl⟩

/-- The two sums' steps. -/
def step8 (c : Dev nD) (n : ℕ) (h : n < cfg0.N) (acc : FVec Ideal S1x1024 .f32) : FVec Ideal S1x1024 .f32 := k0_pay10 (iblk m c 0 ⟨n, h⟩) (iblk m c 1 ⟨n, h⟩) acc
def step9 (c : Dev nD) (n : ℕ) (h : n < cfg0.N) (acc : FVec Ideal S1x1024 .f32) : FVec Ideal S1x1024 .f32 := k0_pay4 (tile m c ⟨n, h⟩) (iblk m c 3 ⟨n, h⟩) acc

theorem total8 (c : Dev nD) (t : Fin cfg0.N) (h : t.val = 15) (j : S1x1024.Idx) : ((outsAt0 m c t.val t.isLt).2.2.1 j : EReal) = weight (a0 m c) (a1 m c) j :=
  weight_sum (a0 m c) (a1 m c) (fun n h => (outsAt0 m c n h).2.2.1) (step8 m c) (k0_pay5 (F := Ideal)) zero5
    (fun n h hn => congrArg (fun p => p.2.2.1) ((outsAt0_A m c ⟨n, h⟩ hn).trans (at_first ..)))
    (fun n h hn => congrArg (fun p => p.2.2.1) ((outsAt0_B m c ⟨n + 1, h⟩ hn).trans (at_later ..)))
    (fun n h acc j => (first_at _ _ _ j).trans (congrArg (fun s : EReal => (acc j : EReal) + s)
      (weight_block (a0 m c) (a1 m c) (line0 m c ⟨n, h⟩) (line1 m c ⟨n, h⟩) (j 1)))) h t.isLt j

theorem total9 (c : Dev nD) (t : Fin cfg0.N) (h : t.val = 15) (j : S1x1024.Idx) : ((outsAt0 m c t.val t.isLt).2.2.2 j : EReal) = weight (a3 m c) (mid m c) j :=
  weight_sum (a3 m c) (mid m c) (fun n h => (outsAt0 m c n h).2.2.2) (step9 m c) (k0_pay6 (F := Ideal)) zero6
    (fun n h hn => congrArg (fun p => p.2.2.2) ((outsAt0_A m c ⟨n, h⟩ hn).trans (at_first ..)))
    (fun n h hn => congrArg (fun p => p.2.2.2) ((outsAt0_B m c ⟨n + 1, h⟩ hn).trans (at_later ..)))
    (fun n h acc j => (second_at _ _ _ j).trans (congrArg (fun s : EReal => (acc j : EReal) + s)
      (weight_block (a3 m c) (mid m c) (line3 m c ⟨n, h⟩) (lineM m c ⟨n, h⟩) (j 1)))) h t.isLt j

theorem tile6 (c : Dev nD) (t : Fin cfg0.N) : (dats m 0 c).flushed 6 t = ((cfg0.win 6).blk t).view.read (Elt Ideal) (mid m c) := by
  rw [Value.flushed6, (left6 m c t).1]
  funext y
  exact tile_eq m c t (j := (cfg0.win 6).xinj (grid0.coords t) y) (place (moves t).2.2.2.2.2.2.1 rfl rfl)

theorem tile7 (c : Dev nD) (t : Fin cfg0.N) :
    (dats m 0 c).flushed 7 t = ((cfg0.win 7).blk t).view.read (Elt Ideal) (inner (ψ := .bf16) (a3 m c) (mid m c) (a5 m c)) := by
  rw [Value.flushed7, (left6 m c t).2]
  funext y
  exact (out_at (tile m c t) (iblk m c 3 t) (iblk m c 5 t) ((cfg0.win 7).xinj (grid0.coords t) y)).trans
    (inner_block (ψ := .bf16) (a3 m c) (mid m c) (a5 m c) (line3 m c t) (lineM m c t) (line5 m c t) (place (moves t).2.2.2.2.2.2.2.1 rfl rfl))

theorem last8 : ∀ t : Fin grid0.N, (win0_8.flush t = true ↔ t.val = 15) ∧ (win0_9.flush t = true ↔ t.val = 15) := by decide +kernel

theorem tile8 (c : Dev nD) (t : Fin cfg0.N) (hf : (cfg0.win 8).flush t = true) :
    (dats m 0 c).flushed 8 t = ((cfg0.win 8).blk t).view.read (Elt Ideal) (weight (a0 m c) (a1 m c)) := by
  rw [Value.flushed8]
  funext y
  exact (total8 m c t ((last8 t).1.mp hf) ((cfg0.win 8).xinj (grid0.coords t) y)).trans (congrArg (fun k => ∑ r : Fin 8192, gain (line (a0 m c)) (line (a1 m c)) r.val k)
    (Fin.ext (place (q := 1) (r := 0) (moves t).2.2.2.2.2.2.2.2.1 rfl rfl).2)).symm

theorem tile9 (c : Dev nD) (t : Fin cfg0.N) (hf : (cfg0.win 9).flush t = true) :
    (dats m 0 c).flushed 9 t = ((cfg0.win 9).blk t).view.read (Elt Ideal) (weight (a3 m c) (mid m c)) := by
  rw [Value.flushed9]
  funext y
  exact (total9 m c t ((last8 t).2.mp hf) ((cfg0.win 9).xinj (grid0.coords t) y)).trans (congrArg (fun k => ∑ r : Fin 8192, gain (line (a3 m c)) (line (mid m c)) r.val k)
    (Fin.ext (place (q := 1) (r := 0) (moves t).2.2.2.2.2.2.2.2.2 rfl rfl).2)).symm

theorem covered6 (i : S8192x1024.Idx) : ∃ t : Fin cfg0.N, (cfg0.win 6).flush t = true ∧ i ∈ ((cfg0.win 6).blk t).view.set := by
  have h0 : (i 0).val < 8192 := (i 0).isLt
  have ht : (i 0).val / 512 < cfg0.N := by rw [show cfg0.N = 16 from N_0]; omega
  refine ⟨⟨_, ht⟩, (by decide +kernel : ∀ t : Fin grid0.N, win0_6.flush t = true) ⟨_, ht⟩, ?_⟩
  show i ∈ ((View.whole main_v0_0).slice (win0_6.rect ⟨_, ht⟩)).set
  rw [View.set_slice_whole, Rect.mem_set_unit]
  exact in_line (i := fun a => (i a).val) (funext (Fin.forall_fin_two.mpr ⟨rfl, rfl⟩)) (i 1).isLt (moves ⟨_, ht⟩).2.2.2.2.2.2.1 rfl

theorem covered7 (i : S8192x1024.Idx) : ∃ t : Fin cfg0.N, (cfg0.win 7).flush t = true ∧ i ∈ ((cfg0.win 7).blk t).view.set := by
  have h0 : (i 0).val < 8192 := (i 0).isLt
  have ht : (i 0).val / 512 < cfg0.N := by rw [show cfg0.N = 16 from N_0]; omega
  refine ⟨⟨_, ht⟩, (by decide +kernel : ∀ t : Fin grid0.N, win0_7.flush t = true) ⟨_, ht⟩, ?_⟩
  show i ∈ ((View.whole main_v0_1).slice (win0_7.rect ⟨_, ht⟩)).set
  rw [View.set_slice_whole, Rect.mem_set_unit]
  exact in_line (i := fun a => (i a).val) (funext (Fin.forall_fin_two.mpr ⟨rfl, rfl⟩)) (i 1).isLt (moves ⟨_, ht⟩).2.2.2.2.2.2.2.1 rfl

theorem covered8 (i : S1x1024.Idx) : ∃ t : Fin cfg0.N, (cfg0.win 8).flush t = true ∧ i ∈ ((cfg0.win 8).blk t).view.set := by
  have ht : 15 < cfg0.N := by rw [show cfg0.N = 16 from N_0]; omega
  refine ⟨⟨_, ht⟩, (last8 ⟨_, ht⟩).1.mpr rfl, ?_⟩
  show i ∈ ((View.whole main_v0_2).slice (win0_8.rect ⟨_, ht⟩)).set
  rw [View.set_slice_whole, Rect.mem_set_unit]
  exact in_only (i := fun a => (i a).val) (i 0).isLt (i 1).isLt (moves ⟨_, ht⟩).2.2.2.2.2.2.2.2.1 rfl

theorem covered9 (i : S1x1024.Idx) : ∃ t : Fin cfg0.N, (cfg0.win 9).flush t = true ∧ i ∈ ((cfg0.win 9).blk t).view.set := by
  have ht : 15 < cfg0.N := by rw [show cfg0.N = 16 from N_0]; omega
  refine ⟨⟨_, ht⟩, (last8 ⟨_, ht⟩).2.mpr rfl, ?_⟩
  show i ∈ ((View.whole main_v0_3).slice (win0_9.rect ⟨_, ht⟩)).set
  rw [View.set_slice_whole, Rect.mem_set_unit]
  exact in_only (i := fun a => (i a).val) (i 0).isLt (i 1).isLt (moves ⟨_, ht⟩).2.2.2.2.2.2.2.2.2 rfl

theorem same : Cert.algebraic_Kernel10Ideal_Reference10Ideal (hKernel10Ideal := facts) (hReference10Ideal := Cert.Reference10Ideal.Gen.facts) := by
  intro m g m' g' _ same
  refine ⟨fun c => mid m c, fun c => inner (ψ := .bf16) (a3 m c) (mid m c) (a5 m c), fun c => weight (a0 m c) (a1 m c), fun c => weight (a3 m c) (mid m c),
    (θ_run _ _ _).mono (fun r h c => ⟨(h c).1.trans ((dats m 0 c).arrAt_eq_of_cover 6 _ (fun t _ => tile6 m c t) covered6),
      (h c).2.1.trans ((dats m 0 c).arrAt_eq_of_cover 7 _ (fun t _ => tile7 m c t) covered7),
      (h c).2.2.1.trans ((dats m 0 c).arrAt_eq_of_cover 8 _ (tile8 m c) covered8),
      (h c).2.2.2.1.trans ((dats m 0 c).arrAt_eq_of_cover 9 _ (tile9 m c) covered9), (h c).2.2.2.2⟩)
      (Value.run_blocks m g),
    (θ_run _ _ _).mono (fun r h c => ?_) (Cert.Reference10Ideal.Value.run m' g')⟩
  obtain ⟨h0, h1, h2, h3, hk⟩ := h c
  obtain ⟨s0, s1, s2, s3, s4, s5⟩ := same c
  have e0 := h0.trans (show _ = mid m c by
    unfold mid
    refine Eq.trans ?_ (congr (congr (congrArg₂ (through (M := 8192) (n := 1024) (φ := .f32)) s0 s1) s2) s4)
    funext j
    refine Eq.trans ?_ (through_eq _ _ _ _ j)
    clear h h0 h1 h2 h3 hk
    pointwise [Norm.slope, scale, mean, half, len, eps]
    simp only [Fin.sum_univ_one])
  refine ⟨e0, h1.trans ?_, h2.trans ?_, h3.trans ?_, hk⟩
  · refine Eq.trans ?_ (congrArg₂ (fun x g => inner (M := 8192) (n := 1024) (φ := .f32) (ψ := .bf16) x (mid m c) g) s3 s5)
    unfold Cert.Reference10Ideal.Value.res_main_v69
    rw [h0.symm.trans e0]
    generalize mid m c = w
    clear h e0 h0 h1 h2 h3 hk
    funext j
    refine Eq.trans ?_ (inner_eq (φ := .f32) (ψ := .bf16) _ _ _ j)
    pointwise [Norm.slope, scale, mean, half, len, eps]
    simp only [Fin.sum_univ_one]
  · refine Eq.trans ?_ (congrArg₂ (weight (M := 8192) (n := 1024) (φ := .f32)) s0 s1)
    funext j
    refine Eq.trans ?_ (weight_eq _ _ j)
    clear h e0 h0 h1 h2 h3 hk
    pointwise [scale, mean, len, eps]
  · refine Eq.trans ?_ (congrArg (fun x => weight (M := 8192) (n := 1024) (φ := .f32) x (mid m c)) s3)
    unfold Cert.Reference10Ideal.Value.res_main_v52
    rw [h0.symm.trans e0]
    generalize mid m c = w
    clear h e0 h0 h1 h2 h3 hk
    funext j
    refine Eq.trans ?_ (weight_eq _ _ j)
    pointwise [scale, mean, len, eps]

end Cert.Kernel10Ideal.Val

end
-- ==== Proof.Forward.lean ====
/- The products of the forward projections: every entry a kernel leaves is the sum over a row of the first argument
   times a column of the weight. -/
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Products

@[expose] public section

set_option maxRecDepth 16384

noncomputable section

namespace Cert.Kernel11Ideal.Val

open Cert.Kernel11Ideal Cert.Kernel11Ideal.Gen Idealize.ShloMosaic Idealize.ShloMosaic.TcCoe Idealize.SL.Sem Cert.Products

theorem tile_at (x0 : FVec Ideal S512x1024 .bf16) (x1 : FVec Ideal S1024x1024 .bf16) (j : S512x1024.Idx) :
    out0_2 (F := Ideal) x0 x1 j = ∑ k : Fin 1024, (x0 (ix2 (j 0) k) : EReal) * x1 (ix2 k (j 1)) := by
  unfold out0_2
  rw [View.canon_unit_zero zeros]
  simp only [View.ld_unit_zero (S := S512x1024) zeros, View.ld_unit_zero (S := S1024x1024) zeros]
  pointwise [k0_pay1]

variable (m : (ℓ : Loc nD τ sig) → Buf (Elt Ideal) ℓ)

abbrev a0 (c : Dev nD) : FVec Ideal S8192x1024 .f32 := m ((c : Thread nD τ).loc main_arg0)
abbrev a1 (c : Dev nD) : FVec Ideal S1024x2048 .f32 := m ((c : Thread nD τ).loc main_arg1)

theorem entry0 (c : Dev nD) : V m c main_v0 = a0 m c := by after_reads_simp; rfl
theorem entry1 (c : Dev nD) : V m c main_v1 = a1 m c := by after_reads_simp; rfl

theorem moves : ∀ t : Fin cfg0.N, win0_0.index t = ![t.val % 16, 0] ∧ win0_1.index t = ![0, t.val / 16] ∧ win0_2.index t = ![t.val % 16, t.val / 16] :=
  (by decide +kernel : ∀ t : Fin grid0.N, win0_0.index t = ![t.val % 16, 0] ∧ win0_1.index t = ![0, t.val / 16] ∧ win0_2.index t = ![t.val % 16, t.val / 16])

/-- What a point writes back is its tile of the product. -/
theorem tile (c : Dev nD) (t : Fin cfg0.N) :
    (dats m 0 c).flushed 2 t = ((cfg0.win 2).blk t).view.read (Elt Ideal) (whole (χ := .bf16) (a0 m c) (a1 m c)) := by
  rw [Value.flushed2]
  funext y
  refine (tile_at (iblk m c 0 t) (iblk m c 1 t) ((cfg0.win 2).xinj (grid0.coords t) y)).trans ?_
  refine (block_rowcol (a0 m c) (a1 m c) (b := 512) (d := 1024) _ _
    (fun k => (congrFun (entry0 m c) _).trans (entry_at (a0 m c) (moves t).1 (((cfg0.win 0).blk t).view.emb (ix2 _ k)) _ _ rfl rfl))
    (fun k => (congrFun (entry1 m c) _).trans (entry_at (a1 m c) (moves t).2.1 (((cfg0.win 1).blk t).view.emb (ix2 k _)) _ _ rfl rfl))).trans ?_
  exact (at_block (rowcol (a0 m c) (a1 m c)) (moves t).2.2 (((cfg0.win 2).blk t).view.emb y) _ _ rfl rfl).symm

/-- The tiles make up the whole output. -/
theorem covered (i : S8192x2048.Idx) : ∃ t : Fin cfg0.N, (cfg0.win 2).flush t = true ∧ i ∈ ((cfg0.win 2).blk t).view.set := by
  have ht : 16 * ((i 1).val / 1024) + (i 0).val / 512 < cfg0.N := (point_lt (n := 2) (i 0).isLt (i 1).isLt).trans_eq N_0.symm
  refine ⟨⟨_, ht⟩, (by decide +kernel : ∀ t : Fin grid0.N, win0_2.flush t = true) ⟨_, ht⟩, ?_⟩
  show i ∈ ((View.whole main_v2).slice (win0_2.rect ⟨_, ht⟩)).set
  rw [View.set_slice_whole, Rect.mem_set_unit]
  exact in_point (i := fun a => (i a).val) (i 0).isLt (funext (Fin.forall_fin_two.mpr ⟨rfl, rfl⟩)) (moves ⟨_, ht⟩).2.2 rfl

/-- The kernel and the reference end with the same product. -/
theorem same : Cert.algebraic_Kernel11Ideal_Reference11Ideal (hKernel11Ideal := facts) (hReference11Ideal := Cert.Reference11Ideal.Gen.facts) := by
  intro m g m' g' _ same
  refine ⟨fun c => whole (χ := .bf16) (a0 m c) (a1 m c),
    (θ_run _ _ _).mono (fun r h c => ⟨(h c).1.trans ((dats m 0 c).arrAt_eq_of_cover 2 _ (fun t _ => tile m c t) covered), (h c).2⟩)
      (Value.run_blocks m g),
    (θ_run _ _ _).mono (fun r h c => ⟨(h c).1.trans ?_, (h c).2⟩) (Cert.Reference11Ideal.Value.run m' g')⟩
  obtain ⟨s0, s1⟩ := same c
  rw [s0, s1]
  funext i
  refine Eq.trans ?_ (rowcol_eq (a0 m c) (a1 m c) (i 0) (i 1)).symm
  pointwise []

end Cert.Kernel11Ideal.Val

namespace Cert.Kernel12Ideal.Val

open Cert.Kernel12Ideal Cert.Kernel12Ideal.Gen Idealize.ShloMosaic Idealize.ShloMosaic.TcCoe Idealize.SL.Sem Cert.Products

theorem tile_at (x0 : FVec Ideal S512x1024 .bf16) (x1 : FVec Ideal S1024x1024 .bf16) (j : S512x1024.Idx) :
    out0_2 (F := Ideal) x0 x1 j = ∑ k : Fin 1024, (x0 (ix2 (j 0) k) : EReal) * x1 (ix2 k (j 1)) := by
  unfold out0_2
  rw [View.canon_unit_zero zeros]
  simp only [View.ld_unit_zero (S := S512x1024) zeros, View.ld_unit_zero (S := S1024x1024) zeros]
  pointwise [k0_pay1]

variable (m : (ℓ : Loc nD τ sig) → Buf (Elt Ideal) ℓ)

abbrev a0 (c : Dev nD) : FVec Ideal S8192x1024 .f32 := m ((c : Thread nD τ).loc main_arg0)
abbrev a1 (c : Dev nD) : FVec Ideal S1024x3072 .f32 := m ((c : Thread nD τ).loc main_arg1)

theorem entry0 (c : Dev nD) : V m c main_v0 = a0 m c := by after_reads_simp; rfl
theorem entry1 (c : Dev nD) : V m c main_v1 = a1 m c := by after_reads_simp; rfl

theorem moves : ∀ t : Fin cfg0.N, win0_0.index t = ![t.val % 16, 0] ∧ win0_1.index t = ![0, t.val / 16] ∧ win0_2.index t = ![t.val % 16, t.val / 16] :=
  (by decide +kernel : ∀ t : Fin grid0.N, win0_0.index t = ![t.val % 16, 0] ∧ win0_1.index t = ![0, t.val / 16] ∧ win0_2.index t = ![t.val % 16, t.val / 16])

/-- What a point writes back is its tile of the product. -/
theorem tile (c : Dev nD) (t : Fin cfg0.N) :
    (dats m 0 c).flushed 2 t = ((cfg0.win 2).blk t).view.read (Elt Ideal) (whole (χ := .bf16) (a0 m c) (a1 m c)) := by
  rw [Value.flushed2]
  funext y
  refine (tile_at (iblk m c 0 t) (iblk m c 1 t) ((cfg0.win 2).xinj (grid0.coords t) y)).trans ?_
  refine (block_rowcol (a0 m c) (a1 m c) (b := 512) (d := 1024) _ _
    (fun k => (congrFun (entry0 m c) _).trans (entry_at (a0 m c) (moves t).1 (((cfg0.win 0).blk t).view.emb (ix2 _ k)) _ _ rfl rfl))
    (fun k => (congrFun (entry1 m c) _).trans (entry_at (a1 m c) (moves t).2.1 (((cfg0.win 1).blk t).view.emb (ix2 k _)) _ _ rfl rfl))).trans ?_
  exact (at_block (rowcol (a0 m c) (a1 m c)) (moves t).2.2 (((cfg0.win 2).blk t).view.emb y) _ _ rfl rfl).symm

/-- The tiles make up the whole output. -/
theorem covered (i : S8192x3072.Idx) : ∃ t : Fin cfg0.N, (cfg0.win 2).flush t = true ∧ i ∈ ((cfg0.win 2).blk t).view.set := by
  have ht : 16 * ((i 1).val / 1024) + (i 0).val / 512 < cfg0.N := (point_lt (n := 3) (i 0).isLt (i 1).isLt).trans_eq N_0.symm
  refine ⟨⟨_, ht⟩, (by decide +kernel : ∀ t : Fin grid0.N, win0_2.flush t = true) ⟨_, ht⟩, ?_⟩
  show i ∈ ((View.whole main_v2).slice (win0_2.rect ⟨_, ht⟩)).set
  rw [View.set_slice_whole, Rect.mem_set_unit]
  exact in_point (i := fun a => (i a).val) (i 0).isLt (funext (Fin.forall_fin_two.mpr ⟨rfl, rfl⟩)) (moves ⟨_, ht⟩).2.2 rfl

/-- The kernel and the reference end with the same product. -/
theorem same : Cert.algebraic_Kernel12Ideal_Reference12Ideal (hKernel12Ideal := facts) (hReference12Ideal := Cert.Reference12Ideal.Gen.facts) := by
  intro m g m' g' _ same
  refine ⟨fun c => whole (χ := .bf16) (a0 m c) (a1 m c),
    (θ_run _ _ _).mono (fun r h c => ⟨(h c).1.trans ((dats m 0 c).arrAt_eq_of_cover 2 _ (fun t _ => tile m c t) covered), (h c).2⟩)
      (Value.run_blocks m g),
    (θ_run _ _ _).mono (fun r h c => ⟨(h c).1.trans ?_, (h c).2⟩) (Cert.Reference12Ideal.Value.run m' g')⟩
  obtain ⟨s0, s1⟩ := same c
  rw [s0, s1]
  funext i
  refine Eq.trans ?_ (rowcol_eq (a0 m c) (a1 m c) (i 0) (i 1)).symm
  pointwise []

end Cert.Kernel12Ideal.Val

namespace Cert.Kernel13Ideal.Val

open Cert.Kernel13Ideal Cert.Kernel13Ideal.Gen Idealize.ShloMosaic Idealize.ShloMosaic.TcCoe Idealize.SL.Sem Cert.Products

theorem tile_at (x0 : FVec Ideal S512x1024 .bf16) (x1 : FVec Ideal S1024x1024 .bf16) (j : S512x1024.Idx) :
    out0_2 (F := Ideal) x0 x1 j = ∑ k : Fin 1024, (x0 (ix2 (j 0) k) : EReal) * x1 (ix2 k (j 1)) := by
  unfold out0_2
  rw [View.canon_unit_zero zeros]
  simp only [View.ld_unit_zero (S := S512x1024) zeros, View.ld_unit_zero (S := S1024x1024) zeros]
  pointwise [k0_pay1]

variable (m : (ℓ : Loc nD τ sig) → Buf (Elt Ideal) ℓ)

abbrev a0 (c : Dev nD) : FVec Ideal S8192x1024 .f32 := m ((c : Thread nD τ).loc main_arg0)
abbrev a1 (c : Dev nD) : FVec Ideal S1024x6144 .f32 := m ((c : Thread nD τ).loc main_arg1)

theorem entry0 (c : Dev nD) : V m c main_v0 = a0 m c := by after_reads_simp; rfl
theorem entry1 (c : Dev nD) : V m c main_v1 = a1 m c := by after_reads_simp; rfl

theorem moves : ∀ t : Fin cfg0.N, win0_0.index t = ![t.val % 16, 0] ∧ win0_1.index t = ![0, t.val / 16] ∧ win0_2.index t = ![t.val % 16, t.val / 16] :=
  (by decide +kernel : ∀ t : Fin grid0.N, win0_0.index t = ![t.val % 16, 0] ∧ win0_1.index t = ![0, t.val / 16] ∧ win0_2.index t = ![t.val % 16, t.val / 16])

/-- What a point writes back is its tile of the product. -/
theorem tile (c : Dev nD) (t : Fin cfg0.N) :
    (dats m 0 c).flushed 2 t = ((cfg0.win 2).blk t).view.read (Elt Ideal) (whole (χ := .bf16) (a0 m c) (a1 m c)) := by
  rw [Value.flushed2]
  funext y
  refine (tile_at (iblk m c 0 t) (iblk m c 1 t) ((cfg0.win 2).xinj (grid0.coords t) y)).trans ?_
  refine (block_rowcol (a0 m c) (a1 m c) (b := 512) (d := 1024) _ _
    (fun k => (congrFun (entry0 m c) _).trans (entry_at (a0 m c) (moves t).1 (((cfg0.win 0).blk t).view.emb (ix2 _ k)) _ _ rfl rfl))
    (fun k => (congrFun (entry1 m c) _).trans (entry_at (a1 m c) (moves t).2.1 (((cfg0.win 1).blk t).view.emb (ix2 k _)) _ _ rfl rfl))).trans ?_
  exact (at_block (rowcol (a0 m c) (a1 m c)) (moves t).2.2 (((cfg0.win 2).blk t).view.emb y) _ _ rfl rfl).symm

/-- The tiles make up the whole output. -/
theorem covered (i : S8192x6144.Idx) : ∃ t : Fin cfg0.N, (cfg0.win 2).flush t = true ∧ i ∈ ((cfg0.win 2).blk t).view.set := by
  have ht : 16 * ((i 1).val / 1024) + (i 0).val / 512 < cfg0.N := (point_lt (n := 6) (i 0).isLt (i 1).isLt).trans_eq N_0.symm
  refine ⟨⟨_, ht⟩, (by decide +kernel : ∀ t : Fin grid0.N, win0_2.flush t = true) ⟨_, ht⟩, ?_⟩
  show i ∈ ((View.whole main_v2).slice (win0_2.rect ⟨_, ht⟩)).set
  rw [View.set_slice_whole, Rect.mem_set_unit]
  exact in_point (i := fun a => (i a).val) (i 0).isLt (funext (Fin.forall_fin_two.mpr ⟨rfl, rfl⟩)) (moves ⟨_, ht⟩).2.2 rfl

/-- The kernel and the reference end with the same product. -/
theorem same : Cert.algebraic_Kernel13Ideal_Reference13Ideal (hKernel13Ideal := facts) (hReference13Ideal := Cert.Reference13Ideal.Gen.facts) := by
  intro m g m' g' _ same
  refine ⟨fun c => whole (χ := .bf16) (a0 m c) (a1 m c),
    (θ_run _ _ _).mono (fun r h c => ⟨(h c).1.trans ((dats m 0 c).arrAt_eq_of_cover 2 _ (fun t _ => tile m c t) covered), (h c).2⟩)
      (Value.run_blocks m g),
    (θ_run _ _ _).mono (fun r h c => ⟨(h c).1.trans ?_, (h c).2⟩) (Cert.Reference13Ideal.Value.run m' g')⟩
  obtain ⟨s0, s1⟩ := same c
  rw [s0, s1]
  funext i
  refine Eq.trans ?_ (rowcol_eq (a0 m c) (a1 m c) (i 0) (i 1)).symm
  pointwise []

end Cert.Kernel13Ideal.Val

namespace Cert.Kernel14Ideal.Val

open Cert.Kernel14Ideal Cert.Kernel14Ideal.Gen Idealize.ShloMosaic Idealize.ShloMosaic.TcCoe Idealize.SL.Sem Cert.Products

theorem tile_at (x0 : FVec Ideal S512x2048 .bf16) (x1 : FVec Ideal S2048x1024 .bf16) (j : S512x1024.Idx) :
    out0_2 (F := Ideal) x0 x1 j = ∑ k : Fin 2048, (x0 (ix2 (j 0) k) : EReal) * x1 (ix2 k (j 1)) := by
  unfold out0_2
  rw [View.canon_unit_zero zeros]
  simp only [View.ld_unit_zero (S := S512x2048) zeros, View.ld_unit_zero (S := S2048x1024) zeros]
  pointwise [k0_pay1]

variable (m : (ℓ : Loc nD τ sig) → Buf (Elt Ideal) ℓ)

abbrev a0 (c : Dev nD) : FVec Ideal S8192x2048 .f32 := m ((c : Thread nD τ).loc main_arg0)
abbrev a1 (c : Dev nD) : FVec Ideal S2048x1024 .f32 := m ((c : Thread nD τ).loc main_arg1)

theorem entry0 (c : Dev nD) : V m c main_v0 = a0 m c := by after_reads_simp; rfl
theorem entry1 (c : Dev nD) : V m c main_v1 = a1 m c := by after_reads_simp; rfl

theorem moves : ∀ t : Fin cfg0.N, win0_0.index t = ![t.val % 16, 0] ∧ win0_1.index t = ![0, t.val / 16] ∧ win0_2.index t = ![t.val % 16, t.val / 16] :=
  (by decide +kernel : ∀ t : Fin grid0.N, win0_0.index t = ![t.val % 16, 0] ∧ win0_1.index t = ![0, t.val / 16] ∧ win0_2.index t = ![t.val % 16, t.val / 16])

/-- What a point writes back is its tile of the product. -/
theorem tile (c : Dev nD) (t : Fin cfg0.N) :
    (dats m 0 c).flushed 2 t = ((cfg0.win 2).blk t).view.read (Elt Ideal) (whole (χ := .f32) (a0 m c) (a1 m c)) := by
  rw [Value.flushed2]
  funext y
  refine (tile_at (iblk m c 0 t) (iblk m c 1 t) ((cfg0.win 2).xinj (grid0.coords t) y)).trans ?_
  refine (block_rowcol (a0 m c) (a1 m c) (b := 512) (d := 1024) _ _
    (fun k => (congrFun (entry0 m c) _).trans (entry_at (a0 m c) (moves t).1 (((cfg0.win 0).blk t).view.emb (ix2 _ k)) _ _ rfl rfl))
    (fun k => (congrFun (entry1 m c) _).trans (entry_at (a1 m c) (moves t).2.1 (((cfg0.win 1).blk t).view.emb (ix2 k _)) _ _ rfl rfl))).trans ?_
  exact (at_block (rowcol (a0 m c) (a1 m c)) (moves t).2.2 (((cfg0.win 2).blk t).view.emb y) _ _ rfl rfl).symm

/-- The tiles make up the whole output. -/
theorem covered (i : S8192x1024.Idx) : ∃ t : Fin cfg0.N, (cfg0.win 2).flush t = true ∧ i ∈ ((cfg0.win 2).blk t).view.set := by
  have ht : 16 * ((i 1).val / 1024) + (i 0).val / 512 < cfg0.N := (point_lt (n := 1) (i 0).isLt (i 1).isLt).trans_eq N_0.symm
  refine ⟨⟨_, ht⟩, (by decide +kernel : ∀ t : Fin grid0.N, win0_2.flush t = true) ⟨_, ht⟩, ?_⟩
  show i ∈ ((View.whole main_v2).slice (win0_2.rect ⟨_, ht⟩)).set
  rw [View.set_slice_whole, Rect.mem_set_unit]
  exact in_point (i := fun a => (i a).val) (i 0).isLt (funext (Fin.forall_fin_two.mpr ⟨rfl, rfl⟩)) (moves ⟨_, ht⟩).2.2 rfl

/-- The kernel and the reference end with the same product. -/
theorem same : Cert.algebraic_Kernel14Ideal_Reference14Ideal (hKernel14Ideal := facts) (hReference14Ideal := Cert.Reference14Ideal.Gen.facts) := by
  intro m g m' g' _ same
  refine ⟨fun c => whole (χ := .f32) (a0 m c) (a1 m c),
    (θ_run _ _ _).mono (fun r h c => ⟨(h c).1.trans ((dats m 0 c).arrAt_eq_of_cover 2 _ (fun t _ => tile m c t) covered), (h c).2⟩)
      (Value.run_blocks m g),
    (θ_run _ _ _).mono (fun r h c => ⟨(h c).1.trans ?_, (h c).2⟩) (Cert.Reference14Ideal.Value.run m' g')⟩
  obtain ⟨s0, s1⟩ := same c
  rw [s0, s1]
  funext i
  refine Eq.trans ?_ (rowcol_eq (a0 m c) (a1 m c) (i 0) (i 1)).symm
  pointwise []

end Cert.Kernel14Ideal.Val

end
-- ==== Proof.NormFwd.lean ====
/- The forward calls of the norms: the norm before the even layer, and the norm after it with the residual and the norm
   before the odd layer in one call. -/
module

public import proofs.«01_k».proof.Defs
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Norm

@[expose] public section

set_option maxRecDepth 16384

noncomputable section

namespace Cert.Norm

open Idealize.ShloMosaic Cert.Products

variable {n M : ℕ} {φ ψ : FTy}

/-- A row divided by the root of its mean square, times the weight, and the same added to another row. -/
def fwd (x g : Fin n → EReal) (c : Fin n) : EReal := x c * scale x * g c
def past (d x g : Fin n → EReal) (c : Fin n) : EReal := d c + fwd x g c

/-- The same of every row of an array, and the norm of the sums. -/
def normed (x : FVec Ideal ⟨2, ![M, n]⟩ φ) (g : FVec Ideal ⟨2, ![1, n]⟩ φ) : FVec Ideal ⟨2, ![M, n]⟩ ψ := fun i =>
  fwd (line x (i 0).val) (line g 0) (i 1)
def added (d x : FVec Ideal ⟨2, ![M, n]⟩ φ) (g : FVec Ideal ⟨2, ![1, n]⟩ φ) : FVec Ideal ⟨2, ![M, n]⟩ φ := fun i =>
  past (line d (i 0).val) (line x (i 0).val) (line g 0) (i 1)
def twice (d x : FVec Ideal ⟨2, ![M, n]⟩ φ) (g h : FVec Ideal ⟨2, ![1, n]⟩ φ) : FVec Ideal ⟨2, ![M, n]⟩ ψ := fun i =>
  fwd (past (line d (i 0).val) (line x (i 0).val) (line g 0)) (line h 0) (i 1)

theorem fwd_at {x x' g g' : Fin n → EReal} {c c' : Fin n} (hx : x = x') (hg : g = g') (hc : c = c') : fwd x g c = fwd x' g' c' := by
  subst hx hg hc; rfl
theorem past_at {d d' x x' g g' : Fin n → EReal} (hd : d = d') (hx : x = x') (hg : g = g') : past d x g = past d' x' g' := by
  subst hd hx hg; rfl

end Cert.Norm

namespace Cert.Kernel15Ideal.Val

open Cert.Kernel15Ideal Cert.Kernel15Ideal.Gen Idealize.ShloMosaic Idealize.ShloMosaic.TcCoe Idealize.SL.Sem Cert.Products Cert.Norm

/-- A tile's entry. -/
theorem tile_at (x0 : FVec Ideal S512x1024 .f32) (x1 : FVec Ideal S1x1024 .f32) (j : S512x1024.Idx) :
    (out0_2 (F := Ideal) x0 x1 j : EReal) = fwd (fun k => (x0 (ix2 (j 0) k) : EReal)) (fun k => (x1 (ix2 0 k) : EReal)) (j 1) := by
  unfold out0_2
  rw [View.canon_unit_zero zeros]
  simp only [View.ld_unit_zero (S := S512x1024) zeros, View.ld_unit_zero (S := S1x1024) zeros]
  pointwise [k0_pay1, fwd, scale, mean]

variable (m : (ℓ : Loc nD τ sig) → Buf (Elt Ideal) ℓ)

/-- The array and the norm's weight. -/
abbrev a0 (c : Dev nD) : FVec Ideal S8192x1024 .f32 := m ((c : Thread nD τ).loc main_arg0)
abbrev a1 (c : Dev nD) : FVec Ideal S1x1024 .f32 := m ((c : Thread nD τ).loc main_arg1)

theorem moves : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem tile (c : Dev nD) (t : Fin cfg0.N) :
    (dats m 0 c).flushed 2 t = ((cfg0.win 2).blk t).view.read (Elt Ideal) (normed (φ := .f32) (ψ := .bf16) (a0 m c) (a1 m c)) := by
  rw [Value.flushed2]
  funext y
  obtain ⟨h0, h1⟩ := place (moves t).2.2 (e := ((((cfg0.win 2).blk t).view.emb y) 0).val) (d := ((((cfg0.win 2).blk t).view.emb y) 1).val) (q := 512) (b := 1024) rfl rfl
  exact (tile_at (iblk m c 0 t) (iblk m c 1 t) ((cfg0.win 2).xinj (grid0.coords t) y)).trans
    (fwd_at (funext fun k => ((congrFun (V_main_arg0 m c) _).trans (line_at (a0 m c) (moves t).1 (((cfg0.win 0).blk t).view.emb (ix2 _ k)) _ k rfl rfl)).trans
        (congrArg (fun r => line (a0 m c) r k) h0.symm))
      (funext fun k => (congrFun (V_main_arg1 m c) _).trans (line_at (a1 m c) (b := 1) (moves t).2.1 (((cfg0.win 1).blk t).view.emb (ix2 0 k)) 0 k rfl rfl))
      (Fin.ext h1.symm))

theorem covered (i : S8192x1024.Idx) : ∃ t : Fin cfg0.N, (cfg0.win 2).flush t = true ∧ i ∈ ((cfg0.win 2).blk t).view.set := by
  have h0 : (i 0).val < 8192 := (i 0).isLt
  have ht : (i 0).val / 512 < cfg0.N := by rw [show cfg0.N = 16 from N_0]; omega
  refine ⟨⟨_, ht⟩, (by decide +kernel : ∀ t : Fin grid0.N, win0_2.flush t = true) ⟨_, ht⟩, ?_⟩
  show i ∈ ((View.whole main_v0).slice (win0_2.rect ⟨_, ht⟩)).set
  rw [View.set_slice_whole, Rect.mem_set_unit]
  exact in_line (i := fun a => (i a).val) (funext (Fin.forall_fin_two.mpr ⟨rfl, rfl⟩)) (i 1).isLt (moves ⟨_, ht⟩).2.2 rfl

/-- The kernel and the reference end with the same norm. -/
theorem same : Cert.algebraic_Kernel15Ideal_Reference15Ideal (hKernel15Ideal := facts) (hReference15Ideal := Cert.Reference15Ideal.Gen.facts) := by
  intro m g m' g' _ same
  refine ⟨fun c => normed (φ := .f32) (ψ := .bf16) (a0 m c) (a1 m c),
    (θ_run _ _ _).mono (fun r h c => ⟨(h c).1.trans ((dats m 0 c).arrAt_eq_of_cover 2 _ (fun t _ => tile m c t) covered), (h c).2⟩)
      (Value.run_blocks m g),
    (θ_run _ _ _).mono (fun r h c => ⟨(h c).1.trans ?_, (h c).2⟩) (Cert.Reference15Ideal.Value.run m' g')⟩
  obtain ⟨s0, s1⟩ := same c
  refine Eq.trans ?_ (congrArg₂ (normed (φ := .f32) (ψ := .bf16)) s0 s1)
  funext j
  refine Eq.trans ?_ (fwd_at (line_eq (φ := .f32) _ (j 0)) (line_eq (φ := .f32) _ 0) rfl).symm
  clear h
  pointwise [fwd, scale, mean, len, eps]

end Cert.Kernel15Ideal.Val

namespace Cert.Kernel16Ideal.Val

open Cert.Kernel16Ideal Cert.Kernel16Ideal.Gen Idealize.ShloMosaic Idealize.ShloMosaic.TcCoe Idealize.SL.Sem Cert.Products Cert.Norm

/-- An entry of the two tiles. -/
theorem sum_at (x0 x1 : FVec Ideal S512x1024 .f32) (x2 x3 : FVec Ideal S1x1024 .f32) (j : S512x1024.Idx) :
    (out0_4 (F := Ideal) x0 x1 x2 x3 j : EReal)
      = past (fun k => (x0 (ix2 (j 0) k) : EReal)) (fun k => (x1 (ix2 (j 0) k) : EReal)) (fun k => (x2 (ix2 0 k) : EReal)) (j 1) := by
  unfold out0_4
  rw [View.canon_unit_zero zeros]
  simp only [View.ld_unit_zero (S := S512x1024) zeros, View.ld_unit_zero (S := S1x1024) zeros]
  pointwise [k0_pay1, past, fwd, scale, mean]

theorem norm_at (x0 x1 : FVec Ideal S512x1024 .f32) (x2 x3 : FVec Ideal S1x1024 .f32) (j : S512x1024.Idx) :
    (out0_5 (F := Ideal) x0 x1 x2 x3 j : EReal)
      = fwd (past (fun k => (x0 (ix2 (j 0) k) : EReal)) (fun k => (x1 (ix2 (j 0) k) : EReal)) (fun k => (x2 (ix2 0 k) : EReal)))
          (fun k => (x3 (ix2 0 k) : EReal)) (j 1) := by
  unfold out0_5
  rw [View.canon_unit_zero zeros]
  simp only [View.ld_unit_zero (S := S512x1024) zeros, View.ld_unit_zero (S := S1x1024) zeros]
  pointwise [k0_pay2, k0_pay1, past, fwd, scale, mean]

variable (m : (ℓ : Loc nD τ sig) → Buf (Elt Ideal) ℓ)

/-- The array, the even layer's result, and the weights of the two norms. -/
abbrev a0 (c : Dev nD) : FVec Ideal S8192x1024 .f32 := m ((c : Thread nD τ).loc main_arg0)
abbrev a1 (c : Dev nD) : FVec Ideal S8192x1024 .f32 := m ((c : Thread nD τ).loc main_arg1)
abbrev a2 (c : Dev nD) : FVec Ideal S1x1024 .f32 := m ((c : Thread nD τ).loc main_arg2)
abbrev a3 (c : Dev nD) : FVec Ideal S1x1024 .f32 := m ((c : Thread nD τ).loc main_arg3)

theorem moves : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0])

theorem line0 (c : Dev nD) (t : Fin cfg0.N) (a : Fin 512) : (fun k : Fin 1024 => (iblk m c 0 t (ix2 a k) : EReal)) = line (a0 m c) (512 * t.val + a.val) :=
  funext fun k => (congrFun (V_main_arg0 m c) _).trans (line_at (a0 m c) (moves t).1 (((cfg0.win 0).blk t).view.emb (ix2 a k)) _ k rfl rfl)
theorem line1 (c : Dev nD) (t : Fin cfg0.N) (a : Fin 512) : (fun k : Fin 1024 => (iblk m c 1 t (ix2 a k) : EReal)) = line (a1 m c) (512 * t.val + a.val) :=
  funext fun k => (congrFun (V_main_arg1 m c) _).trans (line_at (a1 m c) (moves t).2.1 (((cfg0.win 1).blk t).view.emb (ix2 a k)) _ k rfl rfl)
theorem line2 (c : Dev nD) (t : Fin cfg0.N) : (fun k : Fin 1024 => (iblk m c 2 t (ix2 0 k) : EReal)) = line (a2 m c) 0 :=
  funext fun k => (congrFun (V_main_arg2 m c) _).trans (line_at (a2 m c) (b := 1) (moves t).2.2.1 (((cfg0.win 2).blk t).view.emb (ix2 0 k)) 0 k rfl rfl)
theorem line3 (c : Dev nD) (t : Fin cfg0.N) : (fun k : Fin 1024 => (iblk m c 3 t (ix2 0 k) : EReal)) = line (a3 m c) 0 :=
  funext fun k => (congrFun (V_main_arg3 m c) _).trans (line_at (a3 m c) (b := 1) (moves t).2.2.2.1 (((cfg0.win 3).blk t).view.emb (ix2 0 k)) 0 k rfl rfl)

/-- The sums of a block, row by row. -/
theorem sums (c : Dev nD) (t : Fin cfg0.N) (a : Fin 512) {r : ℕ} (hr : r = 512 * t.val + a.val) :
    past (fun k : Fin 1024 => (iblk m c 0 t (ix2 a k) : EReal)) (fun k => (iblk m c 1 t (ix2 a k) : EReal)) (fun k => (iblk m c 2 t (ix2 0 k) : EReal))
      = past (line (a0 m c) r) (line (a1 m c) r) (line (a2 m c) 0) := by
  subst hr
  exact past_at (line0 m c t a) (line1 m c t a) (line2 m c t)

theorem tile4 (c : Dev nD) (t : Fin cfg0.N) :
    (dats m 0 c).flushed 4 t = ((cfg0.win 4).blk t).view.read (Elt Ideal) (added (a0 m c) (a1 m c) (a2 m c)) := by
  rw [Value.flushed4]
  funext y
  obtain ⟨h0, h1⟩ := place (moves t).2.2.2.2.1 (e := ((((cfg0.win 4).blk t).view.emb y) 0).val) (d := ((((cfg0.win 4).blk t).view.emb y) 1).val) (q := 512) (b := 1024) rfl rfl
  exact (sum_at (iblk m c 0 t) (iblk m c 1 t) (iblk m c 2 t) (iblk m c 3 t) ((cfg0.win 4).xinj (grid0.coords t) y)).trans
    (congr (sums m c t _ h0) (Fin.ext h1.symm))

theorem tile5 (c : Dev nD) (t : Fin cfg0.N) :
    (dats m 0 c).flushed 5 t = ((cfg0.win 5).blk t).view.read (Elt Ideal) (twice (φ := .f32) (ψ := .bf16) (a0 m c) (a1 m c) (a2 m c) (a3 m c)) := by
  rw [Value.flushed5]
  funext y
  obtain ⟨h0, h1⟩ := place (moves t).2.2.2.2.2 (e := ((((cfg0.win 5).blk t).view.emb y) 0).val) (d := ((((cfg0.win 5).blk t).view.emb y) 1).val) (q := 512) (b := 1024) rfl rfl
  exact (norm_at (iblk m c 0 t) (iblk m c 1 t) (iblk m c 2 t) (iblk m c 3 t) ((cfg0.win 5).xinj (grid0.coords t) y)).trans
    (fwd_at (sums m c t _ h0) (line3 m c t) (Fin.ext h1.symm))

theorem covered4 (i : S8192x1024.Idx) : ∃ t : Fin cfg0.N, (cfg0.win 4).flush t = true ∧ i ∈ ((cfg0.win 4).blk t).view.set := by
  have h0 : (i 0).val < 8192 := (i 0).isLt
  have ht : (i 0).val / 512 < cfg0.N := by rw [show cfg0.N = 16 from N_0]; omega
  refine ⟨⟨_, ht⟩, (by decide +kernel : ∀ t : Fin grid0.N, win0_4.flush t = true) ⟨_, ht⟩, ?_⟩
  show i ∈ ((View.whole main_v0_0).slice (win0_4.rect ⟨_, ht⟩)).set
  rw [View.set_slice_whole, Rect.mem_set_unit]
  exact in_line (i := fun a => (i a).val) (funext (Fin.forall_fin_two.mpr ⟨rfl, rfl⟩)) (i 1).isLt (moves ⟨_, ht⟩).2.2.2.2.1 rfl

theorem covered5 (i : S8192x1024.Idx) : ∃ t : Fin cfg0.N, (cfg0.win 5).flush t = true ∧ i ∈ ((cfg0.win 5).blk t).view.set := by
  have h0 : (i 0).val < 8192 := (i 0).isLt
  have ht : (i 0).val / 512 < cfg0.N := by rw [show cfg0.N = 16 from N_0]; omega
  refine ⟨⟨_, ht⟩, (by decide +kernel : ∀ t : Fin grid0.N, win0_5.flush t = true) ⟨_, ht⟩, ?_⟩
  show i ∈ ((View.whole main_v0_1).slice (win0_5.rect ⟨_, ht⟩)).set
  rw [View.set_slice_whole, Rect.mem_set_unit]
  exact in_line (i := fun a => (i a).val) (funext (Fin.forall_fin_two.mpr ⟨rfl, rfl⟩)) (i 1).isLt (moves ⟨_, ht⟩).2.2.2.2.2 rfl

/-- The kernel and the reference end with the same sum and the same norm of it. -/
theorem same : Cert.algebraic_Kernel16Ideal_Reference16Ideal (hKernel16Ideal := facts) (hReference16Ideal := Cert.Reference16Ideal.Gen.facts) := by
  intro m g m' g' _ same
  refine ⟨fun c => added (a0 m c) (a1 m c) (a2 m c), fun c => twice (φ := .f32) (ψ := .bf16) (a0 m c) (a1 m c) (a2 m c) (a3 m c),
    (θ_run _ _ _).mono (fun r h c => ⟨(h c).1.trans ((dats m 0 c).arrAt_eq_of_cover 4 _ (fun t _ => tile4 m c t) covered4),
      (h c).2.1.trans ((dats m 0 c).arrAt_eq_of_cover 5 _ (fun t _ => tile5 m c t) covered5), (h c).2.2⟩)
      (Value.run_blocks m g),
    (θ_run _ _ _).mono (fun r h c => ⟨(h c).1.trans ?_, (h c).2.1.trans ?_, (h c).2.2⟩) (Cert.Reference16Ideal.Value.run m' g')⟩
  · obtain ⟨s0, s1, s2, -⟩ := same c
    refine Eq.trans ?_ (congr (congrArg₂ added s0 s1) s2)
    funext j
    refine Eq.trans ?_ (congrFun (past_at (line_eq (φ := .f32) _ (j 0)) (line_eq (φ := .f32) _ (j 0)) (line_eq (φ := .f32) _ 0)) (j 1)).symm
    clear h
    pointwise [past, fwd, scale, mean, len, eps]
  · obtain ⟨s0, s1, s2, s3⟩ := same c
    refine Eq.trans ?_ (congr (congr (congrArg₂ (twice (φ := .f32) (ψ := .bf16)) s0 s1) s2) s3)
    funext j
    refine Eq.trans ?_ (fwd_at (past_at (line_eq (φ := .f32) _ (j 0)) (line_eq (φ := .f32) _ (j 0)) (line_eq (φ := .f32) _ 0)) (line_eq (φ := .f32) _ 0) rfl).symm
    clear h
    pointwise [past, fwd, scale, mean, len, eps]

end Cert.Kernel16Ideal.Val

end
-- ==== Proof.lean ====
/- The certificate's claims: the runs of the three programs, the named constant and the equality of the gradients. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Printed
public import proofs.«01_k».proof.Proof.Value
public import proofs.«01_k».proof.Proof.Finite
public import proofs.«01_k».proof.Proof.Du1
public import proofs.«01_k».proof.Proof.DwIn1
public import proofs.«01_k».proof.Proof.Du0
public import proofs.«01_k».proof.Proof.Dw
public import proofs.«01_k».proof.Proof.Dh3
public import proofs.«01_k».proof.Proof.FirstBwd
public import proofs.«01_k».proof.Proof.MidBwd
public import proofs.«01_k».proof.Proof.Forward
public import proofs.«01_k».proof.Proof.NormFwd

@[expose] public section

noncomputable section

namespace Cert.Proof

open Idealize.ShloMosaic Idealize.SL.Sem

/-- The reference is one host computation without signals: it ends with its arguments as they were. -/
theorem frame_reference : Cert.quiescent_ReferenceIdeal (hReferenceIdeal := Cert.ReferenceIdeal.Gen.facts) :=
  fun m g _ => (θ_run _ _ _).mono
    (fun r h => ⟨fun c => (h c).2.2.2.2, sem_eq_zero_of_no_sems (by decide) r.2⟩)
    (Cert.ReferenceIdeal.Value.run m g)

/-- On finite arguments the kernel and the reference end with equal gradients. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' pre same
  refine ⟨_, _, _, _, Cert.KernelIdeal.Val.run_value m g fun c => Cert.Spec.holds _ _ _ _ _ (pre c),
    (θ_run _ _ _).mono (fun r h c => ?_) (Cert.ReferenceIdeal.Value.run m' g')⟩
  obtain ⟨h0, h1, h2, h3, rest⟩ := h c
  obtain ⟨s0, s1, s2, s3, s4⟩ := same c
  exact ⟨h0.trans ((Cert.ReferenceIdeal.Read.val_main_v83_eq m' c).trans (congr (congr (congr (congrArg₂ (Cert.ReferenceIdeal.Read.val_main_v83 (F := Ideal)) s0 s1) s2) s3) s4)),
    h1.trans ((Cert.ReferenceIdeal.Read.val_main_v84_eq m' c).trans (congr (congr (congr (congrArg₂ (Cert.ReferenceIdeal.Read.val_main_v84 (F := Ideal)) s0 s1) s2) s3) s4)),
    h2.trans ((Cert.ReferenceIdeal.Read.val_main_v86_eq m' c).trans (congr (congr (congrArg₂ (Cert.ReferenceIdeal.Read.val_main_v86 (F := Ideal)) s0 s1) s3) s4)),
    h3.trans ((Cert.ReferenceIdeal.Read.val_main_v82_eq m' c).trans (congr (congr (congr (congrArg₂ (Cert.ReferenceIdeal.Read.val_main_v82 (F := Ideal)) s0 s1) s2) s3) s4)), rest⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_finite.Gen.facts,
    fun m g _ => Cert.Kernel.Val.frame_main m g,
    fun m g _ => Cert.KernelIdeal.Val.frame_main (F := Ideal) m g,
    fun m g _ => Cert.KernelIdeal.Val.frame_main (F := Ideal) m g, frame_reference,
    fun m g _ => frame_reference m g trivial,
    fun m g _ => Cert.Kernel2.Gen.frame m g, fun m g _ => Cert.Kernel2Ideal.Gen.frame m g,
    fun m g _ => (θ_run _ _ _).mono (fun r h => ⟨fun c => (h c).2, sem_eq_zero_of_no_sems (by decide) r.2⟩) (Cert.Reference2Ideal.Value.run m g),
    fun m g _ => Cert.Kernel3.Gen.frame m g, fun m g _ => Cert.Kernel3Ideal.Gen.frame m g,
    fun m g _ => (θ_run _ _ _).mono (fun r h => ⟨fun c => (h c).2, sem_eq_zero_of_no_sems (by decide) r.2⟩) (Cert.Reference3Ideal.Value.run m g),
    fun m g _ => Cert.Kernel4.Gen.frame m g, fun m g _ => Cert.Kernel4Ideal.Gen.frame m g,
    fun m g _ => (θ_run _ _ _).mono (fun r h => ⟨fun c => (h c).2, sem_eq_zero_of_no_sems (by decide) r.2⟩) (Cert.Reference4Ideal.Value.run m g),
    fun m g _ => Cert.Kernel5.Gen.frame m g, fun m g _ => Cert.Kernel5Ideal.Gen.frame m g,
    fun m g _ => (θ_run _ _ _).mono (fun r h => ⟨fun c => (h c).2, sem_eq_zero_of_no_sems (by decide) r.2⟩) (Cert.Reference5Ideal.Value.run m g),
    fun m g _ => Cert.Kernel6.Gen.frame m g, fun m g _ => Cert.Kernel6Ideal.Gen.frame m g,
    fun m g _ => (θ_run _ _ _).mono (fun r h => ⟨fun c => (h c).2, sem_eq_zero_of_no_sems (by decide) r.2⟩) (Cert.Reference6Ideal.Value.run m g),
    fun m g _ => Cert.Kernel7.Gen.frame m g, fun m g _ => Cert.Kernel7Ideal.Gen.frame m g,
    fun m g _ => (θ_run _ _ _).mono (fun r h => ⟨fun c => (h c).2, sem_eq_zero_of_no_sems (by decide) r.2⟩) (Cert.Reference7Ideal.Value.run m g),
    fun m g _ => Cert.Kernel8.Gen.frame m g, fun m g _ => Cert.Kernel8Ideal.Gen.frame m g,
    fun m g _ => (θ_run _ _ _).mono (fun r h => ⟨fun c => (h c).2, sem_eq_zero_of_no_sems (by decide) r.2⟩) (Cert.Reference8Ideal.Value.run m g),
    fun m g _ => Cert.Kernel9.Gen.frame m g, fun m g _ => Cert.Kernel9Ideal.Gen.frame m g,
    fun m g _ => (θ_run _ _ _).mono (fun r h => ⟨fun c => (h c).2.2, sem_eq_zero_of_no_sems (by decide) r.2⟩) (Cert.Reference9Ideal.Value.run m g),
    fun m g _ => Cert.Kernel10.Gen.frame m g, fun m g _ => Cert.Kernel10Ideal.Gen.frame m g,
    fun m g _ => (θ_run _ _ _).mono (fun r h => ⟨fun c => (h c).2.2.2.2, sem_eq_zero_of_no_sems (by decide) r.2⟩) (Cert.Reference10Ideal.Value.run m g),
    fun m g _ => Cert.Kernel11.Gen.frame m g, fun m g _ => Cert.Kernel11Ideal.Gen.frame m g,
    fun m g _ => (θ_run _ _ _).mono (fun r h => ⟨fun c => (h c).2, sem_eq_zero_of_no_sems (by decide) r.2⟩) (Cert.Reference11Ideal.Value.run m g),
    fun m g _ => Cert.Kernel12.Gen.frame m g, fun m g _ => Cert.Kernel12Ideal.Gen.frame m g,
    fun m g _ => (θ_run _ _ _).mono (fun r h => ⟨fun c => (h c).2, sem_eq_zero_of_no_sems (by decide) r.2⟩) (Cert.Reference12Ideal.Value.run m g),
    fun m g _ => Cert.Kernel13.Gen.frame m g, fun m g _ => Cert.Kernel13Ideal.Gen.frame m g,
    fun m g _ => (θ_run _ _ _).mono (fun r h => ⟨fun c => (h c).2, sem_eq_zero_of_no_sems (by decide) r.2⟩) (Cert.Reference13Ideal.Value.run m g),
    fun m g _ => Cert.Kernel14.Gen.frame m g, fun m g _ => Cert.Kernel14Ideal.Gen.frame m g,
    fun m g _ => (θ_run _ _ _).mono (fun r h => ⟨fun c => (h c).2, sem_eq_zero_of_no_sems (by decide) r.2⟩) (Cert.Reference14Ideal.Value.run m g),
    fun m g _ => Cert.Kernel15.Gen.frame m g, fun m g _ => Cert.Kernel15Ideal.Gen.frame m g,
    fun m g _ => (θ_run _ _ _).mono (fun r h => ⟨fun c => (h c).2, sem_eq_zero_of_no_sems (by decide) r.2⟩) (Cert.Reference15Ideal.Value.run m g),
    fun m g _ => Cert.Kernel16.Gen.frame m g, fun m g _ => Cert.Kernel16Ideal.Gen.frame m g,
    fun m g _ => (θ_run _ _ _).mono (fun r h => ⟨fun c => (h c).2.2, sem_eq_zero_of_no_sems (by decide) r.2⟩) (Cert.Reference16Ideal.Value.run m g),
    IdealRules.named_const.statement Cert.KernelIdeal.κ "mask" .f32 0xF149F2CA#32 ⊥ rfl, algebraic,
    trivial, Cert.Kernel2Ideal.Val.same, trivial, Cert.Kernel3Ideal.Val.same, trivial, Cert.Kernel4Ideal.Val.same, trivial, Cert.Kernel5Ideal.Val.same, trivial, Cert.Kernel6Ideal.Val.same, trivial, Cert.Kernel7Ideal.Val.same, trivial, Cert.Kernel8Ideal.Val.same, trivial, Cert.Kernel9Ideal.Val.same, trivial, Cert.Kernel10Ideal.Val.same, trivial, Cert.Kernel11Ideal.Val.same, trivial, Cert.Kernel12Ideal.Val.same, trivial, Cert.Kernel13Ideal.Val.same, trivial, Cert.Kernel14Ideal.Val.same, trivial, Cert.Kernel15Ideal.Val.same, trivial, Cert.Kernel16Ideal.Val.same⟩

end Cert.Proof

end
